-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_tokens [hPre_finite_tokens : Cert.Pre_finite_tokens.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_tokens.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_tokens [hPre_finite_tokens : Cert.Pre_finite_tokens.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_tokens.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite_tokens [hKernel7Ideal : Cert.Kernel7Ideal.Facts] [hPre_finite_tokens : Cert.Pre_finite_tokens.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_tokens m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite_tokens [hReference7Ideal : Cert.Reference7Ideal.Facts] [hPre_finite_tokens : Cert.Pre_finite_tokens.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_tokens m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v10_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v10_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_v31) = v1 c
          ∧ r.2.mem ((c.tc : Thread Cert.Reference2Ideal.nD Cert.Reference2Ideal.τ).loc Cert.Reference2Ideal.main_v34) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v16_0)) (v1 : (c : Dev Cert.Kernel4Ideal.nD) → Buf (Elt Ideal) ((c.tc : Thread Cert.Kernel4Ideal.nD Cert.Kernel4Ideal.τ).loc Cert.Kernel4Ideal.main_v16_1)) (v2 : (c : Dev Cert.Kernel4Ideal.nD) → Buf (Elt Ideal) ((c.tc : Thread Cert.Kernel4Ideal.nD Cert.Kernel4Ideal.τ).loc Cert.Kernel4Ideal.main_v16_2)) (v3 : (c : Dev Cert.Kernel4Ideal.nD) → Buf (Elt Ideal) ((c.tc : Thread Cert.Kernel4Ideal.nD Cert.Kernel4Ideal.τ).loc Cert.Kernel4Ideal.main_v16_3)) (v4 : (c : Dev Cert.Kernel4Ideal.nD) → Buf (Elt Ideal) ((c.tc : Thread Cert.Kernel4Ideal.nD Cert.Kernel4Ideal.τ).loc Cert.Kernel4Ideal.main_v16_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16_0) = v0 c
          ∧ r.2.mem ((c.tc : Thread Cert.Kernel4Ideal.nD Cert.Kernel4Ideal.τ).loc Cert.Kernel4Ideal.main_v16_1) = v1 c
          ∧ r.2.mem ((c.tc : Thread Cert.Kernel4Ideal.nD Cert.Kernel4Ideal.τ).loc Cert.Kernel4Ideal.main_v16_2) = v2 c
          ∧ r.2.mem ((c.tc : Thread Cert.Kernel4Ideal.nD Cert.Kernel4Ideal.τ).loc Cert.Kernel4Ideal.main_v16_3) = v3 c
          ∧ r.2.mem ((c.tc : Thread Cert.Kernel4Ideal.nD Cert.Kernel4Ideal.τ).loc Cert.Kernel4Ideal.main_v16_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v45) = v0 c
          ∧ r.2.mem ((c.tc : Thread Cert.Reference4Ideal.nD Cert.Reference4Ideal.τ).loc Cert.Reference4Ideal.main_v35) = v1 c
          ∧ r.2.mem ((c.tc : Thread Cert.Reference4Ideal.nD Cert.Reference4Ideal.τ).loc Cert.Reference4Ideal.main_v38) = v2 c
          ∧ r.2.mem ((c.tc : Thread Cert.Reference4Ideal.nD Cert.Reference4Ideal.τ).loc Cert.Reference4Ideal.main_v41) = v3 c
          ∧ r.2.mem ((c.tc : Thread Cert.Reference4Ideal.nD Cert.Reference4Ideal.τ).loc Cert.Reference4Ideal.main_v44) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v16)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v10) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_finite_tokens [hKernel7Ideal : Cert.Kernel7Ideal.Facts] [hReference7Ideal : Cert.Reference7Ideal.Facts] [hPre_finite_tokens : Cert.Pre_finite_tokens.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_tokens m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v71_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v71_1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v72) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_tokens : Cert.Pre_finite_tokens.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_tokens (hKernel7Ideal := hKernel7Ideal) (hPre_finite_tokens := hPre_finite_tokens)
    ∧ quiescent_Reference7Ideal (hReference7Ideal := hReference7Ideal)
    ∧ quiescent_Reference7Ideal_pre_finite_tokens (hReference7Ideal := hReference7Ideal) (hPre_finite_tokens := hPre_finite_tokens)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_tokens (hKernel7Ideal := hKernel7Ideal) (hReference7Ideal := hReference7Ideal) (hPre_finite_tokens := hPre_finite_tokens)
-- ==== Pre_finite_tokens.lean ====
abbrev S4x2048x4096 : Shape := ⟨3, ![4, 2048, 4096]⟩
abbrev S4x2048x10240 : Shape := ⟨3, ![4, 2048, 10240]⟩
abbrev S4x4x256x256 : Shape := ⟨4, ![4, 4, 256, 256]⟩
abbrev S4x1024 : Shape := ⟨2, ![4, 1024]⟩
abbrev S4x2048x1024 : Shape := ⟨3, ![4, 2048, 1024]⟩
abbrev S_ : Shape := ⟨0, ![]⟩

class Facts : Prop where
  slices_S4x2048x4096_S4x2048x1024_0_0_0 : S4x2048x4096.Slices ![0, 0, 0] S4x2048x1024
  bcast_S_S4x2048x1024 : S_.BroadcastsInDim S4x2048x1024 (![] : Fin 0 → Fin S4x2048x1024.rank)

variable [Facts]

def fn {F : FTy → Type} [FloatOps F] (main_arg0 : FVec F S4x2048x4096 .f32) (main_arg1 : FVec F S4x2048x10240 .bf16) (main_arg2 : FVec F S4x4x256x256 .f32) (main_arg3 : FVec F S4x1024 .f32) : IVec S4x2048x1024 1 :=
  let main_v0 : FVec F S4x2048x1024 .f32 := (extractStridedSlice S4x2048x1024 ![0, 0, 0] · slices_S4x2048x4096_S4x2048x1024_0_0_0) main_arg0
  let main_v1 : FVec F S4x2048x1024 .f32 := Host.absf main_v0
  let main_cst : FVec F S_ .f32 := constant S_ .f32 0x7F800000#32
  let main_v2 : FVec F S4x2048x1024 .f32 := broadcastInDim S4x2048x1024 ![] bcast_S_S4x2048x1024 main_cst
  let main_v3 : IVec S4x2048x1024 1 := cmpf .olt main_v1 main_v2
  main_v3
-- ==== Kernel.lean ====
abbrev S4x2048x2048 : Shape := ⟨3, ![4, 2048, 2048]⟩
abbrev S4x2048 : Shape := ⟨2, ![4, 2048]⟩
abbrev S4x2048x14344 : Shape := ⟨3, ![4, 2048, 14344]⟩
abbrev S14 : Shape := ⟨1, ![14]⟩
abbrev S4x14344x2048 : Shape := ⟨3, ![4, 14344, 2048]⟩
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192x4096 : Shape := ⟨2, ![8192, 4096]⟩
abbrev S8192x10240 : Shape := ⟨2, ![8192, 10240]⟩
abbrev S8192x128 : Shape := ⟨2, ![8192, 128]⟩
abbrev S1024x2048 : Shape := ⟨2, ![1024, 2048]⟩
abbrev S1x1024x2048 : Shape := ⟨3, ![1, 1024, 2048]⟩
abbrev S1 : Shape := ⟨1, ![1]⟩
abbrev S1x128x2048 : Shape := ⟨3, ![1, 128, 2048]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩
abbrev S128x2048 : Shape := ⟨2, ![128, 2048]⟩

abbrev nBuf : Space → Nat
  | .hbm => 29
  | .vmem => 13
  | .smem => 1
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S4x2048x14344, .f32⟩
  | .hbm, ⟨3, _⟩ => ⟨S14, .i32⟩
  | .hbm, ⟨4, _⟩ => ⟨S4x14344x2048, .f32⟩
  | .hbm, ⟨5, _⟩ => ⟨S8192x2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S_, .i32⟩
  | .hbm, ⟨10, _⟩ => ⟨S_, .i32⟩
  | .hbm, ⟨11, _⟩ => ⟨S14, .i32⟩
  | .hbm, ⟨12, _⟩ => ⟨S14, .i32⟩
  | .hbm, ⟨13, _⟩ => ⟨S14, .i32⟩
  | .hbm, ⟨14, _⟩ => ⟨S_, .i32⟩
  | .hbm, ⟨15, _⟩ => ⟨S14, .i32⟩
  | .hbm, ⟨16, _⟩ => ⟨S14, .i1⟩
  | .hbm, ⟨17, _⟩ => ⟨S14, .i32⟩
  | .hbm, ⟨18, _⟩ => ⟨S14, .i32⟩
  | .hbm, ⟨19, _⟩ => ⟨S_, .i32⟩
  | .hbm, ⟨20, _⟩ => ⟨S14, .i32⟩
  | .hbm, ⟨21, _⟩ => ⟨S14, .i1⟩
  | .hbm, ⟨22, _⟩ => ⟨S14, .i1⟩
  | .hbm, ⟨23, _⟩ => ⟨S_, .i32⟩
  | .hbm, ⟨24, _⟩ => ⟨S14, .i32⟩
  | .hbm, ⟨25, _⟩ => ⟨S14, .i32⟩
  | .hbm, ⟨26, _⟩ => ⟨S8192x4096, .f32⟩
  | .hbm, ⟨27, _⟩ => ⟨S8192x10240, .bf16⟩
  | .hbm, ⟨28, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1024x2048, .f32⟩
  | .local _ .vmem, ⟨4, _⟩ => ⟨S1x1024x2048, .f32⟩
  | .local _ .vmem, ⟨5, _⟩ => ⟨S1x128x2048, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | .local _ .smem, ⟨0, _⟩ => ⟨S14, .i32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v6_0 : Ref sig .tc := ⟨.hbm, 26, rfl⟩
abbrev main_v6_1 : Ref sig .tc := ⟨.hbm, 27, rfl⟩
abbrev main_v6_2 : Ref sig .tc := ⟨.hbm, 28, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 14], ![false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  let c8_i32 : BitVec 32 := 8#32
  let v2 : BitVec 32 := Scalar.muli v1 c8_i32
  v2

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c4_i32_2 : BitVec 32 := 4#32
  let v6 : BitVec 1 := Scalar.cmpi .sge arg1 c4_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S14.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S14) ![v0.toNat] S1.size (k0_off1_inb i)) numel1_S1
  let c8_i32 : BitVec 32 := 8#32
  let v2 : BitVec 32 := Scalar.muli v1 c8_i32
  let v3 : BitVec 32 := v2
  let c1_i32 : BitVec 32 := 1#32
  let c0_i32 : BitVec 32 := 0#32
  let c0_i32_0 : BitVec 32 := 0#32
  ![c1_i32.toNat, v3.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c4096_i32 : BitVec 32 := 4096#32
  let c0_i32 : BitVec 32 := 0#32
  let c0_i32_0 : BitVec 32 := 0#32
  ![c1_i32.toNat, c4096_i32.toNat, c0_i32.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S4x2048x2048 : Shape := ⟨3, ![4, 2048, 2048]⟩
abbrev S4x2048 : Shape := ⟨2, ![4, 2048]⟩
abbrev S4x2048x14344 : Shape := ⟨3, ![4, 2048, 14344]⟩
abbrev S1x2048 : Shape := ⟨2, ![1, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S1x2048x14344 : Shape := ⟨3, ![1, 2048, 14344]⟩
abbrev S2048x14344 : Shape := ⟨2, ![2048, 14344]⟩
abbrev S4x2048x1024 : Shape := ⟨3, ![4, 2048, 1024]⟩
abbrev S4x2048x8 : Shape := ⟨3, ![4, 2048, 8]⟩
abbrev S4x2048x6144 : Shape := ⟨3, ![4, 2048, 6144]⟩
abbrev S4x2048x4096 : Shape := ⟨3, ![4, 2048, 4096]⟩
abbrev S4x2048x10240 : Shape := ⟨3, ![4, 2048, 10240]⟩
abbrev S4x2048x128 : Shape := ⟨3, ![4, 2048, 128]⟩
abbrev S8192x4096 : Shape := ⟨2, ![8192, 4096]⟩
abbrev S8192x10240 : Shape := ⟨2, ![8192, 10240]⟩
abbrev S8192x128 : Shape := ⟨2, ![8192, 128]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S4x2048x14344, .f32⟩
  | .hbm, ⟨3, _⟩ => ⟨S1x2048, .f32⟩
  | .hbm, ⟨4, _⟩ => ⟨S2048, .f32⟩
  | .hbm, ⟨5, _⟩ => ⟨S4x2048x2048, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S1x1x2048, .f32⟩
  | .hbm, ⟨19, _⟩ => ⟨S4x2048x2048, .f32⟩
  | .hbm, ⟨20, _⟩ => ⟨S4x2048x2048, .f32⟩
  | .hbm, ⟨21, _⟩ => ⟨S1x2048x14344, .f32⟩
  | .hbm, ⟨22, _⟩ => ⟨S2048x14344, .f32⟩
  | .hbm, ⟨23, _⟩ => ⟨S4x2048x14344, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S4x2048x8, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S4x2048x6144, .f32⟩
  | .hbm, ⟨34, _⟩ => ⟨S4x2048x4096, .f32⟩
  | .hbm, ⟨35, _⟩ => ⟨S4x2048x10240, .f32⟩
  | .hbm, ⟨36, _⟩ => ⟨S4x2048x10240, .bf16⟩
  | .hbm, ⟨37, _⟩ => ⟨S_, .i32⟩
  | .hbm, ⟨38, _⟩ => ⟨S_, .f32⟩
  | .hbm, ⟨39, _⟩ => ⟨S4x2048x128, .f32⟩
  | .hbm, ⟨40, _⟩ => ⟨S8192x4096, .f32⟩
  | .hbm, ⟨41, _⟩ => ⟨S8192x10240, .bf16⟩
  | .hbm, ⟨42, _⟩ => ⟨S8192x128, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_c : Ref sig .tc := ⟨.hbm, 37, rfl⟩
abbrev main_call0_v0 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Kernel2.lean ====
abbrev S4x2048x2048 : Shape := ⟨3, ![4, 2048, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S8192x2048 : Shape := ⟨2, ![8192, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S1x2048 : Shape := ⟨2, ![1, 2048]⟩
abbrev S2048 : Shape := ⟨1, ![2048]⟩
abbrev S1024x2048 : Shape := ⟨2, ![1024, 2048]⟩
abbrev S2048x512 : Shape := ⟨2, ![2048, 512]⟩
abbrev S512x2048 : Shape := ⟨2, ![512, 2048]⟩
abbrev S1x256x1024 : Shape := ⟨3, ![1, 256, 1024]⟩
abbrev S1x512x256 : Shape := ⟨3, ![1, 512, 256]⟩
abbrev S256x1024 : Shape := ⟨2, ![256, 1024]⟩
abbrev S512x256 : Shape := ⟨2, ![512, 256]⟩
abbrev S1024 : Shape := ⟨1, ![1024]⟩
abbrev S1024x1 : Shape := ⟨2, ![1024, 1]⟩
abbrev S1024x512 : Shape := ⟨2, ![1024, 512]⟩

abbrev nBuf : Space → Nat
  | .hbm => 19
  | .vmem => 20
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S4x2048x11264, .f32⟩
  | .hbm, ⟨3, _⟩ => ⟨S4x5632x2048, .f32⟩
  | .hbm, ⟨4, _⟩ => ⟨S4x2048x11264, .f32⟩
  | .hbm, ⟨5, _⟩ => ⟨S4x5632x2048, .f32⟩
  | .hbm, ⟨6, _⟩ => ⟨S8192x2048, .f32⟩
  | .hbm, ⟨7, _⟩ => ⟨S1x2048x11264, .f32⟩
  | .hbm, ⟨8, _⟩ => ⟨S2048x11264, .f32⟩
  | .hbm, ⟨9, _⟩ => ⟨S2048x11264, .bf16⟩
  | .hbm, ⟨10, _⟩ => ⟨S1x5632x2048, .f32⟩
  | .hbm, ⟨11, _⟩ => ⟨S5632x2048, .f32⟩
  | .hbm, ⟨12, _⟩ => ⟨S5632x2048, .bf16⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S8192x2048, .f32⟩
  | .hbm, ⟨17, _⟩ => ⟨S2048x11264, .bf16⟩
  | .hbm, ⟨18, _⟩ => ⟨S5632x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x256x1024, .f32⟩
  | .local _ .vmem, ⟨10, _⟩ => ⟨S1x256x1024, .f32⟩
  | .local _ .vmem, ⟨11, _⟩ => ⟨S1x512x256, .f32⟩
  | .local _ .vmem, ⟨12, _⟩ => ⟨S1x512x256, .f32⟩
  | .local _ .vmem, ⟨13, _⟩ => ⟨S1024x2048, .f32⟩
  | .local _ .vmem, ⟨14, _⟩ => ⟨S1024x2048, .f32⟩
  | .local _ .vmem, ⟨15, _⟩ => ⟨S256x1024, .bf16⟩
  | .local _ .vmem, ⟨16, _⟩ => ⟨S256x1024, .bf16⟩
  | .local _ .vmem, ⟨17, _⟩ => ⟨S512x256, .bf16⟩
  | .local _ .vmem, ⟨18, _⟩ => ⟨S512x256, .bf16⟩
  | .local _ .vmem, ⟨19, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S4x2048x2048 : Shape := ⟨3, ![4, 2048, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S1x2048 : Shape := ⟨2, ![1, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S4x2048x5632 : Shape := ⟨3, ![4, 2048, 5632]⟩
abbrev S8192x2048 : Shape := ⟨2, ![8192, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S4x2048x11264, .f32⟩
  | .hbm, ⟨3, _⟩ => ⟨S4x5632x2048, .f32⟩
  | .hbm, ⟨4, _⟩ => ⟨S4x2048x11264, .f32⟩
  | .hbm, ⟨5, _⟩ => ⟨S4x5632x2048, .f32⟩
  | .hbm, ⟨6, _⟩ => ⟨S1x2048, .f32⟩
  | .hbm, ⟨7, _⟩ => ⟨S2048, .f32⟩
  | .hbm, ⟨8, _⟩ => ⟨S4x2048x2048, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S1x1x2048, .f32⟩
  | .hbm, ⟨22, _⟩ => ⟨S4x2048x2048, .f32⟩
  | .hbm, ⟨23, _⟩ => ⟨S4x2048x2048, .f32⟩
  | .hbm, ⟨24, _⟩ => ⟨S1x2048x11264, .f32⟩
  | .hbm, ⟨25, _⟩ => ⟨S2048x11264, .f32⟩
  | .hbm, ⟨26, _⟩ => ⟨S1x5632x2048, .f32⟩
  | .hbm, ⟨27, _⟩ => ⟨S5632x2048, .f32⟩
  | .hbm, ⟨28, _⟩ => ⟨S4x2048x11264, .f32⟩
  | .hbm, ⟨29, _⟩ => ⟨S4x2048x5632, .f32⟩
  | .hbm, ⟨30, _⟩ => ⟨S4x2048x5632, .f32⟩
  | .hbm, ⟨31, _⟩ => ⟨S4x2048x5632, .f32⟩
  | .hbm, ⟨32, _⟩ => ⟨S4x2048x5632, .f32⟩
  | .hbm, ⟨33, _⟩ => ⟨S_, .f32⟩
  | .hbm, ⟨34, _⟩ => ⟨S4x2048x5632, .f32⟩
  | .hbm, ⟨35, _⟩ => ⟨S4x2048x5632, .f32⟩
  | .hbm, ⟨36, _⟩ => ⟨S_, .f32⟩
  | .hbm, ⟨37, _⟩ => ⟨S4x2048x5632, .f32⟩
  | .hbm, ⟨38, _⟩ => ⟨S4x2048x5632, .f32⟩
  | .hbm, ⟨39, _⟩ => ⟨S4x2048x5632, .f32⟩
  | .hbm, ⟨40, _⟩ => ⟨S4x2048x5632, .f32⟩
  | .hbm, ⟨41, _⟩ => ⟨S4x2048x2048, .f32⟩
  | .hbm, ⟨42, _⟩ => ⟨S_, .f32⟩
  | .hbm, ⟨43, _⟩ => ⟨S4x2048x2048, .f32⟩
  | .hbm, ⟨44, _⟩ => ⟨S4x2048x2048, .f32⟩
  | .hbm, ⟨45, _⟩ => ⟨S4x2048x2048, .f32⟩
  | .hbm, ⟨46, _⟩ => ⟨S8192x2048, .f32⟩
  | .hbm, ⟨47, _⟩ => ⟨S1x2048x11264, .f32⟩
  | .hbm, ⟨48, _⟩ => ⟨S2048x11264, .f32⟩
  | .hbm, ⟨49, _⟩ => ⟨S2048x11264, .bf16⟩
  | .hbm, ⟨50, _⟩ => ⟨S1x5632x2048, .f32⟩
  | .hbm, ⟨51, _⟩ => ⟨S5632x2048, .f32⟩
  | .hbm, ⟨52, _⟩ => ⟨S5632x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== Kernel3.lean ====
abbrev S4x2048x2048 : Shape := ⟨3, ![4, 2048, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S2048 : Shape := ⟨1, ![2048]⟩
abbrev S8192x2048 : Shape := ⟨2, ![8192, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 17
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S4x2048x11264, .f32⟩
  | .hbm, ⟨3, _⟩ => ⟨S4x5632x2048, .f32⟩
  | .hbm, ⟨4, _⟩ => ⟨S2048, .f32⟩
  | .hbm, ⟨5, _⟩ => ⟨S8192x2048, .f32⟩
  | .hbm, ⟨6, _⟩ => ⟨S1x2048x11264, .f32⟩
  | .hbm, ⟨7, _⟩ => ⟨S2048x11264, .f32⟩
  | .hbm, ⟨8, _⟩ => ⟨S2048x11264, .bf16⟩
  | .hbm, ⟨9, _⟩ => ⟨S1x5632x2048, .f32⟩
  | .hbm, ⟨10, _⟩ => ⟨S5632x2048, .f32⟩
  | .hbm, ⟨11, _⟩ => ⟨S5632x2048, .bf16⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S1x2048, .f32⟩
  | .hbm, ⟨16, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S4x2048x2048 : Shape := ⟨3, ![4, 2048, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S2048 : Shape := ⟨1, ![2048]⟩
abbrev S1x2048 : Shape := ⟨2, ![1, 2048]⟩
abbrev S_ : Shape := ⟨0, ![]⟩
abbrev S4x2048x1 : Shape := ⟨3, ![4, 2048, 1]⟩
abbrev S1x1x2048 : Shape := ⟨3, ![1, 1, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S4x2048x5632 : Shape := ⟨3, ![4, 2048, 5632]⟩
abbrev S8192x2048 : Shape := ⟨2, ![8192, 2048]⟩

abbrev nBuf : Space → Nat
  | .hbm => 62
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S4x2048x11264, .f32⟩
  | .hbm, ⟨3, _⟩ => ⟨S4x5632x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S4x2048x2048, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S1x1x2048, .f32⟩
  | .hbm, ⟨21, _⟩ => ⟨S4x2048x2048, .f32⟩
  | .hbm, ⟨22, _⟩ => ⟨S4x2048x2048, .f32⟩
  | .hbm, ⟨23, _⟩ => ⟨S1x2048x11264, .f32⟩
  | .hbm, ⟨24, _⟩ => ⟨S2048x11264, .f32⟩
  | .hbm, ⟨25, _⟩ => ⟨S1x5632x2048, .f32⟩
  | .hbm, ⟨26, _⟩ => ⟨S5632x2048, .f32⟩
  | .hbm, ⟨27, _⟩ => ⟨S4x2048x11264, .f32⟩
  | .hbm, ⟨28, _⟩ => ⟨S4x2048x5632, .f32⟩
  | .hbm, ⟨29, _⟩ => ⟨S4x2048x5632, .f32⟩
  | .hbm, ⟨30, _⟩ => ⟨S4x2048x5632, .f32⟩
  | .hbm, ⟨31, _⟩ => ⟨S4x2048x5632, .f32⟩
  | .hbm, ⟨32, _⟩ => ⟨S_, .f32⟩
  | .hbm, ⟨33, _⟩ => ⟨S4x2048x5632, .f32⟩
  | .hbm, ⟨34, _⟩ => ⟨S4x2048x5632, .f32⟩
  | .hbm, ⟨35, _⟩ => ⟨S_, .f32⟩
  | .hbm, ⟨36, _⟩ => ⟨S4x2048x5632, .f32⟩
  | .hbm, ⟨37, _⟩ => ⟨S4x2048x5632, .f32⟩
  | .hbm, ⟨38, _⟩ => ⟨S4x2048x5632, .f32⟩
  | .hbm, ⟨39, _⟩ => ⟨S4x2048x5632, .f32⟩
  | .hbm, ⟨40, _⟩ => ⟨S4x2048x2048, .f32⟩
  | .hbm, ⟨41, _⟩ => ⟨S_, .f32⟩
  | .hbm, ⟨42, _⟩ => ⟨S4x2048x2048, .f32⟩
  | .hbm, ⟨43, _⟩ => ⟨S4x2048x2048, .f32⟩
  | .hbm, ⟨44, _⟩ => ⟨S4x2048x2048, .f32⟩
  | .hbm, ⟨45, _⟩ => ⟨S4x2048x2048, .f32⟩
  | .hbm, ⟨46, _⟩ => ⟨S_, .f32⟩
  | .hbm, ⟨47, _⟩ => ⟨S4x2048, .f32⟩
  | .hbm, ⟨48, _⟩ => ⟨S4x2048x1, .f32⟩
  | .hbm, ⟨49, _⟩ => ⟨S_, .f32⟩
  | .hbm, ⟨50, _⟩ => ⟨S4x2048x1, .f32⟩
  | .hbm, ⟨51, _⟩ => ⟨S4x2048x1, .f32⟩
  | .hbm, ⟨52, _⟩ => ⟨S_, .f32⟩
  | .hbm, ⟨53, _⟩ => ⟨S4x2048x1, .f32⟩
  | .hbm, ⟨54, _⟩ => ⟨S4x2048x1, .f32⟩
  | .hbm, ⟨55, _⟩ => ⟨S4x2048x1, .f32⟩
  | .hbm, ⟨56, _⟩ => ⟨S4x2048x2048, .f32⟩
  | .hbm, ⟨57, _⟩ => ⟨S4x2048x2048, .f32⟩
  | .hbm, ⟨58, _⟩ => ⟨S1x1x2048, .f32⟩
  | .hbm, ⟨59, _⟩ => ⟨S4x2048x2048, .f32⟩
  | .hbm, ⟨60, _⟩ => ⟨S4x2048x2048, .f32⟩
  | .hbm, ⟨61, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Kernel4.lean ====
abbrev S4x2048x1024 : Shape := ⟨3, ![4, 2048, 1024]⟩
abbrev S8192x10240 : Shape := ⟨2, ![8192, 10240]⟩
abbrev S4x2048x2048 : Shape := ⟨3, ![4, 2048, 2048]⟩
abbrev S4x1024x2048 : Shape := ⟨3, ![4, 1024, 2048]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S8192x2048 : Shape := ⟨2, ![8192, 2048]⟩
abbrev S8192x1024 : Shape := ⟨2, ![8192, 1024]⟩
abbrev S256x1024 : Shape := ⟨2, ![256, 1024]⟩
abbrev S256x2048 : Shape := ⟨2, ![256, 2048]⟩
abbrev S1x32x2048 : Shape := ⟨3, ![1, 32, 2048]⟩
abbrev S1x64x2048 : Shape := ⟨3, ![1, 64, 2048]⟩
abbrev S32x2048 : Shape := ⟨2, ![32, 2048]⟩
abbrev S64x2048 : Shape := ⟨2, ![64, 2048]⟩

abbrev nBuf : Space → Nat
  | .hbm => 30
  | .vmem => 36
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x1024, .bf16⟩
  | .hbm, ⟨3, _⟩ => ⟨S8192x10240, .bf16⟩
  | .hbm, ⟨4, _⟩ => ⟨S4x2048x2048, .f32⟩
  | .hbm, ⟨5, _⟩ => ⟨S4x1024x2048, .f32⟩
  | .hbm, ⟨6, _⟩ => ⟨S4x1024x2048, .f32⟩
  | .hbm, ⟨7, _⟩ => ⟨S4x1024x2048, .f32⟩
  | .hbm, ⟨8, _⟩ => ⟨S4x2048x2048, .f32⟩
  | .hbm, ⟨9, _⟩ => ⟨S1x1024x2048, .f32⟩
  | .hbm, ⟨10, _⟩ => ⟨S1024x2048, .f32⟩
  | .hbm, ⟨11, _⟩ => ⟨S1024x2048, .bf16⟩
  | .hbm, ⟨12, _⟩ => ⟨S1x1024x2048, .f32⟩
  | .hbm, ⟨13, _⟩ => ⟨S1024x2048, .f32⟩
  | .hbm, ⟨14, _⟩ => ⟨S1024x2048, .bf16⟩
  | .hbm, ⟨15, _⟩ => ⟨S1x1024x2048, .f32⟩
  | .hbm, ⟨16, _⟩ => ⟨S1024x2048, .f32⟩
  | .hbm, ⟨17, _⟩ => ⟨S1024x2048, .bf16⟩
  | .hbm, ⟨18, _⟩ => ⟨S1x2048x2048, .f32⟩
  | .hbm, ⟨19, _⟩ => ⟨S2048x2048, .f32⟩
  | .hbm, ⟨20, _⟩ => ⟨S2048x2048, .bf16⟩
  | .hbm, ⟨21, _⟩ => ⟨S8192x2048, .f32⟩
  | .hbm, ⟨22, _⟩ => ⟨S8192x1024, .bf16⟩
  | .hbm, ⟨23, _⟩ => ⟨S8192x1024, .bf16⟩
  | .hbm, ⟨24, _⟩ => ⟨S8192x1024, .bf16⟩
  | .hbm, ⟨25, _⟩ => ⟨S8192x2048, .f32⟩
  | .hbm, ⟨26, _⟩ => ⟨S1024x2048, .bf16⟩
  | .hbm, ⟨27, _⟩ => ⟨S1024x2048, .bf16⟩
  | .hbm, ⟨28, _⟩ => ⟨S1024x2048, .bf16⟩
  | .hbm, ⟨29, _⟩ => ⟨S2048x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .f32⟩
  | .local _ .vmem, ⟨13, _⟩ => ⟨S256x2048, .f32⟩
  | .local _ .vmem, ⟨14, _⟩ => ⟨S1024x2048, .bf16⟩
  | .local _ .vmem, ⟨15, _⟩ => ⟨S1024x2048, .bf16⟩
  | .local _ .vmem, ⟨16, _⟩ => ⟨S1024x2048, .bf16⟩
  | .local _ .vmem, ⟨17, _⟩ => ⟨S2048x2048, .bf16⟩
  | .local _ .vmem, ⟨18, _⟩ => ⟨S1x32x2048, .f32⟩
  | .local _ .vmem, ⟨19, _⟩ => ⟨S1x32x2048, .f32⟩
  | .local _ .vmem, ⟨20, _⟩ => ⟨S1x32x2048, .f32⟩
  | .local _ .vmem, ⟨21, _⟩ => ⟨S1x32x2048, .f32⟩
  | .local _ .vmem, ⟨22, _⟩ => ⟨S1x32x2048, .f32⟩
  | .local _ .vmem, ⟨23, _⟩ => ⟨S1x32x2048, .f32⟩
  | .local _ .vmem, ⟨24, _⟩ => ⟨S1x64x2048, .f32⟩
  | .local _ .vmem, ⟨25, _⟩ => ⟨S1x64x2048, .f32⟩
  | .local _ .vmem, ⟨26, _⟩ => ⟨S256x2048, .f32⟩
  | .local _ .vmem, ⟨27, _⟩ => ⟨S256x2048, .f32⟩
  | .local _ .vmem, ⟨28, _⟩ => ⟨S32x2048, .bf16⟩
  | .local _ .vmem, ⟨29, _⟩ => ⟨S32x2048, .bf16⟩
  | .local _ .vmem, ⟨30, _⟩ => ⟨S32x2048, .bf16⟩
  | .local _ .vmem, ⟨31, _⟩ => ⟨S32x2048, .bf16⟩
  | .local _ .vmem, ⟨32, _⟩ => ⟨S32x2048, .bf16⟩
  | .local _ .vmem, ⟨33, _⟩ => ⟨S32x2048, .bf16⟩
  | .local _ .vmem, ⟨34, _⟩ => ⟨S64x2048, .bf16⟩
  | .local _ .vmem, ⟨35, _⟩ => ⟨S64x2048, .bf16⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_13 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_14 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x32x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x32x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x32x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x64x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference4Ideal.lean ====
abbrev S4x2048x1024 : Shape := ⟨3, ![4, 2048, 1024]⟩
abbrev S8192x10240 : Shape := ⟨2, ![8192, 10240]⟩
abbrev S4x2048x2048 : Shape := ⟨3, ![4, 2048, 2048]⟩
abbrev S4x1024x2048 : Shape := ⟨3, ![4, 1024, 2048]⟩
abbrev S8192x6144 : Shape := ⟨2, ![8192, 6144]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S_ : Shape := ⟨0, ![]⟩
abbrev S4x2048x3x2048 : Shape := ⟨4, ![4, 2048, 3, 2048]⟩
abbrev S4x2048x1x2048 : Shape := ⟨4, ![4, 2048, 1, 2048]⟩
abbrev S8192x2048 : Shape := ⟨2, ![8192, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x1024, .bf16⟩
  | .hbm, ⟨3, _⟩ => ⟨S8192x10240, .bf16⟩
  | .hbm, ⟨4, _⟩ => ⟨S4x2048x2048, .f32⟩
  | .hbm, ⟨5, _⟩ => ⟨S4x1024x2048, .f32⟩
  | .hbm, ⟨6, _⟩ => ⟨S4x1024x2048, .f32⟩
  | .hbm, ⟨7, _⟩ => ⟨S4x1024x2048, .f32⟩
  | .hbm, ⟨8, _⟩ => ⟨S4x2048x2048, .f32⟩
  | .hbm, ⟨9, _⟩ => ⟨S8192x6144, .bf16⟩
  | .hbm, ⟨10, _⟩ => ⟨S1x1024x2048, .f32⟩
  | .hbm, ⟨11, _⟩ => ⟨S1024x2048, .f32⟩
  | .hbm, ⟨12, _⟩ => ⟨S1x1024x2048, .f32⟩
  | .hbm, ⟨13, _⟩ => ⟨S1024x2048, .f32⟩
  | .hbm, ⟨14, _⟩ => ⟨S1x1024x2048, .f32⟩
  | .hbm, ⟨15, _⟩ => ⟨S1024x2048, .f32⟩
  | .hbm, ⟨16, _⟩ => ⟨S1x2048x2048, .f32⟩
  | .hbm, ⟨17, _⟩ => ⟨S2048x2048, .f32⟩
  | .hbm, ⟨18, _⟩ => ⟨S8192x6144, .f32⟩
  | .hbm, ⟨19, _⟩ => ⟨S8192x6144, .f32⟩
  | .hbm, ⟨20, _⟩ => ⟨S8192x6144, .f32⟩
  | .hbm, ⟨21, _⟩ => ⟨S_, .f32⟩
  | .hbm, ⟨22, _⟩ => ⟨S8192x6144, .f32⟩
  | .hbm, ⟨23, _⟩ => ⟨S8192x6144, .f32⟩
  | .hbm, ⟨24, _⟩ => ⟨S_, .f32⟩
  | .hbm, ⟨25, _⟩ => ⟨S8192x6144, .f32⟩
  | .hbm, ⟨26, _⟩ => ⟨S8192x6144, .f32⟩
  | .hbm, ⟨27, _⟩ => ⟨S4x2048x3x2048, .f32⟩
  | .hbm, ⟨28, _⟩ => ⟨S4x2048x1x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S4x2048x1x2048, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S4x2048x1x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S4x2048x2048, .f32⟩
  | .hbm, ⟨43, _⟩ => ⟨S4x2048x2048, .f32⟩
  | .hbm, ⟨44, _⟩ => ⟨S1x1024x2048, .f32⟩
  | .hbm, ⟨45, _⟩ => ⟨S1024x2048, .f32⟩
  | .hbm, ⟨46, _⟩ => ⟨S1024x2048, .bf16⟩
  | .hbm, ⟨47, _⟩ => ⟨S1x1024x2048, .f32⟩
  | .hbm, ⟨48, _⟩ => ⟨S1024x2048, .f32⟩
  | .hbm, ⟨49, _⟩ => ⟨S1024x2048, .bf16⟩
  | .hbm, ⟨50, _⟩ => ⟨S1x1024x2048, .f32⟩
  | .hbm, ⟨51, _⟩ => ⟨S1024x2048, .f32⟩
  | .hbm, ⟨52, _⟩ => ⟨S1024x2048, .bf16⟩
  | .hbm, ⟨53, _⟩ => ⟨S1x2048x2048, .f32⟩
  | .hbm, ⟨54, _⟩ => ⟨S2048x2048, .f32⟩
  | .hbm, ⟨55, _⟩ => ⟨S2048x2048, .bf16⟩
  | .hbm, ⟨56, _⟩ => ⟨S8192x2048, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== Kernel5.lean ====
abbrev S4x2048x1024 : Shape := ⟨3, ![4, 2048, 1024]⟩
abbrev S8192x10240 : Shape := ⟨2, ![8192, 10240]⟩
abbrev S4x2048x2048 : Shape := ⟨3, ![4, 2048, 2048]⟩
abbrev S4x1024x2048 : Shape := ⟨3, ![4, 1024, 2048]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S8192x2048 : Shape := ⟨2, ![8192, 2048]⟩
abbrev S8192x1024 : Shape := ⟨2, ![8192, 1024]⟩
abbrev S256x1024 : Shape := ⟨2, ![256, 1024]⟩
abbrev S256x2048 : Shape := ⟨2, ![256, 2048]⟩

abbrev nBuf : Space → Nat
  | .hbm => 26
  | .vmem => 20
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x1024, .bf16⟩
  | .hbm, ⟨3, _⟩ => ⟨S8192x10240, .bf16⟩
  | .hbm, ⟨4, _⟩ => ⟨S4x2048x2048, .f32⟩
  | .hbm, ⟨5, _⟩ => ⟨S4x1024x2048, .f32⟩
  | .hbm, ⟨6, _⟩ => ⟨S4x1024x2048, .f32⟩
  | .hbm, ⟨7, _⟩ => ⟨S4x1024x2048, .f32⟩
  | .hbm, ⟨8, _⟩ => ⟨S4x2048x2048, .f32⟩
  | .hbm, ⟨9, _⟩ => ⟨S1x1024x2048, .f32⟩
  | .hbm, ⟨10, _⟩ => ⟨S1024x2048, .f32⟩
  | .hbm, ⟨11, _⟩ => ⟨S1024x2048, .bf16⟩
  | .hbm, ⟨12, _⟩ => ⟨S1x1024x2048, .f32⟩
  | .hbm, ⟨13, _⟩ => ⟨S1024x2048, .f32⟩
  | .hbm, ⟨14, _⟩ => ⟨S1024x2048, .bf16⟩
  | .hbm, ⟨15, _⟩ => ⟨S1x1024x2048, .f32⟩
  | .hbm, ⟨16, _⟩ => ⟨S1024x2048, .f32⟩
  | .hbm, ⟨17, _⟩ => ⟨S1024x2048, .bf16⟩
  | .hbm, ⟨18, _⟩ => ⟨S1x2048x2048, .f32⟩
  | .hbm, ⟨19, _⟩ => ⟨S2048x2048, .f32⟩
  | .hbm, ⟨20, _⟩ => ⟨S2048x2048, .bf16⟩
  | .hbm, ⟨21, _⟩ => ⟨S8192x2048, .f32⟩
  | .hbm, ⟨22, _⟩ => ⟨S8192x1024, .bf16⟩
  | .hbm, ⟨23, _⟩ => ⟨S8192x1024, .bf16⟩
  | .hbm, ⟨24, _⟩ => ⟨S8192x1024, .bf16⟩
  | .hbm, ⟨25, _⟩ => ⟨S8192x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .f32⟩
  | .local _ .vmem, ⟨13, _⟩ => ⟨S256x2048, .f32⟩
  | .local _ .vmem, ⟨14, _⟩ => ⟨S1024x2048, .bf16⟩
  | .local _ .vmem, ⟨15, _⟩ => ⟨S1024x2048, .bf16⟩
  | .local _ .vmem, ⟨16, _⟩ => ⟨S1024x2048, .bf16⟩
  | .local _ .vmem, ⟨17, _⟩ => ⟨S2048x2048, .bf16⟩
  | .local _ .vmem, ⟨18, _⟩ => ⟨S256x2048, .f32⟩
  | .local _ .vmem, ⟨19, _⟩ => ⟨S256x2048, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S4x2048x1024 : Shape := ⟨3, ![4, 2048, 1024]⟩
abbrev S8192x10240 : Shape := ⟨2, ![8192, 10240]⟩
abbrev S4x2048x2048 : Shape := ⟨3, ![4, 2048, 2048]⟩
abbrev S4x1024x2048 : Shape := ⟨3, ![4, 1024, 2048]⟩
abbrev S8192x6144 : Shape := ⟨2, ![8192, 6144]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S_ : Shape := ⟨0, ![]⟩
abbrev S4x2048x3x2048 : Shape := ⟨4, ![4, 2048, 3, 2048]⟩
abbrev S4x2048x1x2048 : Shape := ⟨4, ![4, 2048, 1, 2048]⟩
abbrev S8192x2048 : Shape := ⟨2, ![8192, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x1024, .bf16⟩
  | .hbm, ⟨3, _⟩ => ⟨S8192x10240, .bf16⟩
  | .hbm, ⟨4, _⟩ => ⟨S4x2048x2048, .f32⟩
  | .hbm, ⟨5, _⟩ => ⟨S4x1024x2048, .f32⟩
  | .hbm, ⟨6, _⟩ => ⟨S4x1024x2048, .f32⟩
  | .hbm, ⟨7, _⟩ => ⟨S4x1024x2048, .f32⟩
  | .hbm, ⟨8, _⟩ => ⟨S4x2048x2048, .f32⟩
  | .hbm, ⟨9, _⟩ => ⟨S8192x6144, .bf16⟩
  | .hbm, ⟨10, _⟩ => ⟨S1x1024x2048, .f32⟩
  | .hbm, ⟨11, _⟩ => ⟨S1024x2048, .f32⟩
  | .hbm, ⟨12, _⟩ => ⟨S1x1024x2048, .f32⟩
  | .hbm, ⟨13, _⟩ => ⟨S1024x2048, .f32⟩
  | .hbm, ⟨14, _⟩ => ⟨S1x1024x2048, .f32⟩
  | .hbm, ⟨15, _⟩ => ⟨S1024x2048, .f32⟩
  | .hbm, ⟨16, _⟩ => ⟨S1x2048x2048, .f32⟩
  | .hbm, ⟨17, _⟩ => ⟨S2048x2048, .f32⟩
  | .hbm, ⟨18, _⟩ => ⟨S8192x6144, .f32⟩
  | .hbm, ⟨19, _⟩ => ⟨S8192x6144, .f32⟩
  | .hbm, ⟨20, _⟩ => ⟨S8192x6144, .f32⟩
  | .hbm, ⟨21, _⟩ => ⟨S_, .f32⟩
  | .hbm, ⟨22, _⟩ => ⟨S8192x6144, .f32⟩
  | .hbm, ⟨23, _⟩ => ⟨S8192x6144, .f32⟩
  | .hbm, ⟨24, _⟩ => ⟨S_, .f32⟩
  | .hbm, ⟨25, _⟩ => ⟨S8192x6144, .f32⟩
  | .hbm, ⟨26, _⟩ => ⟨S8192x6144, .f32⟩
  | .hbm, ⟨27, _⟩ => ⟨S4x2048x3x2048, .f32⟩
  | .hbm, ⟨28, _⟩ => ⟨S4x2048x1x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S4x2048x1x2048, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S4x2048x1x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S4x2048x2048, .f32⟩
  | .hbm, ⟨43, _⟩ => ⟨S4x2048x2048, .f32⟩
  | .hbm, ⟨44, _⟩ => ⟨S8192x2048, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel6.lean ====
abbrev S4x2048x128 : Shape := ⟨3, ![4, 2048, 128]⟩
abbrev S4x8 : Shape := ⟨2, ![4, 8]⟩
abbrev S_ : Shape := ⟨0, ![]⟩
abbrev S4x128 : Shape := ⟨2, ![4, 128]⟩
abbrev S4x1x128 : Shape := ⟨3, ![4, 1, 128]⟩
abbrev S4x4x8x512 : Shape := ⟨4, ![4, 4, 8, 512]⟩
abbrev S1x2048x128 : Shape := ⟨3, ![1, 2048, 128]⟩
abbrev S1x1x128 : Shape := ⟨3, ![1, 1, 128]⟩
abbrev S1x4x8x512 : Shape := ⟨4, ![1, 4, 8, 512]⟩
abbrev S2048x128 : Shape := ⟨2, ![2048, 128]⟩
abbrev S1x128 : Shape := ⟨2, ![1, 128]⟩
abbrev S8x128 : Shape := ⟨2, ![8, 128]⟩
abbrev S2040x128 : Shape := ⟨2, ![2040, 128]⟩
abbrev S16x128 : Shape := ⟨2, ![16, 128]⟩
abbrev S2032x128 : Shape := ⟨2, ![2032, 128]⟩
abbrev S32x128 : Shape := ⟨2, ![32, 128]⟩
abbrev S2016x128 : Shape := ⟨2, ![2016, 128]⟩
abbrev S64x128 : Shape := ⟨2, ![64, 128]⟩
abbrev S1984x128 : Shape := ⟨2, ![1984, 128]⟩
abbrev S128x128 : Shape := ⟨2, ![128, 128]⟩
abbrev S1920x128 : Shape := ⟨2, ![1920, 128]⟩
abbrev S256x128 : Shape := ⟨2, ![256, 128]⟩
abbrev S1792x128 : Shape := ⟨2, ![1792, 128]⟩
abbrev S512x128 : Shape := ⟨2, ![512, 128]⟩
abbrev S1536x128 : Shape := ⟨2, ![1536, 128]⟩
abbrev S1024x128 : Shape := ⟨2, ![1024, 128]⟩
abbrev S128x2048 : Shape := ⟨2, ![128, 2048]⟩
abbrev S8x512 : Shape := ⟨2, ![8, 512]⟩
abbrev S1x1x8x512 : Shape := ⟨4, ![1, 1, 8, 512]⟩

abbrev nBuf : Space → Nat
  | .hbm => 8
  | .vmem => 7
  | .smem => 0
  | _ => 0

abbrev bufTy : (tb : Table) → Fin (tcTables nBuf tb) → BufTy
  | .hbm, ⟨0, _⟩ => ⟨S4x2048x128, .f32⟩
  | .hbm, ⟨1, _⟩ => ⟨S4x8, .f32⟩
  | .hbm, ⟨2, _⟩ => ⟨S_, .i32⟩
  | .hbm, ⟨3, _⟩ => ⟨S_, .f32⟩
  | .hbm, ⟨4, _⟩ => ⟨S4x128, .f32⟩
  | .hbm, ⟨5, _⟩ => ⟨S4x1x128, .f32⟩
  | .hbm, ⟨6, _⟩ => ⟨S4x2048x128, .f32⟩
  | .hbm, ⟨7, _⟩ => ⟨S4x4x8x512, .f32⟩
  | .local _ .vmem, ⟨0, _⟩ => ⟨S1x2048x128, .f32⟩
  | .local _ .vmem, ⟨1, _⟩ => ⟨S1x2048x128, .f32⟩
  | .local _ .vmem, ⟨2, _⟩ => ⟨S1x1x128, .f32⟩
  | .local _ .vmem, ⟨3, _⟩ => ⟨S1x2048x128, .f32⟩
  | .local _ .vmem, ⟨4, _⟩ => ⟨S1x2048x128, .f32⟩
  | .local _ .vmem, ⟨5, _⟩ => ⟨S1x4x8x512, .f32⟩
  | .local _ .vmem, ⟨6, _⟩ => ⟨S1x4x8x512, .f32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S4x2048x128 : Shape := ⟨3, ![4, 2048, 128]⟩
abbrev S4x8 : Shape := ⟨2, ![4, 8]⟩
abbrev S1x8 : Shape := ⟨2, ![1, 8]⟩
abbrev S8 : Shape := ⟨1, ![8]⟩
abbrev S_ : Shape := ⟨0, ![]⟩
abbrev S128 : Shape := ⟨1, ![128]⟩
abbrev S1x1x128 : Shape := ⟨3, ![1, 1, 128]⟩
abbrev S4x2048x8 : Shape := ⟨3, ![4, 2048, 8]⟩
abbrev S4x4x512x8 : Shape := ⟨4, ![4, 4, 512, 8]⟩
abbrev S4x4x8x512 : Shape := ⟨4, ![4, 4, 8, 512]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x128, .f32⟩
  | .hbm, ⟨1, _⟩ => ⟨S4x8, .f32⟩
  | .hbm, ⟨2, _⟩ => ⟨S1x8, .f32⟩
  | .hbm, ⟨3, _⟩ => ⟨S8, .f32⟩
  | .hbm, ⟨4, _⟩ => ⟨S_, .i32⟩
  | .hbm, ⟨5, _⟩ => ⟨S_, .f32⟩
  | .hbm, ⟨6, _⟩ => ⟨S128, .f32⟩
  | .hbm, ⟨7, _⟩ => ⟨S1x1x128, .f32⟩
  | .hbm, ⟨8, _⟩ => ⟨S4x2048x128, .f32⟩
  | .hbm, ⟨9, _⟩ => ⟨S4x2048x128, .f32⟩
  | .hbm, ⟨10, _⟩ => ⟨S4x2048x128, .f32⟩
  | .hbm, ⟨11, _⟩ => ⟨S_, .f32⟩
  | .hbm, ⟨12, _⟩ => ⟨S4x2048x128, .f32⟩
  | .hbm, ⟨13, _⟩ => ⟨S4x2048x128, .f32⟩
  | .hbm, ⟨14, _⟩ => ⟨S4x2048x128, .f32⟩
  | .hbm, ⟨15, _⟩ => ⟨S4x2048x128, .f32⟩
  | .hbm, ⟨16, _⟩ => ⟨S4x2048x128, .i1⟩
  | .hbm, ⟨17, _⟩ => ⟨S4x2048x128, .f32⟩
  | .hbm, ⟨18, _⟩ => ⟨S4x2048x128, .f32⟩
  | .hbm, ⟨19, _⟩ => ⟨S4x2048x128, .f32⟩
  | .hbm, ⟨20, _⟩ => ⟨S4x2048x128, .f32⟩
  | .hbm, ⟨21, _⟩ => ⟨S4x2048x128, .f32⟩
  | .hbm, ⟨22, _⟩ => ⟨S4x2048x128, .f32⟩
  | .hbm, ⟨23, _⟩ => ⟨S4x2048x128, .f32⟩
  | .hbm, ⟨24, _⟩ => ⟨S4x2048x128, .f32⟩
  | .hbm, ⟨25, _⟩ => ⟨S4x2048x128, .f32⟩
  | .hbm, ⟨26, _⟩ => ⟨S_, .f32⟩
  | .hbm, ⟨27, _⟩ => ⟨S_, .f32⟩
  | .hbm, ⟨28, _⟩ => ⟨S4x2048x128, .f32⟩
  | .hbm, ⟨29, _⟩ => ⟨S4x2048x8, .f32⟩
  | .hbm, ⟨30, _⟩ => ⟨S4x4x512x8, .f32⟩
  | .hbm, ⟨31, _⟩ => ⟨S4x4x8x512, .f32⟩
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call1_v0 : Ref sig .tc := ⟨.hbm, 10, rfl⟩
abbrev main_call1_call0_cst : Ref sig .tc := ⟨.hbm, 11, rfl⟩
abbrev main_call1_call0_v0 : Ref sig .tc := ⟨.hbm, 12, rfl⟩
abbrev main_call1_call0_v1 : Ref sig .tc := ⟨.hbm, 13, rfl⟩
abbrev main_call1_call0_v2 : Ref sig .tc := ⟨.hbm, 14, rfl⟩
abbrev main_call1_call0_v3 : Ref sig .tc := ⟨.hbm, 15, rfl⟩
abbrev main_call1_call0_v4 : Ref sig .tc := ⟨.hbm, 16, rfl⟩
abbrev main_call1_call0_v5 : Ref sig .tc := ⟨.hbm, 17, rfl⟩
abbrev main_call1_call0_v6 : Ref sig .tc := ⟨.hbm, 18, rfl⟩
abbrev main_call1_call0_v7 : Ref sig .tc := ⟨.hbm, 19, rfl⟩
abbrev main_call1_call0_v8 : Ref sig .tc := ⟨.hbm, 20, rfl⟩
abbrev main_call1_call0_v9 : Ref sig .tc := ⟨.hbm, 21, rfl⟩
abbrev main_call1_call0_v10 : Ref sig .tc := ⟨.hbm, 22, rfl⟩
abbrev main_call1_call0_v11 : Ref sig .tc := ⟨.hbm, 23, rfl⟩
abbrev main_call1_v1 : Ref sig .tc := ⟨.hbm, 24, rfl⟩
abbrev main_v6 : Ref sig .tc := ⟨.hbm, 25, rfl⟩
abbrev main_call2_call0_cst : Ref sig .tc := ⟨.hbm, 26, rfl⟩
abbrev main_call2_call0_v0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩

abbrev nD : Nat := 1
abbrev τ : Topo := Topo.v7x

variable {F : FTy → Type} [FloatOps F]
-- ==== Kernel7.lean ====
abbrev S4x2048x4096 : Shape := ⟨3, ![4, 2048, 4096]⟩
abbrev S4x2048x10240 : Shape := ⟨3, ![4, 2048, 10240]⟩
abbrev S4x4x256x256 : Shape := ⟨4, ![4, 4, 256, 256]⟩
abbrev S4x1024 : Shape := ⟨2, ![4, 1024]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S8x8x128 : Shape := ⟨3, ![8, 8, 128]⟩
abbrev S4x1x1024 : Shape := ⟨3, ![4, 1, 1024]⟩
abbrev S4x2048x1024 : Shape := ⟨3, ![4, 2048, 1024]⟩
abbrev S1x512x1024 : Shape := ⟨3, ![1, 512, 1024]⟩
abbrev S512x128 : Shape := ⟨2, ![512, 128]⟩
abbrev S1x4x256x256 : Shape := ⟨4, ![1, 4, 256, 256]⟩
abbrev S1x1x1024 : Shape := ⟨3, ![1, 1, 1024]⟩
abbrev S528x1024 : Shape := ⟨2, ![528, 1024]⟩
abbrev S16x1024 : Shape := ⟨2, ![16, 1024]⟩
abbrev S512x1024 : Shape := ⟨2, ![512, 1024]⟩
abbrev S512x1 : Shape := ⟨2, ![512, 1]⟩
abbrev S512x256 : Shape := ⟨2, ![512, 256]⟩
abbrev S1x1x256x256 : Shape := ⟨4, ![1, 1, 256, 256]⟩
abbrev S256x256 : Shape := ⟨2, ![256, 256]⟩
abbrev S1x1x256 : Shape := ⟨3, ![1, 1, 256]⟩
abbrev S1x256 : Shape := ⟨2, ![1, 256]⟩
abbrev S1x512x256 : Shape := ⟨3, ![1, 512, 256]⟩
abbrev S1x1x128 : Shape := ⟨3, ![1, 1, 128]⟩

abbrev nBuf : Space → Nat
  | .hbm => 90
  | .vmem => 26
  | .smem => 0
  | _ => 0

abbrev bufTy : (tb : Table) → Fin (tcTables nBuf tb) → BufTy
  | .hbm, ⟨0, _⟩ => ⟨S4x2048x4096, .f32⟩
  | .hbm, ⟨1, _⟩ => ⟨S4x2048x10240, .bf16⟩
  | .hbm, ⟨2, _⟩ => ⟨S4x4x256x256, .f32⟩
  | .hbm, ⟨3, _⟩ => ⟨S4x1024, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S2048, .f32⟩
  | .hbm, ⟨13, _⟩ => ⟨S2048x1, .f32⟩
  | .hbm, ⟨14, _⟩ => ⟨S1x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x128, .f32⟩
  | .hbm, ⟨21, _⟩ => ⟨S2048x64, .f32⟩
  | .hbm, ⟨22, _⟩ => ⟨S2048x64, .f32⟩
  | .hbm, ⟨23, _⟩ => ⟨S2048x64, .f32⟩
  | .hbm, ⟨24, _⟩ => ⟨S2048x128, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S128, .f32⟩
  | .hbm, ⟨35, _⟩ => ⟨S128x1, .f32⟩
  | .hbm, ⟨36, _⟩ => ⟨S1x128, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S1x128x128, .f32⟩
  | .hbm, ⟨41, _⟩ => ⟨S_, .f32⟩
  | .hbm, ⟨42, _⟩ => ⟨S1x128x128, .f32⟩
  | .hbm, ⟨43, _⟩ => ⟨S1x128x128, .i1⟩
  | .hbm, ⟨44, _⟩ => ⟨S_, .f32⟩
  | .hbm, ⟨45, _⟩ => ⟨S128x128, .f32⟩
  | .hbm, ⟨46, _⟩ => ⟨S128x128, .f32⟩
  | .hbm, ⟨47, _⟩ => ⟨S1x128x128, .f32⟩
  | .hbm, ⟨48, _⟩ => ⟨S8x1x1, .f32⟩
  | .hbm, ⟨49, _⟩ => ⟨S8x128x128, .f32⟩
  | .hbm, ⟨50, _⟩ => ⟨S8x128x128, .f32⟩
  | .hbm, ⟨51, _⟩ => ⟨S8x128x128, .f32⟩
  | .hbm, ⟨52, _⟩ => ⟨S8x128x128, .f32⟩
  | .hbm, ⟨53, _⟩ => ⟨S_, .f32⟩
  | .hbm, ⟨54, _⟩ => ⟨S_, .f32⟩
  | .hbm, ⟨55, _⟩ => ⟨S8x128x128, .i1⟩
  | .hbm, ⟨56, _⟩ => ⟨S8x128x128, .f32⟩
  | .hbm, ⟨57, _⟩ => ⟨S8x128x128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S1x128, .f32⟩
  | .hbm, ⟨62, _⟩ => ⟨S8x1, .f32⟩
  | .hbm, ⟨63, _⟩ => ⟨S8x128, .f32⟩
  | .hbm, ⟨64, _⟩ => ⟨S8x128, .f32⟩
  | .hbm, ⟨65, _⟩ => ⟨S8x128, .f32⟩
  | .hbm, ⟨66, _⟩ => ⟨S8x128, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S1x128, .f32⟩
  | .hbm, ⟨71, _⟩ => ⟨S8x1, .f32⟩
  | .hbm, ⟨72, _⟩ => ⟨S8x128, .f32⟩
  | .hbm, ⟨73, _⟩ => ⟨S8x128, .f32⟩
  | .hbm, ⟨74, _⟩ => ⟨S8x128, .f32⟩
  | .hbm, ⟨75, _⟩ => ⟨S8x128, .f32⟩
  | .hbm, ⟨76, _⟩ => ⟨S_, .f32⟩
  | .hbm, ⟨77, _⟩ => ⟨S8, .f32⟩
  | .hbm, ⟨78, _⟩ => ⟨S8, .f32⟩
  | .hbm, ⟨79, _⟩ => ⟨S8, .f32⟩
  | .hbm, ⟨80, _⟩ => ⟨S8x128x1, .f32⟩
  | .hbm, ⟨81, _⟩ => ⟨S8x128x128, .f32⟩
  | .hbm, ⟨82, _⟩ => ⟨S8x128x1, .f32⟩
  | .hbm, ⟨83, _⟩ => ⟨S8x128x128, .f32⟩
  | .hbm, ⟨84, _⟩ => ⟨S8x1x1, .f32⟩
  | .hbm, ⟨85, _⟩ => ⟨S8x8x128, .f32⟩
  | .hbm, ⟨86, _⟩ => ⟨S4x4x256x256, .bf16⟩
  | .hbm, ⟨87, _⟩ => ⟨S4x1x1024, .f32⟩
  | .hbm, ⟨88, _⟩ => ⟨S4x2048x1024, .bf16⟩
  | .hbm, ⟨89, _⟩ => ⟨S4x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .bf16⟩
  | .local _ .vmem, ⟨9, _⟩ => ⟨S1x512x1024, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S8x128x128, .f32⟩
  | .local _ .vmem, ⟨15, _⟩ => ⟨S8x128x128, .f32⟩
  | .local _ .vmem, ⟨16, _⟩ => ⟨S8x128x128, .f32⟩
  | .local _ .vmem, ⟨17, _⟩ => ⟨S8x8x128, .f32⟩
  | .local _ .vmem, ⟨18, _⟩ => ⟨S1x4x256x256, .bf16⟩
  | .local _ .vmem, ⟨19, _⟩ => ⟨S1x1x1024, .f32⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S8x128x128, .f32⟩
  | .local _ .vmem, ⟨25, _⟩ => ⟨S528x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71_0 : Ref sig .tc := ⟨.hbm, 88, rfl⟩
abbrev main_v71_1 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x4x256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference7Ideal.lean ====
abbrev S4x2048x4096 : Shape := ⟨3, ![4, 2048, 4096]⟩
abbrev S4x2048x10240 : Shape := ⟨3, ![4, 2048, 10240]⟩
abbrev S4x4x256x256 : Shape := ⟨4, ![4, 4, 256, 256]⟩
abbrev S4x1024 : Shape := ⟨2, ![4, 1024]⟩
abbrev S4x2048x1024 : Shape := ⟨3, ![4, 2048, 1024]⟩
abbrev S1x4x256x256 : Shape := ⟨4, ![1, 4, 256, 256]⟩
abbrev S4x256x256 : Shape := ⟨3, ![4, 256, 256]⟩
abbrev S1x1024 : Shape := ⟨2, ![1, 1024]⟩
abbrev S1024 : Shape := ⟨1, ![1024]⟩
abbrev S_ : Shape := ⟨0, ![]⟩
abbrev S2048 : Shape := ⟨1, ![2048]⟩
abbrev S4x2048x256 : Shape := ⟨3, ![4, 2048, 256]⟩
abbrev S4x2050x256 : Shape := ⟨3, ![4, 2050, 256]⟩
abbrev S1x2048x1 : Shape := ⟨3, ![1, 2048, 1]⟩
abbrev S4x2052x256 : Shape := ⟨3, ![4, 2052, 256]⟩
abbrev S4x2056x256 : Shape := ⟨3, ![4, 2056, 256]⟩
abbrev S4x2064x256 : Shape := ⟨3, ![4, 2064, 256]⟩
abbrev S4x2048x1x256 : Shape := ⟨4, ![4, 2048, 1, 256]⟩
abbrev S4x2048x4x256 : Shape := ⟨4, ![4, 2048, 4, 256]⟩
abbrev S4x256x4x2048 : Shape := ⟨4, ![4, 256, 4, 2048]⟩
abbrev S1x1x1024 : Shape := ⟨3, ![1, 1, 1024]⟩

abbrev nBuf : Space → Nat
  | .hbm => 95
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x10240, .bf16⟩
  | .hbm, ⟨2, _⟩ => ⟨S4x4x256x256, .f32⟩
  | .hbm, ⟨3, _⟩ => ⟨S4x1024, .f32⟩
  | .hbm, ⟨4, _⟩ => ⟨S4x2048x1024, .f32⟩
  | .hbm, ⟨5, _⟩ => ⟨S1x4x256x256, .f32⟩
  | .hbm, ⟨6, _⟩ => ⟨S4x256x256, .f32⟩
  | .hbm, ⟨7, _⟩ => ⟨S1x1024, .f32⟩
  | .hbm, ⟨8, _⟩ => ⟨S1024, .f32⟩
  | .hbm, ⟨9, _⟩ => ⟨S_, .f32⟩
  | .hbm, ⟨10, _⟩ => ⟨S_, .f32⟩
  | .hbm, ⟨11, _⟩ => ⟨S4x2048x1024, .f32⟩
  | .hbm, ⟨12, _⟩ => ⟨S2048, .i32⟩
  | .hbm, ⟨13, _⟩ => ⟨S4x2048x256, .f32⟩
  | .hbm, ⟨14, _⟩ => ⟨S_, .i32⟩
  | .hbm, ⟨15, _⟩ => ⟨S_, .f32⟩
  | .hbm, ⟨16, _⟩ => ⟨S4x2050x256, .f32⟩
  | .hbm, ⟨17, _⟩ => ⟨S4x2048x256, .f32⟩
  | .hbm, ⟨18, _⟩ => ⟨S4x2048x256, .f32⟩
  | .hbm, ⟨19, _⟩ => ⟨S4x2048x256, .f32⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .f32⟩
  | .hbm, ⟨27, _⟩ => ⟨S1x2048x1, .f32⟩
  | .hbm, ⟨28, _⟩ => ⟨S4x2048x256, .f32⟩
  | .hbm, ⟨29, _⟩ => ⟨S4x2048x256, .f32⟩
  | .hbm, ⟨30, _⟩ => ⟨S4x2048x256, .f32⟩
  | .hbm, ⟨31, _⟩ => ⟨S_, .i32⟩
  | .hbm, ⟨32, _⟩ => ⟨S_, .f32⟩
  | .hbm, ⟨33, _⟩ => ⟨S4x2052x256, .f32⟩
  | .hbm, ⟨34, _⟩ => ⟨S4x2048x256, .f32⟩
  | .hbm, ⟨35, _⟩ => ⟨S4x2048x256, .f32⟩
  | .hbm, ⟨36, _⟩ => ⟨S4x2048x256, .f32⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S2048, .f32⟩
  | .hbm, ⟨44, _⟩ => ⟨S1x2048x1, .f32⟩
  | .hbm, ⟨45, _⟩ => ⟨S4x2048x256, .f32⟩
  | .hbm, ⟨46, _⟩ => ⟨S4x2048x256, .f32⟩
  | .hbm, ⟨47, _⟩ => ⟨S4x2048x256, .f32⟩
  | .hbm, ⟨48, _⟩ => ⟨S_, .i32⟩
  | .hbm, ⟨49, _⟩ => ⟨S_, .f32⟩
  | .hbm, ⟨50, _⟩ => ⟨S4x2056x256, .f32⟩
  | .hbm, ⟨51, _⟩ => ⟨S4x2048x256, .f32⟩
  | .hbm, ⟨52, _⟩ => ⟨S4x2048x256, .f32⟩
  | .hbm, ⟨53, _⟩ => ⟨S4x2048x256, .f32⟩
  | .hbm, ⟨54, _⟩ => ⟨S_, .i32⟩
  | .hbm, ⟨55, _⟩ => ⟨S2048, .i32⟩
  | .hbm, ⟨56, _⟩ => ⟨S2048, .i32⟩
  | .hbm, ⟨57, _⟩ => ⟨S_, .i32⟩
  | .hbm, ⟨58, _⟩ => ⟨S2048, .i32⟩
  | .hbm, ⟨59, _⟩ => ⟨S2048, .i32⟩
  | .hbm, ⟨60, _⟩ => ⟨S2048, .f32⟩
  | .hbm, ⟨61, _⟩ => ⟨S1x2048x1, .f32⟩
  | .hbm, ⟨62, _⟩ => ⟨S4x2048x256, .f32⟩
  | .hbm, ⟨63, _⟩ => ⟨S4x2048x256, .f32⟩
  | .hbm, ⟨64, _⟩ => ⟨S4x2048x256, .f32⟩
  | .hbm, ⟨65, _⟩ => ⟨S_, .i32⟩
  | .hbm, ⟨66, _⟩ => ⟨S_, .f32⟩
  | .hbm, ⟨67, _⟩ => ⟨S4x2064x256, .f32⟩
  | .hbm, ⟨68, _⟩ => ⟨S4x2048x256, .f32⟩
  | .hbm, ⟨69, _⟩ => ⟨S4x2048x256, .f32⟩
  | .hbm, ⟨70, _⟩ => ⟨S4x2048x256, .f32⟩
  | .hbm, ⟨71, _⟩ => ⟨S_, .i32⟩
  | .hbm, ⟨72, _⟩ => ⟨S2048, .i32⟩
  | .hbm, ⟨73, _⟩ => ⟨S2048, .i32⟩
  | .hbm, ⟨74, _⟩ => ⟨S_, .i32⟩
  | .hbm, ⟨75, _⟩ => ⟨S2048, .i32⟩
  | .hbm, ⟨76, _⟩ => ⟨S2048, .i32⟩
  | .hbm, ⟨77, _⟩ => ⟨S2048, .f32⟩
  | .hbm, ⟨78, _⟩ => ⟨S1x2048x1, .f32⟩
  | .hbm, ⟨79, _⟩ => ⟨S4x2048x256, .f32⟩
  | .hbm, ⟨80, _⟩ => ⟨S4x2048x256, .f32⟩
  | .hbm, ⟨81, _⟩ => ⟨S4x2048x1x256, .f32⟩
  | .hbm, ⟨82, _⟩ => ⟨S4x2048x1x256, .f32⟩
  | .hbm, ⟨83, _⟩ => ⟨S4x2048x1x256, .f32⟩
  | .hbm, ⟨84, _⟩ => ⟨S4x2048x1x256, .f32⟩
  | .hbm, ⟨85, _⟩ => ⟨S4x2048x4x256, .f32⟩
  | .hbm, ⟨86, _⟩ => ⟨S4x2048x4x256, .f32⟩
  | .hbm, ⟨87, _⟩ => ⟨S4x2048x4x256, .f32⟩
  | .hbm, ⟨88, _⟩ => ⟨S4x256x4x2048, .f32⟩
  | .hbm, ⟨89, _⟩ => ⟨S4x2048x4x256, .f32⟩
  | .hbm, ⟨90, _⟩ => ⟨S4x2048x1024, .f32⟩
  | .hbm, ⟨91, _⟩ => ⟨S1x1x1024, .f32⟩
  | .hbm, ⟨92, _⟩ => ⟨S4x2048x1024, .f32⟩
  | .hbm, ⟨93, _⟩ => ⟨S4x2048x1024, .f32⟩
  | .hbm, ⟨94, _⟩ => ⟨S4x2048x1024, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_call0_cst : Ref sig .tc := ⟨.hbm, 9, rfl⟩
abbrev main_call0_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_call2_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_call3_v0 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_6 : Ref sig .tc := ⟨.hbm, 54, rfl⟩
abbrev main_v38 : Ref sig .tc := ⟨.hbm, 55, rfl⟩
abbrev main_v39 : Ref sig .tc := ⟨.hbm, 56, rfl⟩
abbrev main_c_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_8 : Ref sig .tc := ⟨.hbm, 65, rfl⟩
abbrev main_call4_v0 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_c_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]
-- ==== Proof.Setup.lean ====
module

public import proofs.«01_k».proof.Proof.Gen.Kernel.Launch
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The program up to the kernel call -/

/-- What core `c`'s buffers hold when the kernel call starts: the launch memory after the host operations before it. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

set_option maxHeartbeats 800000 in
/-- The program is the host operations followed by the kernel call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- The host operations leave argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The table of row offsets -/

/-- The table of row offsets when the kernel call starts. -/
def tbl : pre0.Contents (Elt F) := fun j => V m (0 : Dev nD) (pre0.ref j)
/-- The one device's table is `tbl`. -/
theorem V_pre (c : Dev nD) (j : Fin 1) : V m c (pre0.ref j) = tbl m j := by
  obtain rfl : c = 0 := Subsingleton.elim _ _; rfl
/-- What the call assumes of the table: at every grid point each window read through it lies inside its array. -/
abbrev Ok : Prop := ok0 (F := F) (tbl m)
/-- The table with that assumption, and the pipeline run with it. -/
abbrev adm (hO : Ok m) : (pcfg0 (F := F)).Adm := ⟨tbl m, hO⟩
abbrev cfgM (hO : Ok m) : Pipeline.Cfg sig Λ₀ := cfg0 (adm m hO)

/-- The table's buffer, as the kernel body is handed it. -/
abbrev tbM0_0 : Memref sig .tc .smem S14 .i32 := Memref.whole main_v5
abbrev htbM0_0 : tbM0_0.IsWhole := Memref.isWhole_whole _

/-- The contents of a table's buffer, and half of the ownership of it: the other half stays with the pipeline, so that the body can only read. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The half ownership of all prefetched tables is that of the one table. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- The block of window `w` at grid point `t`, read off its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Before the body runs at `t`, input 0's buffer holds its block at `t`, for any run data that leave the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Before the body runs at `t`, input 1's buffer holds its block at `t`, for any run data that leave the block in place. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Before the body runs at `t`, input 2's buffer holds its block at `t`, for any run data that leave the block in place. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Before the body runs at `t`, input 3's buffer holds its block at `t`, for any run data that leave the block in place. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The row block's first step. -/
abbrev cond0_0 (i : grid0.Coords) : Prop := k0_cond1 i = 1#1
/-- It is every 14th grid point. -/
theorem hcond0_0 : ∀ t : Fin grid0.N, cond0_0 (grid0.coords t) ↔ t.val % 14 = 0 :=
  (fun t => by
    have ht : t.val < 112 := Nat.lt_of_lt_of_eq t.isLt N_0
    have e0 : (grid0.coords t 0).val = t.val / 14 % 8 := Pipeline.Grid.coords_val t 0 (by decide) rfl
    have e1 : (grid0.coords t 1).val = t.val / 1 % 14 := Pipeline.Grid.coords_val t 1 (by decide) rfl
    simp only [cond0_0, k0_cond1, e0, e1]
    word_cmp
   : ∀ t : Fin grid0.N, cond0_0 (grid0.coords t) ↔ t.val % 14 = 0)

/-- A step of the f32 tiles. -/
abbrev cond0_1 (i : grid0.Coords) : Prop := k0_cond2 i = 1#1
/-- They are the first four steps of a row block. -/
theorem hcond0_1 : ∀ t : Fin grid0.N, cond0_1 (grid0.coords t) ↔ t.val % 14 ≤ 3 :=
  (by decide +kernel : ∀ t : Fin grid0.N, cond0_1 (grid0.coords t) ↔ t.val % 14 ≤ 3)

/-- A step of the bf16 tiles. -/
abbrev cond0_2 (i : grid0.Coords) : Prop := k0_cond3 i = 1#1
/-- They are the other ten. -/
theorem hcond0_2 : ∀ t : Fin grid0.N, cond0_2 (grid0.coords t) ↔ 4 ≤ t.val % 14 :=
  (by decide +kernel : ∀ t : Fin grid0.N, cond0_2 (grid0.coords t) ↔ 4 ≤ t.val % 14)

/-! ## The inputs are read at every step -/

/-- Input 0 is read at every step. -/
theorem liveAt0_0 (hO : Ok m) : ∀ t : Fin (cfgM m hO).N, (cfgM m hO).idle 0 (grid0.coords t) = false :=
  (fun _ => rfl : ∀ t : Fin grid0.N, idle0 0 (grid0.coords t) = false)
/-- Input 1 is read at every step. -/
theorem liveAt0_1 (hO : Ok m) : ∀ t : Fin (cfgM m hO).N, (cfgM m hO).idle 1 (grid0.coords t) = false :=
  (fun _ => rfl : ∀ t : Fin grid0.N, idle0 1 (grid0.coords t) = false)
/-- Input 2 is read at every step. -/
theorem liveAt0_2 (hO : Ok m) : ∀ t : Fin (cfgM m hO).N, (cfgM m hO).idle 2 (grid0.coords t) = false :=
  (fun _ => rfl : ∀ t : Fin grid0.N, idle0 2 (grid0.coords t) = false)
/-- Input 3 is read at every step. -/
theorem liveAt0_3 (hO : Ok m) : ∀ t : Fin (cfgM m hO).N, (cfgM m hO).idle 3 (grid0.coords t) = false :=
  (fun _ => rfl : ∀ t : Fin grid0.N, idle0 3 (grid0.coords t) = false)
/-! ## The buffers the body is handed -/

/-- The buffer each window hands the body at step `t`, and that it is a whole buffer. -/
abbrev ms0_0 (hO : Ok m) (t : Fin (cfgM m hO).N) : Memref sig .tc .vmem S1024x2048 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x128x2048 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1024x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1024x1024 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1024x128 .f32 := spec0_6.stage ((cfgM m hO).slots t 6)
abbrev hs0_6 (hO : Ok m) (t : Fin (cfgM m hO).N) : (ms0_6 m hO t).IsWhole := hstage0_6 (((cfgM m hO).slots t 6).cast nbuf0_6)
/-- The scratch that holds the normalized rows of the current row block. -/
abbrev scM0_0 : Memref sig .tc .vmem S1024x2048 .bf16 := Memref.whole cc0_scratch0

/-- What the body may use besides its windows: the scratch, whatever it holds, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The kernel body at step `t`, on the buffers the pipeline hands it. -/
abbrev bodyAt0 (a : (pcfg0 (F := F)).Adm) (t : Fin (cfg0 a).N) : Prog (TpuEff nD τ sig (Elt F) Λ₀ .tc) PUnit :=
  cc0_in_proj (grid0.coords t) (Memref.whole main_v5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _)

/-- The pipeline calls exactly that body at step `t`. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

end Cert.Kernel.InProj

end
-- ==== Proof.Runs.lean ====
module

public import proofs.«01_k».proof.Proof.Setup
public import Idealize.ShloMosaic.Lib.Pipeline.ValueKit
public import Idealize.ShloMosaic.Lib.Pipeline.TableIdle
public import Idealize.ShloMosaic.Lib.VecWindow

@[expose] public section

set_option maxRecDepth 16384

noncomputable section

namespace Cert.Kernel.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at the first step of a row block: it normalizes the row block into the scratch, writes the forget gates'
    logits and the first tile of the f32 result, and leaves the bf16 result's buffer as it was. -/
theorem run_first (c : Dev nD) (i : grid0.Coords) (ax : Memref sig .tc .vmem S1024x2048 .f32) (hax : ax.IsWhole) (ag : Memref sig .tc .vmem S1x2048 .f32) (hag : ag.IsWhole)
    (aw : Memref sig .tc .vmem S1x1024x2048 .f32) (haw : aw.IsWhole) (af : Memref sig .tc .vmem S1x128x2048 .f32) (haf : af.IsWhole)
    (oa : Memref sig .tc .vmem S1024x1024 .f32) (hoa : oa.IsWhole) (ob : Memref sig .tc .vmem S1024x1024 .bf16) (hob : ob.IsWhole)
    (ol : Memref sig .tc .vmem S1024x128 .f32) (hol : ol.IsWhole) (sn : Memref sig .tc .vmem S1024x2048 .bf16) (hsn : sn.IsWhole)
    (hc0 : cond0_0 i) (hc1 : cond0_1 i) (hc2 : ¬cond0_2 i)
    (x : Vec F S1024x2048 .f32) (g : Vec F S1x2048 .f32) (w : Vec F S1x1024x2048 .f32) (wf : Vec F S1x128x2048 .f32)
    (b : Vec F S1024x1024 .bf16) (tb : TbBuf0 (F := F) c tbM0_0) (E : Set ℕ) (K : PUnit → sProp 𝕄) :
    iprop(owns (c : Thread nD τ) ax fullShare x
        ∗ owns (c : Thread nD τ) ag fullShare g
        ∗ owns (c : Thread nD τ) aw fullShare w
        ∗ owns (c : Thread nD τ) af fullShare wf
        ∗ (∃ d, owns (c : Thread nD τ) oa fullShare d)
        ∗ owns (c : Thread nD τ) ob fullShare b
        ∗ (∃ d, owns (c : Thread nD τ) ol fullShare d)
        ∗ (∃ d, owns (c : Thread nD τ) sn fullShare d)
        ∗ tbPt0 c tbM0_0 tb
        ∗ (iprop(owns (c : Thread nD τ) ax fullShare x
            ∗ owns (c : Thread nD τ) ag fullShare g
            ∗ owns (c : Thread nD τ) aw fullShare w
            ∗ owns (c : Thread nD τ) af fullShare wf
            ∗ owns (c : Thread nD τ) oa fullShare (k0_pay3 (k0_pay1 x g) w)
            ∗ owns (c : Thread nD τ) ob fullShare b
            ∗ owns (c : Thread nD τ) ol fullShare (k0_pay2 wf (k0_pay1 x g))
            ∗ owns (c : Thread nD τ) sn fullShare (k0_pay1 x g)
            ∗ tbPt0 c tbM0_0 tb) -∗ K ⟨⟩))
      ⊢ wp frame (wpE (defs₀ (F := F)) Variants.none c none) E
        (cc0_in_proj i tbM0_0 htbM0_0 ax hax ag hag aw haw af haf oa hoa ob hob ol hol sn hsn) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%d7, %f7, -, H7⟩, HT, Hk⟩
  obtain rfl := hax.eq_unread hf0; obtain rfl := hag.eq_unread hf1; obtain rfl := haw.eq_unread hf2; obtain rfl := haf.eq_unread hf3; obtain rfl := hob.eq_unread hf5
  sl_exec (disch := first | sl_exact hc0 | sl_exact hc1 | sl_exact hc2)
  sl_step
  iapply Hk
  isplitl [H0]
  · iexists _; isplitr; · ipureintro; exact hax.read_unread _
    iexact H0
  isplitl [H1]
  · iexists _; isplitr; · ipureintro; exact hag.read_unread _
    iexact H1
  isplitl [H2]
  · iexists _; isplitr; · ipureintro; exact haw.read_unread _
    iexact H2
  isplitl [H3]
  · iexists _; isplitr; · ipureintro; exact haf.read_unread _
    iexact H3
  isplitl [H4]
  · iexists _; isplitr; swap; · iexact H4
    ipureintro
    exact (View.read_writes_full oa.view _ _ _ _).trans (congrArg₂ k0_pay3
      ((View.readCov_full sn.view _ _ _ _).trans (congrArg₂ k0_pay1 ((View.readAt_full ax.view _ _).trans (hax.read_unread _)) ((View.readAt_full ag.view _ _).trans (hag.read_unread _))))
      ((View.readAt_full aw.view _ _).trans (haw.read_unread _)))
  isplitl [H5]
  · iexists _; isplitr; · ipureintro; exact hob.read_unread _
    iexact H5
  isplitl [H6]
  · iexists _; isplitr; swap; · iexact H6
    ipureintro
    exact (View.read_writes_full ol.view _ _ _ _).trans (congrArg₂ k0_pay2
      ((View.readAt_full af.view _ _).trans (haf.read_unread _))
      ((View.readCov_full sn.view _ _ _ _).trans (congrArg₂ k0_pay1 ((View.readAt_full ax.view _ _).trans (hax.read_unread _)) ((View.readAt_full ag.view _ _).trans (hag.read_unread _)))))
  isplitl [H7]
  · iexists _; isplitr; swap; · iexact H7
    ipureintro
    exact (View.read_writes_full sn.view _ _ _ _).trans (congrArg₂ k0_pay1 ((View.readAt_full ax.view _ _).trans (hax.read_unread _)) ((View.readAt_full ag.view _ _).trans (hag.read_unread _)))
  iexact HT

set_option maxHeartbeats 1000000 in
/-- The body at a later step of the f32 tiles: it writes the tile's product with the normalized rows the scratch
    holds, and leaves the other two results' buffers as they were. -/
theorem run_f32 (c : Dev nD) (i : grid0.Coords) (ax : Memref sig .tc .vmem S1024x2048 .f32) (hax : ax.IsWhole) (ag : Memref sig .tc .vmem S1x2048 .f32) (hag : ag.IsWhole)
    (aw : Memref sig .tc .vmem S1x1024x2048 .f32) (haw : aw.IsWhole) (af : Memref sig .tc .vmem S1x128x2048 .f32) (haf : af.IsWhole)
    (oa : Memref sig .tc .vmem S1024x1024 .f32) (hoa : oa.IsWhole) (ob : Memref sig .tc .vmem S1024x1024 .bf16) (hob : ob.IsWhole)
    (ol : Memref sig .tc .vmem S1024x128 .f32) (hol : ol.IsWhole) (sn : Memref sig .tc .vmem S1024x2048 .bf16) (hsn : sn.IsWhole)
    (hc0 : ¬cond0_0 i) (hc1 : cond0_1 i) (hc2 : ¬cond0_2 i)
    (x : Vec F S1024x2048 .f32) (g : Vec F S1x2048 .f32) (w : Vec F S1x1024x2048 .f32) (wf : Vec F S1x128x2048 .f32)
    (b : Vec F S1024x1024 .bf16) (l : Vec F S1024x128 .f32) (s : Vec F S1024x2048 .bf16) (tb : TbBuf0 (F := F) c tbM0_0) (E : Set ℕ) (K : PUnit → sProp 𝕄) :
    iprop(owns (c : Thread nD τ) ax fullShare x
        ∗ owns (c : Thread nD τ) ag fullShare g
        ∗ owns (c : Thread nD τ) aw fullShare w
        ∗ owns (c : Thread nD τ) af fullShare wf
        ∗ (∃ d, owns (c : Thread nD τ) oa fullShare d)
        ∗ owns (c : Thread nD τ) ob fullShare b
        ∗ owns (c : Thread nD τ) ol fullShare l
        ∗ owns (c : Thread nD τ) sn fullShare s
        ∗ tbPt0 c tbM0_0 tb
        ∗ (iprop(owns (c : Thread nD τ) ax fullShare x
            ∗ owns (c : Thread nD τ) ag fullShare g
            ∗ owns (c : Thread nD τ) aw fullShare w
            ∗ owns (c : Thread nD τ) af fullShare wf
            ∗ owns (c : Thread nD τ) oa fullShare (k0_pay3 s w)
            ∗ owns (c : Thread nD τ) ob fullShare b
            ∗ owns (c : Thread nD τ) ol fullShare l
            ∗ owns (c : Thread nD τ) sn fullShare s
            ∗ tbPt0 c tbM0_0 tb) -∗ K ⟨⟩))
      ⊢ wp frame (wpE (defs₀ (F := F)) Variants.none c none) E
        (cc0_in_proj i tbM0_0 htbM0_0 ax hax ag hag aw haw af haf oa hoa ob hob ol hol sn hsn) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, HT, Hk⟩
  obtain rfl := hax.eq_unread hf0; obtain rfl := hag.eq_unread hf1; obtain rfl := haw.eq_unread hf2; obtain rfl := haf.eq_unread hf3; obtain rfl := hob.eq_unread hf5; obtain rfl := hol.eq_unread hf6; obtain rfl := hsn.eq_unread hf7
  sl_exec (disch := first | sl_exact hc0 | sl_exact hc1 | sl_exact hc2)
  sl_step
  iapply Hk
  isplitl [H0]
  · iexists _; isplitr; · ipureintro; exact hax.read_unread _
    iexact H0
  isplitl [H1]
  · iexists _; isplitr; · ipureintro; exact hag.read_unread _
    iexact H1
  isplitl [H2]
  · iexists _; isplitr; · ipureintro; exact haw.read_unread _
    iexact H2
  isplitl [H3]
  · iexists _; isplitr; · ipureintro; exact haf.read_unread _
    iexact H3
  isplitl [H4]
  · iexists _; isplitr; swap; · iexact H4
    ipureintro
    exact (View.read_writes_full oa.view _ _ _ _).trans (congrArg₂ k0_pay3
      ((View.readAt_full sn.view _ _).trans (hsn.read_unread _))
      ((View.readAt_full aw.view _ _).trans (haw.read_unread _)))
  isplitl [H5]
  · iexists _; isplitr; · ipureintro; exact hob.read_unread _
    iexact H5
  isplitl [H6]
  · iexists _; isplitr; · ipureintro; exact hol.read_unread _
    iexact H6
  isplitl [H7]
  · iexists _; isplitr; · ipureintro; exact hsn.read_unread _
    iexact H7
  iexact HT

set_option maxHeartbeats 1000000 in
/-- The body at a step of the bf16 tiles: it writes the tile's product with the normalized rows the scratch holds,
    rounded, and leaves the other two results' buffers as they were. -/
theorem run_bf16 (c : Dev nD) (i : grid0.Coords) (ax : Memref sig .tc .vmem S1024x2048 .f32) (hax : ax.IsWhole) (ag : Memref sig .tc .vmem S1x2048 .f32) (hag : ag.IsWhole)
    (aw : Memref sig .tc .vmem S1x1024x2048 .f32) (haw : aw.IsWhole) (af : Memref sig .tc .vmem S1x128x2048 .f32) (haf : af.IsWhole)
    (oa : Memref sig .tc .vmem S1024x1024 .f32) (hoa : oa.IsWhole) (ob : Memref sig .tc .vmem S1024x1024 .bf16) (hob : ob.IsWhole)
    (ol : Memref sig .tc .vmem S1024x128 .f32) (hol : ol.IsWhole) (sn : Memref sig .tc .vmem S1024x2048 .bf16) (hsn : sn.IsWhole)
    (hc0 : ¬cond0_0 i) (hc1 : ¬cond0_1 i) (hc2 : cond0_2 i)
    (x : Vec F S1024x2048 .f32) (g : Vec F S1x2048 .f32) (w : Vec F S1x1024x2048 .f32) (wf : Vec F S1x128x2048 .f32)
    (a : Vec F S1024x1024 .f32) (l : Vec F S1024x128 .f32) (s : Vec F S1024x2048 .bf16) (tb : TbBuf0 (F := F) c tbM0_0) (E : Set ℕ) (K : PUnit → sProp 𝕄) :
    iprop(owns (c : Thread nD τ) ax fullShare x
        ∗ owns (c : Thread nD τ) ag fullShare g
        ∗ owns (c : Thread nD τ) aw fullShare w
        ∗ owns (c : Thread nD τ) af fullShare wf
        ∗ owns (c : Thread nD τ) oa fullShare a
        ∗ (∃ d, owns (c : Thread nD τ) ob fullShare d)
        ∗ owns (c : Thread nD τ) ol fullShare l
        ∗ owns (c : Thread nD τ) sn fullShare s
        ∗ tbPt0 c tbM0_0 tb
        ∗ (iprop(owns (c : Thread nD τ) ax fullShare x
            ∗ owns (c : Thread nD τ) ag fullShare g
            ∗ owns (c : Thread nD τ) aw fullShare w
            ∗ owns (c : Thread nD τ) af fullShare wf
            ∗ owns (c : Thread nD τ) oa fullShare a
            ∗ owns (c : Thread nD τ) ob fullShare (k0_pay4 s w)
            ∗ owns (c : Thread nD τ) ol fullShare l
            ∗ owns (c : Thread nD τ) sn fullShare s
            ∗ tbPt0 c tbM0_0 tb) -∗ K ⟨⟩))
      ⊢ wp frame (wpE (defs₀ (F := F)) Variants.none c none) E
        (cc0_in_proj i tbM0_0 htbM0_0 ax hax ag hag aw haw af haf oa hoa ob hob ol hol sn hsn) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, HT, Hk⟩
  obtain rfl := hax.eq_unread hf0; obtain rfl := hag.eq_unread hf1; obtain rfl := haw.eq_unread hf2; obtain rfl := haf.eq_unread hf3; obtain rfl := hoa.eq_unread hf4; obtain rfl := hol.eq_unread hf6; obtain rfl := hsn.eq_unread hf7
  sl_exec (disch := first | sl_exact hc0 | sl_exact hc1 | sl_exact hc2)
  sl_step
  iapply Hk
  isplitl [H0]
  · iexists _; isplitr; · ipureintro; exact hax.read_unread _
    iexact H0
  isplitl [H1]
  · iexists _; isplitr; · ipureintro; exact hag.read_unread _
    iexact H1
  isplitl [H2]
  · iexists _; isplitr; · ipureintro; exact haw.read_unread _
    iexact H2
  isplitl [H3]
  · iexists _; isplitr; · ipureintro; exact haf.read_unread _
    iexact H3
  isplitl [H4]
  · iexists _; isplitr; · ipureintro; exact hoa.read_unread _
    iexact H4
  isplitl [H5]
  · iexists _; isplitr; swap; · iexact H5
    ipureintro
    exact (View.read_writes_full ob.view _ _ _ _).trans (congrArg₂ k0_pay4
      ((View.readAt_full sn.view _ _).trans (hsn.read_unread _))
      ((View.readAt_full aw.view _ _).trans (haw.read_unread _)))
  isplitl [H6]
  · iexists _; isplitr; · ipureintro; exact hol.read_unread _
    iexact H6
  isplitl [H7]
  · iexists _; isplitr; · ipureintro; exact hsn.read_unread _
    iexact H7
  iexact HT

end Cert.Kernel.InProj

end
-- ==== Proof.Track.lean ====
module

public import proofs.«01_k».proof.Proof.Runs

@[expose] public section

set_option maxRecDepth 16384

noncomputable section

namespace Cert.Kernel.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The schedule of the three results -/

/-- The f32 result's block is written back after each of its first three tiles and at the end of the row block. -/
theorem flush_f32 : ∀ t : Fin grid0.N, Pipeline.Window.flushOf grid0 true cc0_transform_4 t = decide (t.val % 14 ≤ 2 ∨ t.val % 14 = 13) := by
  decide +kernel

/-- The bf16 result's block is written back at each of its tiles. -/
theorem flush_bf16 : ∀ t : Fin grid0.N, Pipeline.Window.flushOf grid0 true cc0_transform_5 t = decide (4 ≤ t.val % 14) := by
  decide +kernel

/-- The forget gates' block is written back at the end of the row block. -/
theorem flush_logits : ∀ t : Fin grid0.N, Pipeline.Window.flushOf grid0 true cc0_transform_6 t = decide (t.val % 14 = 13) := by
  decide +kernel

theorem idle_f32 : ∀ t : Fin grid0.N, idle0 4 (grid0.coords t) = decide (4 ≤ t.val % 14) := by decide +kernel
theorem idle_bf16 : ∀ t : Fin grid0.N, idle0 5 (grid0.coords t) = decide (t.val % 14 ≤ 3) := by decide +kernel
theorem idle_logits : ∀ t : Fin grid0.N, idle0 6 (grid0.coords t) = decide (t.val % 14 ≠ 0) := by decide +kernel

variable (m : (ℓ : Loc nD τ sig) → Buf (Elt F) ℓ) (ρ : Dev nD → PrngReg)

theorem fresh_f32 (hO : Ok m) (n : ℕ) (hn : n ≤ (cfgM m hO).N) : (cfgM m hO).fresh 4 n = decide (n % 14 ≤ 3) := by
  refine Pipeline.Cfg.fresh_tab (cfgM m hO) 4 (fun n => decide (n % 14 ≤ 3)) rfl (fun t => ?_) n hn
  rw [show ((cfgM m hO).win 4).flush t = decide (t.val % 14 ≤ 2 ∨ t.val % 14 = 13) from flush_f32 t,
    show (cfgM m hO).idle 4 ((cfgM m hO).grid.coords t) = decide (4 ≤ t.val % 14) from idle_f32 t]
  rw [← Bool.decide_and, ← Bool.decide_or]
  exact decide_eq_decide.mpr (by omega)

theorem fresh_logits (hO : Ok m) (n : ℕ) (hn : n ≤ (cfgM m hO).N) : (cfgM m hO).fresh 6 n = decide (n % 14 = 0) := by
  refine Pipeline.Cfg.fresh_tab (cfgM m hO) 6 (fun n => decide (n % 14 = 0)) rfl (fun t => ?_) n hn
  rw [show ((cfgM m hO).win 6).flush t = decide (t.val % 14 = 13) from flush_logits t,
    show (cfgM m hO).idle 6 ((cfgM m hO).grid.coords t) = decide (t.val % 14 ≠ 0) from idle_logits t]
  rw [← Bool.decide_and, ← Bool.decide_or]
  exact decide_eq_decide.mpr (by omega)

/-! ## What the buffers hold, point by point -/

/-- Point `n` of the grid (the last one, past the end). -/
def pt (n : ℕ) : Fin grid0.N := ⟨min n 111, by rw [N_0]; omega⟩

theorem pt_val (t : Fin grid0.N) : pt t.val = t := by
  have h : t.val < 112 := lt_of_lt_of_eq t.isLt N_0
  exact Fin.ext (by show min t.val 111 = t.val; omega)

/-- The normalized rows the scratch holds at point `n`: those of its row block's first step. -/
def rows (hO : Ok m) (c : Dev nD) (n : ℕ) : Vec F S1024x2048 .bf16 :=
  k0_pay1 (iblk m hO c 0 (pt (14 * (n / 14)))) (iblk m hO c 1 (pt (14 * (n / 14))))

/-- The f32 tile last written by point `n`. -/
def tileF (hO : Ok m) (c : Dev nD) (n : ℕ) : Vec F S1024x1024 .f32 :=
  k0_pay3 (rows m hO c n) (iblk m hO c 2 (pt (14 * (n / 14) + min (n % 14) 3)))

/-- The bf16 tile written at point `n` (before the first, the first). -/
def tileB (hO : Ok m) (c : Dev nD) (n : ℕ) : Vec F S1024x1024 .bf16 :=
  k0_pay4 (rows m hO c n) (iblk m hO c 2 (pt (14 * (n / 14) + max (n % 14) 4)))

/-- The forget gates' logits of point `n`'s row block. -/
def logits (hO : Ok m) (c : Dev nD) (n : ℕ) : Vec F S1024x128 .f32 :=
  k0_pay2 (iblk m hO c 3 (pt (14 * (n / 14)))) (rows m hO c n)

/-- The invariant: past a row block's first step the scratch holds the block's normalized rows. -/
def inv (hO : Ok m) (c : Dev nD) (n : ℕ) : sProp 𝕄 :=
  iprop(((∃ d, ⌜n % 14 ≠ 0 → d = rows m hO c n⌝ ∗ owns (c : Thread nD τ) scM0_0 fullShare d) ∗ (∃ r, prngReg c r))
    ∗ Pipeline.ΦT pre0 (tbl m) c)

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => tileF m hO c t.val
    | ⟨5, _⟩ => tileB m hO c t.val
    | ⟨6, _⟩ => logits m hO c t.val
  Φ t := inv m hO c t.val
  q w := Pipeline.shareOf spec0 w
  owed _ := 0

theorem A_eq (hO : Ok m) (c : Dev nD) (w : Fin (cfgM m hO).W) : (dats m hO 0 c).A w = V m c (Pipeline.arrRef spec0 w) := by
  dsimp only [dats]
theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = tileF m hO c t.val := by dsimp only [dats]; try rfl
theorem after_5 (hO : Ok m) (c : Dev nD) (t : Fin (cfgM m hO).N) : (dats m hO 0 c).after 5 t = tileB m hO c t.val := by dsimp only [dats]; try rfl
theorem after_6 (hO : Ok m) (c : Dev nD) (t : Fin (cfgM m hO).N) : (dats m hO 0 c).after 6 t = logits m hO c t.val := by dsimp only [dats]; try rfl

theorem before_0 (hO : Ok m) (c : Dev nD) (t : Fin (cfgM m hO).N) (d) : (dats m hO 0 c).before 0 t d = iblk m hO c 0 t :=
  before0_0_of m hO (dats m hO 0 c) (A_eq m hO c 0) (after_0 m hO c) t d
theorem before_1 (hO : Ok m) (c : Dev nD) (t : Fin (cfgM m hO).N) (d) : (dats m hO 0 c).before 1 t d = iblk m hO c 1 t :=
  before0_1_of m hO (dats m hO 0 c) (A_eq m hO c 1) (after_1 m hO c) t d
theorem before_2 (hO : Ok m) (c : Dev nD) (t : Fin (cfgM m hO).N) (d) : (dats m hO 0 c).before 2 t d = iblk m hO c 2 t :=
  before0_2_of m hO (dats m hO 0 c) (A_eq m hO c 2) (after_2 m hO c) t d
theorem before_3 (hO : Ok m) (c : Dev nD) (t : Fin (cfgM m hO).N) (d) : (dats m hO 0 c).before 3 t d = iblk m hO c 3 t :=
  before0_3_of m hO (dats m hO 0 c) (A_eq m hO c 3) (after_3 m hO c) t d

theorem rows_congr (hO : Ok m) (c : Dev nD) {n k : ℕ} (h : n / 14 = k / 14) : rows m hO c n = rows m hO c k := by
  unfold rows; rw [h]
theorem tileF_step (hO : Ok m) (c : Dev nD) {n : ℕ} (h : 4 ≤ n % 14) : tileF m hO c n = tileF m hO c (n - 1) := by
  unfold tileF
  rw [rows_congr m hO c (show n / 14 = (n - 1) / 14 by omega),
    show 14 * (n / 14) + min (n % 14) 3 = 14 * ((n - 1) / 14) + min ((n - 1) % 14) 3 by omega]
theorem logits_step (hO : Ok m) (c : Dev nD) {n : ℕ} (h : n % 14 ≠ 0) : logits m hO c n = logits m hO c (n - 1) := by
  unfold logits
  rw [rows_congr m hO c (show n / 14 = (n - 1) / 14 by omega), show n / 14 = (n - 1) / 14 by omega]

/-- After its tiles the f32 result's buffer keeps the last one. -/
theorem before_4 (hO : Ok m) (c : Dev nD) (t : Fin (cfgM m hO).N) (h : 4 ≤ t.val % 14) (d) :
    (dats m hO 0 c).before 4 t d = (dats m hO 0 c).after 4 t := by
  rw [(dats m hO 0 c).before_out_traj 4 rfl (fun _ _ => rfl) (fun t _ hi _ => ?_) t.val t rfl d,
    fresh_f32 m hO t.val t.isLt.le, if_neg (fun hd => by have := of_decide_eq_true hd; omega)]
  · rw [after_4, after_4]; exact (tileF_step m hO c h).symm
  · rw [after_4, after_4]
    exact tileF_step m hO c (of_decide_eq_true ((idle_f32 t).symm.trans hi))

/-- After a row block's first step the forget gates' buffer keeps that step's logits. -/
theorem before_6 (hO : Ok m) (c : Dev nD) (t : Fin (cfgM m hO).N) (h : t.val % 14 ≠ 0) (d) :
    (dats m hO 0 c).before 6 t d = (dats m hO 0 c).after 6 t := by
  rw [(dats m hO 0 c).before_out_traj 6 rfl (fun _ _ => rfl) (fun t _ hi _ => ?_) t.val t rfl d,
    fresh_logits m hO t.val t.isLt.le, if_neg (by simpa using h)]
  · rw [after_6, after_6]; exact (logits_step m hO c h).symm
  · rw [after_6, after_6]
    exact logits_step m hO c (of_decide_eq_true ((idle_logits t).symm.trans hi))

end Cert.Kernel.InProj

end
-- ==== Proof.Table.lean ====
module

public import proofs.«01_k».proof.Proof.Setup
public import Idealize.ShloMosaic.Lib.StableHlo.RunRead
public import Idealize.ShloMosaic.Lib.StableHlo.ReadAt
public import Idealize.ShloMosaic.Lib.Pipeline.ValueKit

@[expose] public section

noncomputable section

namespace Cert.Kernel.InProj

open Idealize.ShloMosaic Idealize.ShloMosaic.TcCoe Idealize.ShloMosaic.Tactic
open Cert.Kernel Cert.Kernel.Gen

variable {F : FTy → Type} [FloatOps F] (m : (ℓ : Loc nD τ sig) → Buf (Elt F) ℓ)

/-- The weight row tile `j` of the in-projection begins at, in units of eight rows. -/
def startTile (j : ℕ) : ℕ := [0, 513, 641, 897, 128, 256, 384, 769, 1025, 1153, 1281, 1409, 1537, 1665].getD j 0

/-- The first weight row of tile `j`. -/
def startRow (j : ℕ) : ℕ := startTile j * 8

theorem quotient_eq (k : Fin 14) :
    Scalar.select
        (IntOp.andi
          (IntOp.cmpi .ne
            (if lit0 k = 0 then 0 else if (lit0 k).msb = true then -1 else 1)
            (if (8#32 : BitVec 32) = 0 then 0 else if (8#32 : BitVec 32).msb = true then (-1 : BitVec 32) else 1))
          (IntOp.cmpi .ne (IntOp.remsi ArithUnit.host (lit0 k) 8#32) 0#32))
        (IntOp.subi (IntOp.divsi ArithUnit.host (lit0 k) 8#32) 1#32)
        (IntOp.divsi ArithUnit.host (lit0 k) 8#32) = BitVec.ofNat 32 (startTile k.val) := by
  revert k; decide

theorem tbl_apply (x : S14.Idx) : tbl m 0 x = BitVec.ofNat 32 (startTile (x 0).val) := by
  unfold tbl
  show V m 0 main_v5 x = _
  unfold V
  after_reads_at
  have h := quotient_eq (S14.rowMajor x)
  rw [show (S14.rowMajor x).val = (x 0).val from Shape.rowMajor_val_one x] at h
  exact h

theorem startRow_bound : ∀ j : Fin 14, startRow j.val + 1024 ≤ 14344 := by decide

theorem muli_eq : ∀ j : Fin 14, Scalar.muli (BitVec.ofNat 32 (startTile j.val)) 8#32 = BitVec.ofNat 32 (startRow j.val) := by decide

theorem toNat_eq : ∀ j : Fin 14, (BitVec.ofNat 32 (startRow j.val)).toNat = startRow j.val := by decide

theorem toInt_dvd : ∀ j : Fin 14, (8 : Int) ∣ (BitVec.ofNat 32 (startRow j.val)).toInt := by decide

theorem index_toNat (i : grid0.Coords) : (Scalar.indexCast (BitVec.ofNat 32 (i 1).val) : Index).toNat = (i 1).val := by
  have h : (i 1).val < 14 := (i 1).isLt
  generalize (i 1).val = j at h
  interval_cases j <;> rfl

theorem first_val (i : grid0.Coords) (h) :
    (((Rect.unit (s := S14) (k0_off1 i) S1.size (k0_off1_inb i)).emb (Shape.Idx.first h)) 0).val = (i 1).val := by
  refine (ValueKit.rect_emb_unit_val (s := S14) (k0_off1 i) S1.size (k0_off1_inb i) (Shape.Idx.first h) 0).trans ?_
  show (k0_off1 i) 0 + 0 = _
  exact index_toNat i

theorem mult_eq (i : grid0.Coords) : k0_mult1 (tbl m) i = BitVec.ofNat 32 (startRow (i 1).val) := by
  have h : ∀ a, (![(Scalar.indexCast (BitVec.ofNat 32 (i 1).val) : Index).toNat] : Fin 1 → ℕ) a + 1 ≤ S14.size a := by
    intro a; rw [Subsingleton.elim a 0]; exact (congrArg (· + 1 ≤ S14.size 0) (index_toNat i)).mpr (i 1).isLt
  have hd : (tbl m).atD 0 ![(Scalar.indexCast (BitVec.ofNat 32 (i 1).val) : Index).toNat]
      = BitVec.ofNat 32 (startTile (i 1).val) := by
    refine (dif_pos h).trans ((tbl_apply m _).trans ?_)
    exact congrArg (fun n => BitVec.ofNat 32 (startTile n)) (index_toNat i)
  exact (congrArg (Scalar.muli · 8#32) hd).trans (muli_eq (i 1))

/-- The element window of the projection's weight tile begins at layer 1, the tile's first row, column 0. -/
theorem transform_2_eq (i : grid0.Coords) :
    cc0_transform_2 k0_off1_inb numel1_S1 (tbl m) i = ![1, startRow (i 1).val, 0] := by
  have hd : (tbl m).at 0 (Rect.unit (s := S14) (k0_off1 i) S1.size (k0_off1_inb i)) numel1_S1
      = BitVec.ofNat 32 (startTile (i 1).val) :=
    (tbl_apply m _).trans (congrArg (fun n => BitVec.ofNat 32 (startTile n)) (first_val i _))
  have hm := (congrArg (fun v => (Scalar.muli v 8#32).toNat) hd).trans
    ((congrArg BitVec.toNat (muli_eq (i 1))).trans (toNat_eq (i 1)))
  exact congrArg (fun n => ![1, n, 0]) hm

/-- The side condition on the table: every stated multiple holds and every weight tile is inside its layer. -/
theorem ok : Ok m := by
  refine ⟨fun i => ?_, fun i => ⟨fun a => ?_, .inl rfl⟩⟩
  · rw [mult_eq]; exact toInt_dvd (i 1)
  · rw [transform_2_eq]
    exact match a with
      | ⟨0, _⟩ => (by decide : 1 + 1 ≤ 4)
      | ⟨1, _⟩ => startRow_bound (i 1)
      | ⟨2, _⟩ => (by decide : 0 + 2048 ≤ 2048)

end Cert.Kernel.InProj

end
-- ==== Proof.Launch.lean ====
module

public import proofs.«01_k».proof.Proof.Track
public import proofs.«01_k».proof.Proof.Table

@[expose] public section

set_option maxRecDepth 16384

noncomputable section

namespace Cert.Kernel.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a point -/

/-- What the body finds at point `t`. -/
def found (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d)))

/-- What the body leaves at point `t`. -/
def left (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t)

/-- A window the body touches, or that is written back, is left at its named contents. -/
theorem leaves_named (hO : Ok m) (c : Dev nD) (w : Fin (cfgM m hO).W) (t : Fin (cfgM m hO).N)
    (hi : (cfgM m hO).idle w ((cfgM m hO).grid.coords t) = false) :
    owns (c : Thread nD τ) (((cfgM m hO).win w).stage ((cfgM m hO).slots t w)) fullShare ((dats m hO 0 c).after w t)
      ⊢ (dats m hO 0 c).leavesExact w t := by
  unfold Dat.leavesExact; rw [hi]

/-- A window the body does not touch, found at its named contents, is left at them. -/
theorem leaves_kept (hO : Ok m) (c : Dev nD) (w : Fin (cfgM m hO).W) (t : Fin (cfgM m hO).N)
    (hb : ∀ d, (dats m hO 0 c).before w t d = (dats m hO 0 c).after w t) :
    owns (c : Thread nD τ) (((cfgM m hO).win w).stage ((cfgM m hO).slots t w)) fullShare ((dats m hO 0 c).after w t)
      ⊢ (dats m hO 0 c).leavesExact w t := by
  unfold Dat.leavesExact
  cases (cfgM m hO).idle w ((cfgM m hO).grid.coords t) with
  | false => exact .rfl
  | true =>
    cases ((cfgM m hO).win w).flush t with
    | true => exact .rfl
    | false =>
      iintro H
      iexists ((dats m hO 0 c).after w t)
      rw [hb]
      iexact H

/-- A window the body does not touch and that is not written back is left as it was found. -/
theorem leaves_found (hO : Ok m) (c : Dev nD) (w : Fin (cfgM m hO).W) (t : Fin (cfgM m hO).N)
    (hi : (cfgM m hO).idle w ((cfgM m hO).grid.coords t) = true) (hf : ((cfgM m hO).win w).flush t = false) (d) :
    owns (c : Thread nD τ) (((cfgM m hO).win w).stage ((cfgM m hO).slots t w)) fullShare ((dats m hO 0 c).before w t d)
      ⊢ (dats m hO 0 c).leavesExact w t := by
  rw [(dats m hO 0 c).leavesExact_idle w t hi hf]
  iintro H
  iexists d
  iexact H

theorem not_flush_bf16 (hO : Ok m) (t : Fin (cfgM m hO).N) (h : t.val % 14 ≤ 3) : ((cfgM m hO).win 5).flush t = false :=
  (flush_bf16 t).trans (decide_eq_false (by omega))

/-- The points of a row block read the row block its first step reads. -/
theorem rows_first (hO : Ok m) (c : Dev nD) (t : Fin grid0.N) (h : t.val % 14 = 0) :
    rows m hO c t.val = k0_pay1 (iblk m hO c 0 t) (iblk m hO c 1 t) := by
  unfold rows; rw [show 14 * (t.val / 14) = t.val by omega, pt_val]
theorem tileF_first (hO : Ok m) (c : Dev nD) (t : Fin grid0.N) (h : t.val % 14 ≤ 3) :
    tileF m hO c t.val = k0_pay3 (rows m hO c t.val) (iblk m hO c 2 t) := by
  unfold tileF; rw [show 14 * (t.val / 14) + min (t.val % 14) 3 = t.val by omega, pt_val]
theorem tileB_last (hO : Ok m) (c : Dev nD) (t : Fin grid0.N) (h : 4 ≤ t.val % 14) :
    tileB m hO c t.val = k0_pay4 (rows m hO c t.val) (iblk m hO c 2 t) := by
  unfold tileB; rw [show 14 * (t.val / 14) + max (t.val % 14) 4 = t.val by omega, pt_val]
theorem logits_first (hO : Ok m) (c : Dev nD) (t : Fin grid0.N) (h : t.val % 14 = 0) :
    logits m hO c t.val = k0_pay2 (iblk m hO c 3 t) (rows m hO c t.val) := by
  unfold logits; rw [show 14 * (t.val / 14) = t.val by omega, pt_val]

set_option maxHeartbeats 1600000 in
/-- The body at the first step of a row block. -/
theorem body_first (hO : Ok m) (c : Dev nD) (t : Fin (cfgM m hO).N) (h0 : t.val % 14 = 0) :
    found m hO c t ⊢ wp frame (wpE (defs₀ (F := F)) Variants.none c none) Set.univ (bodyAt0 (adm m hO) t) (fun _ => left m hO c t) := by
  unfold found left bodyAt0
  simp only [before_0, before_1, before_2, before_3]
  rw [show (dats m hO 0 c).Φ t.castSucc = inv m hO c t.val from rfl, show (dats m hO 0 c).Φ t.succ = inv m hO c (t.val + 1) from rfl,
    show (dats m hO 0 c).owesAt () t.succ = (dats m hO 0 c).owesAt () t.castSucc from rfl]
  unfold inv
  rw [PhiT0_eq]
  iintro ⟨⟨⟨⟨%ds, %hs, HS⟩, Hg⟩, HT⟩, Ho, ⟨%d0, H0⟩, ⟨%d1, H1⟩, ⟨%d2, H2⟩, ⟨%d3, H3⟩, ⟨%d4, H4⟩, ⟨%d5, H5⟩, ⟨%d6, H6⟩⟩
  iapply ((run_first c (grid0.coords t) _ _ _ _ _ _ _ _ _ _ _ _ _ _ _ _ ((hcond0_0 t).mpr h0) ((hcond0_1 t).mpr (by omega)) (fun h => by have := (hcond0_2 t).mp h; omega) (iblk m hO c 0 t) (iblk m hO c 1 t) (iblk m hO c 2 t) (iblk m hO c 3 t) ((dats m hO 0 c).before 5 t d5) (tbl m 0)) Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexists _; iexact H6
  isplitl [HS]; · iexists _; iexact HS
  isplitl [HT]; · iexact HT
  iintro ⟨H0, H1, H2, H3, H4, H5, H6, HS, HT⟩
  isplitl [HS Hg HT]
  · isplitl [HS Hg]
    · isplitl [HS]
      · iexists (k0_pay1 (iblk m hO c 0 t) (iblk m hO c 1 t)); isplitr; · ipureintro; exact fun h => (rows_first m hO c t h0).symm.trans (rows_congr m hO c (n := t.val) (k := t.val + 1) (by omega))
        iexact HS
      iexact Hg
    iexact HT
  isplitl [Ho]; · iexact Ho
  isplitl [H0]; · iapply (leaves_named m hO c 0 t (liveAt0_0 m hO t)); rw [after_0]; iexact H0
  isplitl [H1]; · iapply (leaves_named m hO c 1 t (liveAt0_1 m hO t)); rw [after_1]; iexact H1
  isplitl [H2]; · iapply (leaves_named m hO c 2 t (liveAt0_2 m hO t)); rw [after_2]; iexact H2
  isplitl [H3]; · iapply (leaves_named m hO c 3 t (liveAt0_3 m hO t)); rw [after_3]; iexact H3
  isplitl [H4]; · iapply (leaves_named m hO c 4 t ((idle_f32 t).trans (decide_eq_false (by omega)))); rw [after_4, tileF_first m hO c t (by omega), rows_first m hO c t h0]; iexact H4
  isplitl [H5]; · iapply (leaves_found m hO c 5 t ((idle_bf16 t).trans (decide_eq_true (by omega))) (not_flush_bf16 m hO t (by omega)) d5); iexact H5
  iapply (leaves_named m hO c 6 t ((idle_logits t).trans (decide_eq_false (by omega)))); rw [after_6, logits_first m hO c t h0, rows_first m hO c t h0]; iexact H6

set_option maxHeartbeats 1600000 in
/-- The body at the other f32 tiles. -/
theorem body_f32 (hO : Ok m) (c : Dev nD) (t : Fin (cfgM m hO).N) (h0 : t.val % 14 ≠ 0) (h1 : t.val % 14 ≤ 3) :
    found m hO c t ⊢ wp frame (wpE (defs₀ (F := F)) Variants.none c none) Set.univ (bodyAt0 (adm m hO) t) (fun _ => left m hO c t) := by
  unfold found left bodyAt0
  simp only [before_0, before_1, before_2, before_3]
  rw [show (dats m hO 0 c).Φ t.castSucc = inv m hO c t.val from rfl, show (dats m hO 0 c).Φ t.succ = inv m hO c (t.val + 1) from rfl,
    show (dats m hO 0 c).owesAt () t.succ = (dats m hO 0 c).owesAt () t.castSucc from rfl]
  unfold inv
  rw [PhiT0_eq]
  iintro ⟨⟨⟨⟨%ds, %hs, HS⟩, Hg⟩, HT⟩, Ho, ⟨%d0, H0⟩, ⟨%d1, H1⟩, ⟨%d2, H2⟩, ⟨%d3, H3⟩, ⟨%d4, H4⟩, ⟨%d5, H5⟩, ⟨%d6, H6⟩⟩
  obtain rfl := hs h0
  rw [before_6 m hO c t h0 d6]
  iapply ((run_f32 c (grid0.coords t) _ _ _ _ _ _ _ _ _ _ _ _ _ _ _ _ (fun h => h0 ((hcond0_0 t).mp h)) ((hcond0_1 t).mpr h1) (fun h => by have := (hcond0_2 t).mp h; omega) (iblk m hO c 0 t) (iblk m hO c 1 t) (iblk m hO c 2 t) (iblk m hO c 3 t) ((dats m hO 0 c).before 5 t d5) ((dats m hO 0 c).after 6 t) (rows m hO c t.val) (tbl m 0)) Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [HS]; · iexact HS
  isplitl [HT]; · iexact HT
  iintro ⟨H0, H1, H2, H3, H4, H5, H6, HS, HT⟩
  isplitl [HS Hg HT]
  · isplitl [HS Hg]
    · isplitl [HS]
      · iexists (rows m hO c t.val); isplitr; · ipureintro; exact fun h => rows_congr m hO c (n := t.val) (k := t.val + 1) (by omega)
        iexact HS
      iexact Hg
    iexact HT
  isplitl [Ho]; · iexact Ho
  isplitl [H0]; · iapply (leaves_named m hO c 0 t (liveAt0_0 m hO t)); rw [after_0]; iexact H0
  isplitl [H1]; · iapply (leaves_named m hO c 1 t (liveAt0_1 m hO t)); rw [after_1]; iexact H1
  isplitl [H2]; · iapply (leaves_named m hO c 2 t (liveAt0_2 m hO t)); rw [after_2]; iexact H2
  isplitl [H3]; · iapply (leaves_named m hO c 3 t (liveAt0_3 m hO t)); rw [after_3]; iexact H3
  isplitl [H4]; · iapply (leaves_named m hO c 4 t ((idle_f32 t).trans (decide_eq_false (by omega)))); rw [after_4, tileF_first m hO c t h1]; iexact H4
  isplitl [H5]; · iapply (leaves_found m hO c 5 t ((idle_bf16 t).trans (decide_eq_true (by omega))) (not_flush_bf16 m hO t (by omega)) d5); iexact H5
  iapply (leaves_kept m hO c 6 t (before_6 m hO c t h0)); iexact H6

set_option maxHeartbeats 1600000 in
/-- The body at the bf16 tiles. -/
theorem body_bf16 (hO : Ok m) (c : Dev nD) (t : Fin (cfgM m hO).N) (h0 : t.val % 14 ≠ 0) (h1 : ¬t.val % 14 ≤ 3) :
    found m hO c t ⊢ wp frame (wpE (defs₀ (F := F)) Variants.none c none) Set.univ (bodyAt0 (adm m hO) t) (fun _ => left m hO c t) := by
  unfold found left bodyAt0
  simp only [before_0, before_1, before_2, before_3]
  rw [show (dats m hO 0 c).Φ t.castSucc = inv m hO c t.val from rfl, show (dats m hO 0 c).Φ t.succ = inv m hO c (t.val + 1) from rfl,
    show (dats m hO 0 c).owesAt () t.succ = (dats m hO 0 c).owesAt () t.castSucc from rfl]
  unfold inv
  rw [PhiT0_eq]
  iintro ⟨⟨⟨⟨%ds, %hs, HS⟩, Hg⟩, HT⟩, Ho, ⟨%d0, H0⟩, ⟨%d1, H1⟩, ⟨%d2, H2⟩, ⟨%d3, H3⟩, ⟨%d4, H4⟩, ⟨%d5, H5⟩, ⟨%d6, H6⟩⟩
  obtain rfl := hs h0
  rw [before_6 m hO c t h0 d6, before_4 m hO c t (by omega) d4]
  iapply ((run_bf16 c (grid0.coords t) _ _ _ _ _ _ _ _ _ _ _ _ _ _ _ _ (fun h => h0 ((hcond0_0 t).mp h)) (fun h => h1 ((hcond0_1 t).mp h)) ((hcond0_2 t).mpr (by omega)) (iblk m hO c 0 t) (iblk m hO c 1 t) (iblk m hO c 2 t) (iblk m hO c 3 t) ((dats m hO 0 c).after 4 t) ((dats m hO 0 c).after 6 t) (rows m hO c t.val) (tbl m 0)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS]; · iexact HS
  isplitl [HT]; · iexact HT
  iintro ⟨H0, H1, H2, H3, H4, H5, H6, HS, HT⟩
  isplitl [HS Hg HT]
  · isplitl [HS Hg]
    · isplitl [HS]
      · iexists (rows m hO c t.val); isplitr; · ipureintro; exact fun h => rows_congr m hO c (n := t.val) (k := t.val + 1) (by omega)
        iexact HS
      iexact Hg
    iexact HT
  isplitl [Ho]; · iexact Ho
  isplitl [H0]; · iapply (leaves_named m hO c 0 t (liveAt0_0 m hO t)); rw [after_0]; iexact H0
  isplitl [H1]; · iapply (leaves_named m hO c 1 t (liveAt0_1 m hO t)); rw [after_1]; iexact H1
  isplitl [H2]; · iapply (leaves_named m hO c 2 t (liveAt0_2 m hO t)); rw [after_2]; iexact H2
  isplitl [H3]; · iapply (leaves_named m hO c 3 t (liveAt0_3 m hO t)); rw [after_3]; iexact H3
  isplitl [H4]; · iapply (leaves_kept m hO c 4 t (before_4 m hO c t (by omega))); iexact H4
  isplitl [H5]; · iapply (leaves_named m hO c 5 t ((idle_bf16 t).trans (decide_eq_false (by omega)))); rw [after_5, tileB_last m hO c t (by omega)]; iexact H5
  iapply (leaves_kept m hO c 6 t (before_6 m hO c t h0)); iexact H6

theorem body_at (hO : Ok m) (c : Dev nD) (t : Fin (cfgM m hO).N) :
    found m hO c t ⊢ wp frame (wpE (defs₀ (F := F)) Variants.none c none) Set.univ (bodyAt0 (adm m hO) t) (fun _ => left m hO c t) := by
  by_cases h0 : t.val % 14 = 0
  · exact body_first m hO c t h0
  by_cases h1 : t.val % 14 ≤ 3
  · exact body_f32 m hO c t h0 h1
  · exact body_bf16 m hO c t h0 h1

theorem obligation (hO : Ok m) (c : Dev nD) : BodyObligation (dats (F := F) m hO 0 c) (defs₀ (F := F)) Variants.none () Set.univ := fun t => by
  rw [bigSep_W0, bigSep_W0, defs₀_row m hO]
  exact triple_restated (body_at m hO c t) rfl .rfl fun _ => .rfl

/-! ## The run -/

theorem enter (hO : Ok m) (c : Dev nD) : iprop(Pipeline.ΦA spec0 c ∗ Pipeline.ΦT pre0 (tbl m) c) ⊢ inv m hO c 0 := by
  unfold inv
  rw [PhiA0_eq]
  iintro ⟨⟨⟨%d, HS⟩, Hg⟩, HT⟩
  isplitl [HS Hg]
  · isplitl [HS]
    · iexists d; isplitr; · ipureintro; exact fun h => absurd (Nat.zero_mod 14) h
      iexact HS
    iexact Hg
  iexact HT

theorem exits (hO : Ok m) (c : Dev nD) (n : ℕ) : inv m hO c n ⊢ Pipeline.ΦA spec0 c := by
  unfold inv
  rw [PhiA0_eq, PhiT0_eq]
  iintro ⟨⟨⟨%d, %hd, HS⟩, Hg⟩, HT⟩
  isplitl [HS]
  · iexists d; iexact HS
  iexact Hg

set_option backward.isDefEq.respectTransparency.types false in
/-- The call runs to its end: every result array holds what its write-backs leave, the other arrays are as the call
    found them, and every semaphore counter is at zero. -/
theorem run (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (obligation m hO c).loose) (hq := fun _ _ _ => rfl)
    (howed := fun _ _ => rfl) (V := V m) (hmain := hmain m Variants.none) (hA := A_eq m hO) (hpf := V_pre m)
    (hin := enter m hO) (hout := fun c => exits m hO c _)

end Cert.Kernel.InProj

end
-- ==== Proof.InProjValue.lean ====
module

public import proofs.«01_k».proof.Proof.Launch
import Idealize.ShloMosaic.Lib.Pointwise

@[expose] public section

set_option maxRecDepth 16384

noncomputable section

namespace Cert.Kernel.InProj

open Idealize.ShloMosaic Idealize.ShloMosaic.TcCoe Idealize.ShloMosaic.Tactic
open Cert.Kernel Cert.Kernel.Gen
open Idealize.ShloMosaic.Pipeline (Dat Cfg Window BodyObligation cellOf)

/-! ## The mathematics -/

/-- An entry of the normalized, scaled row: `x` over the root mean square of its row, times the layer's gain. -/
def normed (X : FVec Ideal S4x2048x2048 .f32) (G : FVec Ideal S4x2048 .f32) (b : Fin 4) (s k : Fin 2048) : Ideal .f32 :=
  X (ix3 b s k)
    * Ideal.rsqrt (Ideal.div (∑ q, X (ix3 b s q) * X (ix3 b s q)) (Ideal.ofBits .f32 0x45000000#32) + Ideal.ofBits .f32 0x358637BD#32)
    * G (ix2 1 k)

/-- An entry of the combined projection of the layer. -/
def proj (X : FVec Ideal S4x2048x2048 .f32) (G : FVec Ideal S4x2048 .f32) (W : FVec Ideal S4x2048x14344 .f32)
    (b : Fin 4) (s : Fin 2048) (n : Fin 14344) : Ideal .f32 :=
  ∑ k, normed X G b s k * W (ix3 1 k n)

theorem weight_lt (j c : ℕ) (hj : j < 14) (hc : c < 1024) : startRow j + c < 14344 := by
  have := startRow_bound ⟨j, hj⟩
  simp only at this
  omega

/-- The f32 result: the four f32 column groups of the projection, side by side. -/
def outF (X : FVec Ideal S4x2048x2048 .f32) (G : FVec Ideal S4x2048 .f32) (W : FVec Ideal S4x2048x14344 .f32) :
    FVec Ideal S8192x4096 .f32 := fun i =>
  have h0 : (i 0).val < 8192 := (i 0).isLt
  have h1 : (i 1).val < 4096 := (i 1).isLt
  proj X G W ⟨(i 0).val / 2048, by omega⟩ ⟨(i 0).val % 2048, by omega⟩
    ⟨startRow ((i 1).val / 1024) + (i 1).val % 1024, weight_lt _ _ (by omega) (by omega)⟩

/-- The bf16 result: the ten bf16 column groups of the projection, side by side. -/
def outB (X : FVec Ideal S4x2048x2048 .f32) (G : FVec Ideal S4x2048 .f32) (W : FVec Ideal S4x2048x14344 .f32) :
    FVec Ideal S8192x10240 .bf16 := fun i =>
  have h0 : (i 0).val < 8192 := (i 0).isLt
  have h1 : (i 1).val < 10240 := (i 1).isLt
  proj X G W ⟨(i 0).val / 2048, by omega⟩ ⟨(i 0).val % 2048, by omega⟩
    ⟨startRow (4 + (i 1).val / 1024) + (i 1).val % 1024, weight_lt _ _ (by omega) (by omega)⟩

/-- The forget gates' logits, eight columns filled up with zeros to the width of a register row. -/
def outL (X : FVec Ideal S4x2048x2048 .f32) (G : FVec Ideal S4x2048 .f32) (W : FVec Ideal S4x2048x14344 .f32) :
    FVec Ideal S8192x128 .f32 := fun i =>
  have h0 : (i 0).val < 8192 := (i 0).isLt
  have h1 : (i 1).val < 128 := (i 1).isLt
  if (i 1).val < 8 then
    proj X G W ⟨(i 0).val / 2048, by omega⟩ ⟨(i 0).val % 2048, by omega⟩ ⟨4096 + (i 1).val, by omega⟩
  else 0

/-! ## What the windows read -/

variable (m : (ℓ : Loc nD τ sig) → Buf (Elt Ideal) ℓ)

theorem x_read (c : Dev nD) (j : S8192x2048.Idx) :
    V m c main_v1 j = m ((c : Thread nD τ).loc main_arg0)
      (ix3 ⟨(j 0).val / 2048, by have h : (j 0).val < 8192 := (j 0).isLt; omega⟩ ⟨(j 0).val % 2048, by omega⟩ (j 1)) := by
  unfold V
  after_reads_at

theorem w_read (c : Dev nD) (j : S4x14344x2048.Idx) :
    V m c main_v0 j = m ((c : Thread nD τ).loc main_arg2) (ix3 (j 0) (j 2) (j 1)) := by
  unfold V
  after_reads_at

theorem g_read (c : Dev nD) (j : S1x2048.Idx) : V m c main_v4 j = m ((c : Thread nD τ).loc main_arg1) (ix2 1 (j 1)) := by
  unfold V
  after_reads_at

theorem index_x : ∀ t : Fin grid0.N, cc0_transform_0 (grid0.coords t) = ![t.val / 14, 0] := by decide +kernel
theorem tile_of : ∀ t : Fin grid0.N, (grid0.coords t 1).val = t.val % 14 := by decide +kernel

theorem place_x (hO : Ok m) (t : Fin grid0.N) (y : S1024x2048.Idx) (a : Fin 2) :
    ((((cfgM m hO).win 0).blk t).view.emb y a).val
      = (![t.val / 14, 0] : Fin 2 → ℕ) a * (![1024, 2048] : Fin 2 → ℕ) a + (y a).val := by
  rw [← index_x t]
  exact ValueKit.rect_emb_unit_val (s := ((cfgM m hO).win 0).shape) _ _ _ y a

theorem place_g (hO : Ok m) (t : Fin grid0.N) (y : S1x2048.Idx) (a : Fin 2) :
    ((((cfgM m hO).win 1).blk t).view.emb y a).val
      = (![0, 0] : Fin 2 → ℕ) a * (![1, 2048] : Fin 2 → ℕ) a + (y a).val := by
  exact ValueKit.rect_emb_unit_val (s := ((cfgM m hO).win 1).shape) _ _ _ y a

theorem place_w (hO : Ok m) (t : Fin grid0.N) (y : S1x1024x2048.Idx) (a : Fin 3) :
    ((((cfgM m hO).win 2).blk t).view.emb y a).val = (![1, startRow (t.val % 14), 0] : Fin 3 → ℕ) a + (y a).val := by
  rw [← tile_of t, ← transform_2_eq m (grid0.coords t)]
  exact ValueKit.rect_emb_unit_val (s := ((cfgM m hO).win 2).shape) _ _ _ y a

theorem place_f (hO : Ok m) (t : Fin grid0.N) (y : S1x128x2048.Idx) (a : Fin 3) :
    ((((cfgM m hO).win 3).blk t).view.emb y a).val = (![1, 4096, 0] : Fin 3 → ℕ) a + (y a).val := by
  exact ValueKit.rect_emb_unit_val (s := ((cfgM m hO).win 3).shape) _ _ _ y a

/-- The row block point `t` reads. -/
theorem x_block (hO : Ok m) (c : Dev nD) (t : Fin grid0.N) (i : Fin 1024) (k : Fin 2048) (b : Fin 4) (s : Fin 2048)
    (h : 2048 * b.val + s.val = 1024 * (t.val / 14) + i.val) :
    iblk m hO c 0 t (ix2 i k) = m ((c : Thread nD τ).loc main_arg0) (ix3 b s k) := by
  refine (x_read m c ((((cfgM m hO).win 0).blk t).view.emb (ix2 i k))).trans (congrArg _ ?_)
  have e0 := place_x m hO t (ix2 i k) 0
  have e1 := place_x m hO t (ix2 i k) 1
  simp at e0 e1
  funext a
  refine Fin.ext ?_
  match a with
  | ⟨0, _⟩ => show _ / 2048 = b.val; rw [e0]; omega
  | ⟨1, _⟩ => show _ % 2048 = s.val; rw [e0]; omega
  | ⟨2, _⟩ => exact e1

theorem g_block (hO : Ok m) (c : Dev nD) (t : Fin grid0.N) (k : Fin 2048) :
    iblk m hO c 1 t (ix2 0 k) = m ((c : Thread nD τ).loc main_arg1) (ix2 1 k) := by
  refine (g_read m c ((((cfgM m hO).win 1).blk t).view.emb (ix2 0 k))).trans (congrArg _ ?_)
  have e1 := place_g m hO t (ix2 0 k) 1
  simp at e1
  funext a
  refine Fin.ext ?_
  match a with
  | ⟨0, _⟩ => rfl
  | ⟨1, _⟩ => exact e1

/-- The weight tile point `t` reads: the rows of the transposed weights from its table entry on. -/
theorem w_block (hO : Ok m) (c : Dev nD) (t : Fin grid0.N) (i : Fin 1024) (k : Fin 2048) (n : Fin 14344)
    (h : n.val = startRow (t.val % 14) + i.val) :
    iblk m hO c 2 t (ix3 0 i k) = m ((c : Thread nD τ).loc main_arg2) (ix3 1 k n) := by
  refine (w_read m c ((((cfgM m hO).win 2).blk t).view.emb (ix3 0 i k))).trans (congrArg _ ?_)
  have e0 := place_w m hO t (ix3 0 i k) 0
  have e1 := place_w m hO t (ix3 0 i k) 1
  have e2 := place_w m hO t (ix3 0 i k) 2
  simp at e0 e1 e2
  funext a
  refine Fin.ext ?_
  match a with
  | ⟨0, _⟩ => exact e0
  | ⟨1, _⟩ => exact e2
  | ⟨2, _⟩ => exact e1.trans h.symm

theorem f_block (hO : Ok m) (c : Dev nD) (t : Fin grid0.N) (i : Fin 128) (k : Fin 2048) (n : Fin 14344)
    (h : n.val = 4096 + i.val) :
    iblk m hO c 3 t (ix3 0 i k) = m ((c : Thread nD τ).loc main_arg2) (ix3 1 k n) := by
  refine (w_read m c ((((cfgM m hO).win 3).blk t).view.emb (ix3 0 i k))).trans (congrArg _ ?_)
  have e0 := place_f m hO t (ix3 0 i k) 0
  have e1 := place_f m hO t (ix3 0 i k) 1
  have e2 := place_f m hO t (ix3 0 i k) 2
  simp at e0 e1 e2
  funext a
  refine Fin.ext ?_
  match a with
  | ⟨0, _⟩ => exact e0
  | ⟨1, _⟩ => exact e2
  | ⟨2, _⟩ => exact e1.trans h.symm

/-! ## What the body computes -/

theorem pay1_at (x : Vec Ideal S1024x2048 .f32) (g : Vec Ideal S1x2048 .f32) (i : Fin 1024) (k : Fin 2048) :
    k0_pay1 x g (ix2 i k) = x (ix2 i k)
      * Ideal.rsqrt (Ideal.div (∑ q, x (ix2 i q) * x (ix2 i q)) (Ideal.ofBits .f32 0x45000000#32) + Ideal.ofBits .f32 0x358637BD#32)
      * g (ix2 0 k) := by
  pointwise [k0_pay1]

theorem pay3_at (x : Vec Ideal S1024x2048 .bf16) (w : Vec Ideal S1x1024x2048 .f32) (i j : Fin 1024) :
    k0_pay3 x w (ix2 i j) = ∑ k, x (ix2 i k) * w (ix3 0 j k) := by
  pointwise [k0_pay3]

theorem pay4_at (x : Vec Ideal S1024x2048 .bf16) (w : Vec Ideal S1x1024x2048 .f32) (i j : Fin 1024) :
    k0_pay4 x w (ix2 i j) = ∑ k, x (ix2 i k) * w (ix3 0 j k) := by
  pointwise [k0_pay4]

theorem kept_row : ∀ j : Fin 128, IntOp.cmpi CmpIPredicate.slt (BitVec.ofNat 32 j.val) 8#32 = if j.val < 8 then 1#1 else 0#1 := by decide

theorem pay2_at (x : Vec Ideal S1024x2048 .bf16) (w : Vec Ideal S1x128x2048 .f32) (i : Fin 1024) (j : Fin 128) :
    k0_pay2 w x (ix2 i j) = if j.val < 8 then ∑ k, x (ix2 i k) * w (ix3 0 j k) else 0 := by
  pointwise [k0_pay2]
  rw [kept_row]
  by_cases h : j.val < 8
  · rw [if_pos h, if_pos h]; rfl
  · rw [if_neg h, if_neg h]; exact Finset.sum_eq_zero fun _ _ => rfl

section

variable (X : FVec Ideal S4x2048x2048 .f32) (G : FVec Ideal S4x2048 .f32) (W : FVec Ideal S4x2048x14344 .f32) (b : Fin 4) (s : Fin 2048)

theorem pay1_normed (x : Vec Ideal S1024x2048 .f32) (g : Vec Ideal S1x2048 .f32) (i : Fin 1024) (k : Fin 2048)
    (hx : ∀ q, x (ix2 i q) = X (ix3 b s q)) (hg : g (ix2 0 k) = G (ix2 1 k)) :
    k0_pay1 x g (ix2 i k) = normed X G b s k := by
  rw [pay1_at]; unfold normed; simp only [hx, hg]

theorem pay3_proj (x : Vec Ideal S1024x2048 .bf16) (w : Vec Ideal S1x1024x2048 .f32) (i j : Fin 1024) (n : Fin 14344)
    (hx : ∀ k, x (ix2 i k) = normed X G b s k) (hw : ∀ k, w (ix3 0 j k) = W (ix3 1 k n)) :
    k0_pay3 x w (ix2 i j) = proj X G W b s n := by
  rw [pay3_at]; unfold proj; simp only [hx, hw]

theorem pay4_proj (x : Vec Ideal S1024x2048 .bf16) (w : Vec Ideal S1x1024x2048 .f32) (i j : Fin 1024) (n : Fin 14344)
    (hx : ∀ k, x (ix2 i k) = normed X G b s k) (hw : ∀ k, w (ix3 0 j k) = W (ix3 1 k n)) :
    k0_pay4 x w (ix2 i j) = proj X G W b s n := by
  rw [pay4_at]; unfold proj; simp only [hx, hw]

theorem pay2_proj (x : Vec Ideal S1024x2048 .bf16) (w : Vec Ideal S1x128x2048 .f32) (i : Fin 1024) (j : Fin 128) (n : Fin 14344)
    (hx : ∀ k, x (ix2 i k) = normed X G b s k) (hw : ∀ k, w (ix3 0 j k) = W (ix3 1 k n)) :
    k0_pay2 w x (ix2 i j) = if j.val < 8 then proj X G W b s n else 0 := by
  rw [pay2_at]; unfold proj; simp only [hx, hw]

end

/-! ## What the result arrays end holding -/

theorem rows_at (hO : Ok m) (c : Dev nD) (n : ℕ) (hn : n < 112) (i : Fin 1024) (k : Fin 2048) (b : Fin 4) (s : Fin 2048)
    (h : 2048 * b.val + s.val = 1024 * (n / 14) + i.val) :
    rows m hO c n (ix2 i k) = normed (m ((c : Thread nD τ).loc main_arg0)) (m ((c : Thread nD τ).loc main_arg1)) b s k :=
  pay1_normed _ _ b s _ _ i k
    (fun q => x_block m hO c _ i q b s (by rw [h]; show _ = 1024 * (min (14 * (n / 14)) 111 / 14) + _; omega))
    (g_block m hO c _ k)

theorem tileF_at (hO : Ok m) (c : Dev nD) (t : ℕ) (ht : t < 112) (i j : Fin 1024) (b : Fin 4) (s : Fin 2048) (n : Fin 14344)
    (h : 2048 * b.val + s.val = 1024 * (t / 14) + i.val) (hn : n.val = startRow (min (t % 14) 3) + j.val) :
    tileF m hO c t (ix2 i j) = proj (m ((c : Thread nD τ).loc main_arg0)) (m ((c : Thread nD τ).loc main_arg1)) (m ((c : Thread nD τ).loc main_arg2)) b s n :=
  pay3_proj _ _ _ b s _ _ i j n (fun k => rows_at m hO c t ht i k b s h)
    (fun k => w_block m hO c _ j k n (by
      rw [hn, show (pt (14 * (t / 14) + min (t % 14) 3)).val % 14 = min (t % 14) 3 from by
        show min (14 * (t / 14) + min (t % 14) 3) 111 % 14 = _; omega]))

theorem tileB_at (hO : Ok m) (c : Dev nD) (t : ℕ) (ht : t < 112) (i j : Fin 1024) (b : Fin 4) (s : Fin 2048) (n : Fin 14344)
    (h : 2048 * b.val + s.val = 1024 * (t / 14) + i.val) (hn : n.val = startRow (max (t % 14) 4) + j.val) :
    tileB m hO c t (ix2 i j) = proj (m ((c : Thread nD τ).loc main_arg0)) (m ((c : Thread nD τ).loc main_arg1)) (m ((c : Thread nD τ).loc main_arg2)) b s n :=
  pay4_proj _ _ _ b s _ _ i j n (fun k => rows_at m hO c t ht i k b s h)
    (fun k => w_block m hO c _ j k n (by
      rw [hn, show (pt (14 * (t / 14) + max (t % 14) 4)).val % 14 = max (t % 14) 4 from by
        show min (14 * (t / 14) + max (t % 14) 4) 111 % 14 = _; omega]))

theorem logits_at (hO : Ok m) (c : Dev nD) (t : ℕ) (ht : t < 112) (i : Fin 1024) (j : Fin 128) (b : Fin 4) (s : Fin 2048) (n : Fin 14344)
    (h : 2048 * b.val + s.val = 1024 * (t / 14) + i.val) (hn : n.val = 4096 + j.val) :
    logits m hO c t (ix2 i j) = if j.val < 8 then
      proj (m ((c : Thread nD τ).loc main_arg0)) (m ((c : Thread nD τ).loc main_arg1)) (m ((c : Thread nD τ).loc main_arg2)) b s n else 0 :=
  pay2_proj _ _ _ b s _ _ i j n (fun k => rows_at m hO c t ht i k b s h) (fun k => f_block m hO c _ j k n hn)

theorem index_F : ∀ t : Fin grid0.N, cc0_transform_4 (grid0.coords t) = ![t.val / 14, min (t.val % 14) 3] := by decide +kernel
theorem index_B : ∀ t : Fin grid0.N, cc0_transform_5 (grid0.coords t) = ![t.val / 14, max (t.val % 14) 4 - 4] := by decide +kernel
theorem index_L : ∀ t : Fin grid0.N, cc0_transform_6 (grid0.coords t) = ![t.val / 14, 0] := by decide +kernel

theorem place_F (hO : Ok m) (t : Fin grid0.N) (y : S1024x1024.Idx) (a : Fin 2) :
    ((((cfgM m hO).win 4).blk t).view.emb y a).val
      = (![t.val / 14, min (t.val % 14) 3] : Fin 2 → ℕ) a * (![1024, 1024] : Fin 2 → ℕ) a + (y a).val := by
  rw [← index_F t]
  exact ValueKit.rect_emb_unit_val (s := ((cfgM m hO).win 4).shape) _ _ _ y a

theorem place_B (hO : Ok m) (t : Fin grid0.N) (y : S1024x1024.Idx) (a : Fin 2) :
    ((((cfgM m hO).win 5).blk t).view.emb y a).val
      = (![t.val / 14, max (t.val % 14) 4 - 4] : Fin 2 → ℕ) a * (![1024, 1024] : Fin 2 → ℕ) a + (y a).val := by
  rw [← index_B t]
  exact ValueKit.rect_emb_unit_val (s := ((cfgM m hO).win 5).shape) _ _ _ y a

theorem place_L (hO : Ok m) (t : Fin grid0.N) (y : S1024x128.Idx) (a : Fin 2) :
    ((((cfgM m hO).win 6).blk t).view.emb y a).val
      = (![t.val / 14, 0] : Fin 2 → ℕ) a * (![1024, 128] : Fin 2 → ℕ) a + (y a).val := by
  rw [← index_L t]
  exact ValueKit.rect_emb_unit_val (s := ((cfgM m hO).win 6).shape) _ _ _ y a

theorem point_lt (t : Fin grid0.N) : t.val < 112 := lt_of_lt_of_eq t.isLt N_0

theorem outF_eq (X : FVec Ideal S4x2048x2048 .f32) (G : FVec Ideal S4x2048 .f32) (W : FVec Ideal S4x2048x14344 .f32)
    (i : S8192x4096.Idx) (b : Fin 4) (s : Fin 2048) (n : Fin 14344) (h : 2048 * b.val + s.val = (i 0).val) (hn : n.val = startRow ((i 1).val / 1024) + (i 1).val % 1024) :
    proj X G W b s n = outF X G W i := by
  unfold outF
  have hb : b.val = (i 0).val / 2048 := by omega
  have hs : s.val = (i 0).val % 2048 := by omega
  exact congr (congr (congrArg (proj X G W) (Fin.ext hb)) (Fin.ext hs)) (Fin.ext hn)

theorem point_F (hO : Ok m) (c : Dev nD) (t : Fin grid0.N) (y : S1024x1024.Idx) :
    tileF m hO c t.val y = outF (m ((c : Thread nD τ).loc main_arg0)) (m ((c : Thread nD τ).loc main_arg1)) (m ((c : Thread nD τ).loc main_arg2))
      ((((cfgM m hO).win 4).blk t).view.emb y) := by
  have ht := point_lt t
  have e0 := place_F m hO t y 0
  have e1 := place_F m hO t y 1
  have hy0 : (y 0).val < 1024 := (y 0).isLt
  have hy1 : (y 1).val < 1024 := (y 1).isLt
  simp at e0 e1
  have hr : 1024 * (t.val / 14) + (y 0).val < 8192 := by omega
  have key := tileF_at m hO c t.val ht (y 0) (y 1) ⟨(1024 * (t.val / 14) + (y 0).val) / 2048, by omega⟩
    ⟨(1024 * (t.val / 14) + (y 0).val) % 2048, by omega⟩ ⟨startRow (min (t.val % 14) 3) + (y 1).val, weight_lt _ _ (by omega) hy1⟩
    (by show 2048 * (_ / 2048) + _ % 2048 = _; omega) rfl
  refine (congrArg (tileF m hO c t.val) (show y = ix2 (y 0) (y 1) from by funext a; match a with | ⟨0, _⟩ => rfl | ⟨1, _⟩ => rfl)).trans (key.trans ?_)

  refine outF_eq _ _ _ _ _ _ _ ?_ ?_
  · rw [e0]; show 2048 * (_ / 2048) + _ % 2048 = _; omega
  · rw [e1]; show startRow (min (t.val % 14) 3) + (y 1).val = _
    exact congrArg₂ (fun p q => startRow p + q) (by omega) (by omega)

theorem cover_F (hO : Ok m) (i : S8192x4096.Idx) : ∃ t : Fin grid0.N, Pipeline.Window.flushOf grid0 true cc0_transform_4 t = true
    ∧ ∃ y : S1024x1024.Idx, (((cfgM m hO).win 4).blk t).view.emb y = i := by
  have h0 : (i 0).val < 8192 := (i 0).isLt
  have h1 : (i 1).val < 4096 := (i 1).isLt
  obtain ⟨n, hn⟩ : ∃ n, n = 14 * ((i 0).val / 1024) + (if (i 1).val / 1024 = 3 then 13 else (i 1).val / 1024) := ⟨_, rfl⟩
  have hp : n < grid0.N := by rw [N_0]; split at hn <;> omega
  refine ⟨⟨n, hp⟩, (flush_f32 ⟨n, hp⟩).trans (decide_eq_true ?_), ix2 ⟨(i 0).val % 1024, by omega⟩ ⟨(i 1).val % 1024, by omega⟩, ?_⟩
  · show n % 14 ≤ 2 ∨ n % 14 = 13
    split at hn <;> omega
  · have e0 := place_F m hO ⟨n, hp⟩ (ix2 ⟨(i 0).val % 1024, by omega⟩ ⟨(i 1).val % 1024, by omega⟩) 0
    have e1 := place_F m hO ⟨n, hp⟩ (ix2 ⟨(i 0).val % 1024, by omega⟩ ⟨(i 1).val % 1024, by omega⟩) 1
    simp at e0 e1
    funext a
    refine Fin.ext ?_
    match a with
    | ⟨0, _⟩ => refine e0.trans ?_; show _ = (i 0).val; split at hn <;> omega
    | ⟨1, _⟩ => refine e1.trans ?_; show _ = (i 1).val; split at hn <;> omega

/-- The f32 result array. -/
theorem final_F (hO : Ok m) (c : Dev nD) :
    (dats m hO 0 c).arrAt 4 (cfgM m hO).N
      = outF (m ((c : Thread nD τ).loc main_arg0)) (m ((c : Thread nD τ).loc main_arg1)) (m ((c : Thread nD τ).loc main_arg2)) := by
  refine (dats m hO 0 c).arrAt_eq_of_emb 4 _ (fun t hf y => ?_) (fun i => ?_)
  · exact (congrFun (after_4 m hO c t) y).trans (point_F m hO c t y)
  · obtain ⟨t, hf, y, hy⟩ := cover_F m hO i
    exact ⟨t, hf, hy ▸ View.emb_mem_set _ y⟩

theorem outB_eq (X : FVec Ideal S4x2048x2048 .f32) (G : FVec Ideal S4x2048 .f32) (W : FVec Ideal S4x2048x14344 .f32)
    (i : S8192x10240.Idx) (b : Fin 4) (s : Fin 2048) (n : Fin 14344) (h : 2048 * b.val + s.val = (i 0).val) (hn : n.val = startRow (4 + (i 1).val / 1024) + (i 1).val % 1024) :
    proj X G W b s n = outB X G W i := by
  unfold outB
  have hb : b.val = (i 0).val / 2048 := by omega
  have hs : s.val = (i 0).val % 2048 := by omega
  exact congr (congr (congrArg (proj X G W) (Fin.ext hb)) (Fin.ext hs)) (Fin.ext hn)

theorem point_B (hO : Ok m) (c : Dev nD) (t : Fin grid0.N) (hf : 4 ≤ t.val % 14) (y : S1024x1024.Idx) :
    tileB m hO c t.val y = outB (m ((c : Thread nD τ).loc main_arg0)) (m ((c : Thread nD τ).loc main_arg1)) (m ((c : Thread nD τ).loc main_arg2))
      ((((cfgM m hO).win 5).blk t).view.emb y) := by
  have ht := point_lt t
  have e0 := place_B m hO t y 0
  have e1 := place_B m hO t y 1
  have hy0 : (y 0).val < 1024 := (y 0).isLt
  have hy1 : (y 1).val < 1024 := (y 1).isLt
  simp at e0 e1
  have hr : 1024 * (t.val / 14) + (y 0).val < 8192 := by omega
  have key := tileB_at m hO c t.val ht (y 0) (y 1) ⟨(1024 * (t.val / 14) + (y 0).val) / 2048, by omega⟩
    ⟨(1024 * (t.val / 14) + (y 0).val) % 2048, by omega⟩ ⟨startRow (max (t.val % 14) 4) + (y 1).val, weight_lt _ _ (by omega) hy1⟩
    (by show 2048 * (_ / 2048) + _ % 2048 = _; omega) rfl
  refine (congrArg (tileB m hO c t.val) (show y = ix2 (y 0) (y 1) from by funext a; match a with | ⟨0, _⟩ => rfl | ⟨1, _⟩ => rfl)).trans (key.trans ?_)

  refine outB_eq _ _ _ _ _ _ _ ?_ ?_
  · rw [e0]; show 2048 * (_ / 2048) + _ % 2048 = _; omega
  · rw [e1]; show startRow (max (t.val % 14) 4) + (y 1).val = _
    exact congrArg₂ (fun p q => startRow p + q) (by omega) (by omega)

theorem cover_B (hO : Ok m) (i : S8192x10240.Idx) : ∃ t : Fin grid0.N, Pipeline.Window.flushOf grid0 true cc0_transform_5 t = true
    ∧ ∃ y : S1024x1024.Idx, (((cfgM m hO).win 5).blk t).view.emb y = i := by
  have h0 : (i 0).val < 8192 := (i 0).isLt
  have h1 : (i 1).val < 10240 := (i 1).isLt
  obtain ⟨n, hn⟩ : ∃ n, n = 14 * ((i 0).val / 1024) + (4 + (i 1).val / 1024) := ⟨_, rfl⟩
  have hp : n < grid0.N := by rw [N_0]; omega
  refine ⟨⟨n, hp⟩, (flush_bf16 ⟨n, hp⟩).trans (decide_eq_true ?_), ix2 ⟨(i 0).val % 1024, by omega⟩ ⟨(i 1).val % 1024, by omega⟩, ?_⟩
  · show 4 ≤ n % 14
    omega
  · have e0 := place_B m hO ⟨n, hp⟩ (ix2 ⟨(i 0).val % 1024, by omega⟩ ⟨(i 1).val % 1024, by omega⟩) 0
    have e1 := place_B m hO ⟨n, hp⟩ (ix2 ⟨(i 0).val % 1024, by omega⟩ ⟨(i 1).val % 1024, by omega⟩) 1
    simp at e0 e1
    funext a
    refine Fin.ext ?_
    match a with
    | ⟨0, _⟩ => refine e0.trans ?_; show _ = (i 0).val; omega
    | ⟨1, _⟩ => refine e1.trans ?_; show _ = (i 1).val; omega

/-- The bf16 result array. -/
theorem final_B (hO : Ok m) (c : Dev nD) :
    (dats m hO 0 c).arrAt 5 (cfgM m hO).N
      = outB (m ((c : Thread nD τ).loc main_arg0)) (m ((c : Thread nD τ).loc main_arg1)) (m ((c : Thread nD τ).loc main_arg2)) := by
  refine (dats m hO 0 c).arrAt_eq_of_emb 5 _ (fun t hf y => ?_) (fun i => ?_)
  · exact (congrFun (after_5 m hO c t) y).trans (point_B m hO c t (of_decide_eq_true ((flush_bf16 t).symm.trans hf)) y)
  · obtain ⟨t, hf, y, hy⟩ := cover_B m hO i
    exact ⟨t, hf, hy ▸ View.emb_mem_set _ y⟩

theorem outL_eq (X : FVec Ideal S4x2048x2048 .f32) (G : FVec Ideal S4x2048 .f32) (W : FVec Ideal S4x2048x14344 .f32)
    (i : S8192x128.Idx) (b : Fin 4) (s : Fin 2048) (n : Fin 14344) (h : 2048 * b.val + s.val = (i 0).val) (hn : n.val = 4096 + (i 1).val) :
    (if (i 1).val < 8 then proj X G W b s n else 0) = outL X G W i := by
  unfold outL
  have hb : b.val = (i 0).val / 2048 := by omega
  have hs : s.val = (i 0).val % 2048 := by omega
  refine congrArg (fun z => if (i 1).val < 8 then z else 0) ?_; exact congr (congr (congrArg (proj X G W) (Fin.ext hb)) (Fin.ext hs)) (Fin.ext hn)

theorem point_L (hO : Ok m) (c : Dev nD) (t : Fin grid0.N) (y : S1024x128.Idx) :
    logits m hO c t.val y = outL (m ((c : Thread nD τ).loc main_arg0)) (m ((c : Thread nD τ).loc main_arg1)) (m ((c : Thread nD τ).loc main_arg2))
      ((((cfgM m hO).win 6).blk t).view.emb y) := by
  have ht := point_lt t
  have e0 := place_L m hO t y 0
  have e1 := place_L m hO t y 1
  have hy0 : (y 0).val < 1024 := (y 0).isLt
  have hy1 : (y 1).val < 128 := (y 1).isLt
  simp at e0 e1
  have hr : 1024 * (t.val / 14) + (y 0).val < 8192 := by omega
  have key := logits_at m hO c t.val ht (y 0) (y 1) ⟨(1024 * (t.val / 14) + (y 0).val) / 2048, by omega⟩
    ⟨(1024 * (t.val / 14) + (y 0).val) % 2048, by omega⟩ ⟨4096 + (y 1).val, by omega⟩
    (by show 2048 * (_ / 2048) + _ % 2048 = _; omega) rfl
  refine (congrArg (logits m hO c t.val) (show y = ix2 (y 0) (y 1) from by funext a; match a with | ⟨0, _⟩ => rfl | ⟨1, _⟩ => rfl)).trans (key.trans ?_)
  refine (congrArg (fun n => if n < 8 then _ else _) e1.symm).trans ?_
  refine outL_eq _ _ _ _ _ _ _ ?_ ?_
  · rw [e0]; show 2048 * (_ / 2048) + _ % 2048 = _; omega
  · rw [e1]

theorem cover_L (hO : Ok m) (i : S8192x128.Idx) : ∃ t : Fin grid0.N, Pipeline.Window.flushOf grid0 true cc0_transform_6 t = true
    ∧ ∃ y : S1024x128.Idx, (((cfgM m hO).win 6).blk t).view.emb y = i := by
  have h0 : (i 0).val < 8192 := (i 0).isLt
  have h1 : (i 1).val < 128 := (i 1).isLt
  obtain ⟨n, hn⟩ : ∃ n, n = 14 * ((i 0).val / 1024) + 13 := ⟨_, rfl⟩
  have hp : n < grid0.N := by rw [N_0]; omega
  refine ⟨⟨n, hp⟩, (flush_logits ⟨n, hp⟩).trans (decide_eq_true ?_), ix2 ⟨(i 0).val % 1024, by omega⟩ ⟨(i 1).val % 128, by omega⟩, ?_⟩
  · show n % 14 = 13
    omega
  · have e0 := place_L m hO ⟨n, hp⟩ (ix2 ⟨(i 0).val % 1024, by omega⟩ ⟨(i 1).val % 128, by omega⟩) 0
    have e1 := place_L m hO ⟨n, hp⟩ (ix2 ⟨(i 0).val % 1024, by omega⟩ ⟨(i 1).val % 128, by omega⟩) 1
    simp at e0 e1
    funext a
    refine Fin.ext ?_
    match a with
    | ⟨0, _⟩ => refine e0.trans ?_; show _ = (i 0).val; omega
    | ⟨1, _⟩ => refine e1.trans ?_; show _ = (i 1).val; omega

/-- The forget gates' logits. -/
theorem final_L (hO : Ok m) (c : Dev nD) :
    (dats m hO 0 c).arrAt 6 (cfgM m hO).N
      = outL (m ((c : Thread nD τ).loc main_arg0)) (m ((c : Thread nD τ).loc main_arg1)) (m ((c : Thread nD τ).loc main_arg2)) := by
  refine (dats m hO 0 c).arrAt_eq_of_emb 6 _ (fun t hf y => ?_) (fun i => ?_)
  · exact (congrFun (after_6 m hO c t) y).trans (point_L m hO c t y)
  · obtain ⟨t, hf, y, hy⟩ := cover_L m hO i
    exact ⟨t, hf, hy ▸ View.emb_mem_set _ y⟩

end Cert.Kernel.InProj

end
-- ==== Proof.SameText.lean ====
module

public import proofs.«01_k».proof.Defs
public import proofs.«01_k».proof.Proof.Gen.KernelIdeal.Launch

@[expose] public section

set_option maxRecDepth 16384

noncomputable section

namespace Cert.Kernel.InProj

open Idealize.ShloMosaic
variable [hK : Cert.Kernel.Facts] [hI : Cert.KernelIdeal.Facts]
variable {F : FTy → Type} [FloatOps F]

/-! The kernel and its idealization, printed twice, are the same text: what runs of one holds of the other. -/

set_option maxHeartbeats 4000000

theorem bodies_eq : Cert.KernelIdeal.defs₀ (F := F) = Cert.Kernel.defs₀ (F := F) := by
  unfold Cert.KernelIdeal.defs₀ Cert.Kernel.defs₀
  refine congrArg Defs.onTc ?_
  funext l a
  match l, a with
  | 0, (t, s) => rfl
theorem main_eq : Cert.KernelIdeal.main (F := F) = Cert.Kernel.main (F := F) := by
  funext c
  unfold Cert.KernelIdeal.main Cert.Kernel.main Cert.KernelIdeal.fn_floor_divide.body Cert.Kernel.fn_floor_divide.body Cert.KernelIdeal.fn_where.body Cert.Kernel.fn_where.body
  rfl

theorem defs_eq : Cert.KernelIdeal.defs (F := F) = Cert.Kernel.defs (F := F) :=
  congrArg (Pipeline.defs (Cert.Kernel.pcfgs (F := F))) bodies_eq

/-- A run of the kernel's text is a run of its idealization's. -/
theorem run_of (m : (ℓ : Loc Cert.Kernel.nD Cert.Kernel.τ Cert.Kernel.sig) → Buf (Elt F) ℓ) (ρ : Dev Cert.Kernel.nD → PrngReg) (Q)
    (h : θ_run (Cert.Kernel.defs (F := F)) (onTc (τ := Cert.Kernel.τ) (Cert.Kernel.main (F := F))) ⟨m, fun _ => 0, ρ⟩ Q) :
    θ_run (Cert.KernelIdeal.defs (F := F)) (onTc (τ := Cert.KernelIdeal.τ) (Cert.KernelIdeal.main (F := F))) ⟨m, fun _ => 0, ρ⟩ Q :=
  (congrArg₂ (fun d p => θ_run d (onTc (τ := Cert.Kernel.τ) p) ⟨m, fun _ => 0, ρ⟩ Q) defs_eq main_eq).mpr h

end Cert.Kernel.InProj

end
-- ==== Proof.InProjReference.lean ====
module

public import proofs.«01_k».proof.Proof.InProjValue
public import proofs.«01_k».proof.Proof.Gen.ReferenceIdeal
public import Idealize.ShloMosaic.Lib.Claim
import Idealize.ShloMosaic.Lib.Pointwise

@[expose] public section

set_option maxRecDepth 16384

noncomputable section

namespace Cert.ReferenceIdeal.InProj

open Idealize.ShloMosaic Idealize.ShloMosaic.TcCoe Idealize.ShloMosaic.Tactic Idealize.SL.Sem
open Cert.ReferenceIdeal Cert.ReferenceIdeal.Gen
open Cert.Kernel.InProj (outF outB outL proj normed outF_eq outB_eq outL_eq startRow)

/-! ## The reference's result arrays, entry by entry -/

variable (X : FVec Ideal S4x2048x2048 .f32) (G : FVec Ideal S4x2048 .f32) (W : FVec Ideal S4x2048x14344 .f32)
  (Z : FVec Ideal S4x2048x14344 .f32) (hZ : ∀ i, Z i = proj X G W (i 0) (i 1) (i 2))

include hZ

/-- The f32 pieces side by side. -/
theorem joined_F :
    shapeCast S8192x4096 (concatenate S4x2048x4096 2
      [⟨S4x2048x1024, extractStridedSlice S4x2048x1024 ![0, 0, 0] Z Gen.slices_S4x2048x14344_S4x2048x1024_0_0_0⟩,
       ⟨S4x2048x1024, extractStridedSlice S4x2048x1024 ![0, 0, 4104] Z Gen.slices_S4x2048x14344_S4x2048x1024_0_0_4104⟩,
       ⟨S4x2048x1024, extractStridedSlice S4x2048x1024 ![0, 0, 5128] Z Gen.slices_S4x2048x14344_S4x2048x1024_0_0_5128⟩,
       ⟨S4x2048x1024, extractStridedSlice S4x2048x1024 ![0, 0, 7176] Z Gen.slices_S4x2048x14344_S4x2048x1024_0_0_7176⟩] Gen.concatenates_S4x2048x1024_S4x2048x1024_S4x2048x1024_S4x2048x1024_S4x2048x4096_d2) Gen.shapeCasts_S4x2048x4096_S8192x4096 = outF X G W := by
  funext i
  have h0 : (i 0).val < 8192 := (i 0).isLt
  have h1 : (i 1).val < 4096 := (i 1).isLt
  have hs : ∀ q : Fin 4, startRow q.val = ![0, 4104, 5128, 7176] q := by decide
  pointwise
  by_cases g0 : (i 1).val < 1024
  · rw [dif_pos g0]
    refine (hZ _).trans (outF_eq X G W i _ _ _ (Nat.div_add_mod _ _) ?_)
    have e : (i 1).val / 1024 = 0 := by omega
    have v : startRow 0 = 0 := hs 0
    refine Eq.trans ?_ (congrArg (· + (i 1).val % 1024) ((congrArg startRow e).trans v).symm)
    show (i 1).val = 0 + (i 1).val % 1024
    omega
  by_cases g1 : (i 1).val - 1024 < 1024
  · rw [dif_neg g0, dif_pos g1]
    refine (hZ _).trans (outF_eq X G W i _ _ _ (Nat.div_add_mod _ _) ?_)
    have e : (i 1).val / 1024 = 1 := by omega
    have v : startRow 1 = 4104 := hs 1
    refine Eq.trans ?_ (congrArg (· + (i 1).val % 1024) ((congrArg startRow e).trans v).symm)
    show 4104 + ((i 1).val - 1024) = 4104 + (i 1).val % 1024
    omega
  by_cases g2 : (i 1).val - 1024 - 1024 < 1024
  · rw [dif_neg g0, dif_neg g1, dif_pos g2]
    refine (hZ _).trans (outF_eq X G W i _ _ _ (Nat.div_add_mod _ _) ?_)
    have e : (i 1).val / 1024 = 2 := by omega
    have v : startRow 2 = 5128 := hs 2
    refine Eq.trans ?_ (congrArg (· + (i 1).val % 1024) ((congrArg startRow e).trans v).symm)
    show 5128 + ((i 1).val - 1024 - 1024) = 5128 + (i 1).val % 1024
    omega
  · rw [dif_neg g0, dif_neg g1, dif_neg g2]
    refine (hZ _).trans (outF_eq X G W i _ _ _ (Nat.div_add_mod _ _) ?_)
    have e : (i 1).val / 1024 = 3 := by omega
    have v : startRow 3 = 7176 := hs 3
    refine Eq.trans ?_ (congrArg (· + (i 1).val % 1024) ((congrArg startRow e).trans v).symm)
    show 7176 + ((i 1).val - 1024 - 1024 - 1024) = 7176 + (i 1).val % 1024
    omega

/-- The bf16 pieces side by side. -/
theorem joined_B :
    shapeCast S8192x10240 (truncf .bf16 (concatenate S4x2048x10240 2
      [⟨S4x2048x1024, extractStridedSlice S4x2048x1024 ![0, 0, 1024] Z Gen.slices_S4x2048x14344_S4x2048x1024_0_0_1024⟩,
       ⟨S4x2048x1024, extractStridedSlice S4x2048x1024 ![0, 0, 2048] Z Gen.slices_S4x2048x14344_S4x2048x1024_0_0_2048⟩,
       ⟨S4x2048x1024, extractStridedSlice S4x2048x1024 ![0, 0, 3072] Z Gen.slices_S4x2048x14344_S4x2048x1024_0_0_3072⟩,
       ⟨S4x2048x1024, extractStridedSlice S4x2048x1024 ![0, 0, 6152] Z Gen.slices_S4x2048x14344_S4x2048x1024_0_0_6152⟩,
       ⟨S4x2048x6144, extractStridedSlice S4x2048x6144 ![0, 0, 8200] Z Gen.slices_S4x2048x14344_S4x2048x6144_0_0_8200⟩] Gen.concatenates_S4x2048x1024_S4x2048x1024_S4x2048x1024_S4x2048x1024_S4x2048x6144_S4x2048x10240_d2) Gen.bitsLt_bf16_f32) Gen.shapeCasts_S4x2048x10240_S8192x10240 = outB X G W := by
  funext i
  have h0 : (i 0).val < 8192 := (i 0).isLt
  have h1 : (i 1).val < 10240 := (i 1).isLt
  have hs : ∀ q : Fin 10, startRow (4 + q.val) = ![1024, 2048, 3072, 6152, 8200, 9224, 10248, 11272, 12296, 13320] q := by decide
  pointwise
  by_cases g0 : (i 1).val < 1024
  · rw [dif_pos g0]
    refine (hZ _).trans (outB_eq X G W i _ _ _ (Nat.div_add_mod _ _) ?_)
    have e : (i 1).val / 1024 = 0 := by omega
    have v : startRow (4 + 0) = 1024 := hs 0
    refine Eq.trans ?_ (congrArg (· + (i 1).val % 1024) ((congrArg (fun q => startRow (4 + q)) e).trans v).symm)
    show 1024 + (i 1).val = 1024 + (i 1).val % 1024
    omega
  by_cases g1 : (i 1).val - 1024 < 1024
  · rw [dif_neg g0, dif_pos g1]
    refine (hZ _).trans (outB_eq X G W i _ _ _ (Nat.div_add_mod _ _) ?_)
    have e : (i 1).val / 1024 = 1 := by omega
    have v : startRow (4 + 1) = 2048 := hs 1
    refine Eq.trans ?_ (congrArg (· + (i 1).val % 1024) ((congrArg (fun q => startRow (4 + q)) e).trans v).symm)
    show 2048 + ((i 1).val - 1024) = 2048 + (i 1).val % 1024
    omega
  by_cases g2 : (i 1).val - 1024 - 1024 < 1024
  · rw [dif_neg g0, dif_neg g1, dif_pos g2]
    refine (hZ _).trans (outB_eq X G W i _ _ _ (Nat.div_add_mod _ _) ?_)
    have e : (i 1).val / 1024 = 2 := by omega
    have v : startRow (4 + 2) = 3072 := hs 2
    refine Eq.trans ?_ (congrArg (· + (i 1).val % 1024) ((congrArg (fun q => startRow (4 + q)) e).trans v).symm)
    show 3072 + ((i 1).val - 1024 - 1024) = 3072 + (i 1).val % 1024
    omega
  by_cases g3 : (i 1).val - 1024 - 1024 - 1024 < 1024
  · rw [dif_neg g0, dif_neg g1, dif_neg g2, dif_pos g3]
    refine (hZ _).trans (outB_eq X G W i _ _ _ (Nat.div_add_mod _ _) ?_)
    have e : (i 1).val / 1024 = 3 := by omega
    have v : startRow (4 + 3) = 6152 := hs 3
    refine Eq.trans ?_ (congrArg (· + (i 1).val % 1024) ((congrArg (fun q => startRow (4 + q)) e).trans v).symm)
    show 6152 + ((i 1).val - 1024 - 1024 - 1024) = 6152 + (i 1).val % 1024
    omega
  · rw [dif_neg g0, dif_neg g1, dif_neg g2, dif_neg g3]
    refine (hZ _).trans (outB_eq X G W i _ _ _ (Nat.div_add_mod _ _) ?_)
    have hg : ∀ q : Fin 6, startRow (4 + (4 + q.val)) = 8200 + 1024 * q.val := by decide
    have e : (i 1).val / 1024 = 4 + ((i 1).val / 1024 - 4) := by omega
    have v := hg ⟨(i 1).val / 1024 - 4, by omega⟩
    refine Eq.trans ?_ (congrArg (· + (i 1).val % 1024) ((congrArg (fun q => startRow (4 + q)) e).trans v).symm)
    show 8200 + ((i 1).val - 1024 - 1024 - 1024 - 1024) = 8200 + 1024 * ((i 1).val / 1024 - 4) + (i 1).val % 1024
    omega

/-- The logits, filled up with zeros. -/
theorem joined_L :
    shapeCast S8192x128 (pad S4x2048x128 ![0, 0, 0] ![0, 0, 120] ![0, 0, 0] (extractStridedSlice S4x2048x8 ![0, 0, 4096] Z Gen.slices_S4x2048x14344_S4x2048x8_0_0_4096)
      (sitofp .f32 (constantI S_ 32 0#32)) Gen.pads_S4x2048x8_S4x2048x128_000_000_01200 Gen.h_S_)
      Gen.shapeCasts_S4x2048x128_S8192x128 = outL X G W := by
  funext i
  have h0 : (i 0).val < 8192 := (i 0).isLt
  have h1 : (i 1).val < 128 := (i 1).isLt
  refine Eq.trans ?_ (outL_eq X G W i ⟨(i 0).val / 2048, by omega⟩ ⟨(i 0).val % 2048, by omega⟩ ⟨4096 + (i 1).val, by omega⟩ (Nat.div_add_mod _ _) rfl)
  pointwise
  by_cases h : (i 1).val < 8
  · exact (dif_pos ⟨by omega, by omega, h⟩).trans ((hZ _).trans (if_pos h).symm)
  · refine (dif_neg fun hh => h hh.2.2).trans (Eq.trans ?_ (if_neg h).symm)
    simp [FloatOps.sitofp]

omit hZ

/-! ## The run -/

set_option maxHeartbeats 4000000 in
/-- The reference's run over the extended reals: each result is the projection's entries. -/
theorem reference_outcome (m : (ℓ : Loc nD τ sig) → Buf (Elt Ideal) ℓ) (ρ : Dev nD → PrngReg) :
   θ_run defs (onTc (τ := τ) (main (F := Ideal))) ⟨m, fun _ => 0, ρ⟩ (fun r => ∀ c : Dev nD,
      r.2.mem ((c.tc : Thread nD τ).loc main_v32) = outF (m ((c.tc : Thread nD τ).loc main_arg0)) (m ((c.tc : Thread nD τ).loc main_arg1)) (m ((c.tc : Thread nD τ).loc main_arg2))
      ∧ r.2.mem ((c.tc : Thread nD τ).loc main_v33) = outB (m ((c.tc : Thread nD τ).loc main_arg0)) (m ((c.tc : Thread nD τ).loc main_arg1)) (m ((c.tc : Thread nD τ).loc main_arg2))
      ∧ r.2.mem ((c.tc : Thread nD τ).loc main_v34) = outL (m ((c.tc : Thread nD τ).loc main_arg0)) (m ((c.tc : Thread nD τ).loc main_arg1)) (m ((c.tc : Thread nD τ).loc main_arg2))) := by
  refine θ_run_mono (StableHlo.run_hlo _ _ (by hlo_seq) (by decide) (by decide) (by simp)
      (by intro _ h; (repeat (cases h with | head => rfl | tail _ h => ?_)); exact nomatch h) _ _) ?_
  intro r hr c
  have h1 := hr c main_v32
  have h2 := hr c main_v33
  have h3 := hr c main_v34
  clear hr
  simp only [StableHlo.after_cons, StableHlo.after_nil] at h1 h2 h3
  generalize hV : HloOp.result (StableHlo.binary main_v14 main_v16 main_v17 _ _ _ _) _ = V1 at h1 h2 h3
  have hz : V1 (Proc.devRef .tc main_v17) = fun i : S4x2048x14344.Idx => proj (m ((c.tc : Thread nD τ).loc main_arg0)) (m ((c.tc : Thread nD τ).loc main_arg1)) (m ((c.tc : Thread nD τ).loc main_arg2)) (i 0) (i 1) (i 2) := by
    rw [← hV]
    after_results_simp
    repeat rw [StableHlo.launchContents_devRef]
    funext i
    pointwise
    rfl
  clear hV
  generalize hV2 : HloOp.result (StableHlo.unary main_v17 main_v27 _ _ _) _ = V2 at h1 h2 h3
  have p18 : V2 (Proc.devRef .tc main_v18) = extractStridedSlice S4x2048x1024 ![0, 0, 0] (V1 (Proc.devRef .tc main_v17)) Gen.slices_S4x2048x14344_S4x2048x1024_0_0_0 := by
    rw [← hV2]; after_results_steps
  have p19 : V2 (Proc.devRef .tc main_v19) = extractStridedSlice S4x2048x1024 ![0, 0, 1024] (V1 (Proc.devRef .tc main_v17)) Gen.slices_S4x2048x14344_S4x2048x1024_0_0_1024 := by
    rw [← hV2]; after_results_steps
  have p20 : V2 (Proc.devRef .tc main_v20) = extractStridedSlice S4x2048x1024 ![0, 0, 2048] (V1 (Proc.devRef .tc main_v17)) Gen.slices_S4x2048x14344_S4x2048x1024_0_0_2048 := by
    rw [← hV2]; after_results_steps
  have p21 : V2 (Proc.devRef .tc main_v21) = extractStridedSlice S4x2048x1024 ![0, 0, 3072] (V1 (Proc.devRef .tc main_v17)) Gen.slices_S4x2048x14344_S4x2048x1024_0_0_3072 := by
    rw [← hV2]; after_results_steps
  have p22 : V2 (Proc.devRef .tc main_v22) = extractStridedSlice S4x2048x8 ![0, 0, 4096] (V1 (Proc.devRef .tc main_v17)) Gen.slices_S4x2048x14344_S4x2048x8_0_0_4096 := by
    rw [← hV2]; after_results_steps
  have p23 : V2 (Proc.devRef .tc main_v23) = extractStridedSlice S4x2048x1024 ![0, 0, 4104] (V1 (Proc.devRef .tc main_v17)) Gen.slices_S4x2048x14344_S4x2048x1024_0_0_4104 := by
    rw [← hV2]; after_results_steps
  have p24 : V2 (Proc.devRef .tc main_v24) = extractStridedSlice S4x2048x1024 ![0, 0, 5128] (V1 (Proc.devRef .tc main_v17)) Gen.slices_S4x2048x14344_S4x2048x1024_0_0_5128 := by
    rw [← hV2]; after_results_steps
  have p25 : V2 (Proc.devRef .tc main_v25) = extractStridedSlice S4x2048x1024 ![0, 0, 6152] (V1 (Proc.devRef .tc main_v17)) Gen.slices_S4x2048x14344_S4x2048x1024_0_0_6152 := by
    rw [← hV2]; after_results_steps
  have p26 : V2 (Proc.devRef .tc main_v26) = extractStridedSlice S4x2048x1024 ![0, 0, 7176] (V1 (Proc.devRef .tc main_v17)) Gen.slices_S4x2048x14344_S4x2048x1024_0_0_7176 := by
    rw [← hV2]; after_results_steps
  have p27 : V2 (Proc.devRef .tc main_v27) = extractStridedSlice S4x2048x6144 ![0, 0, 8200] (V1 (Proc.devRef .tc main_v17)) Gen.slices_S4x2048x14344_S4x2048x6144_0_0_8200 := by
    rw [← hV2]; after_results_steps
  clear hV2
  generalize hV3 : HloOp.result (StableHlo.nary ![main_v18, main_v23, main_v24, main_v26] main_v28 _ _ _) _ = V3 at h1 h2 h3
  have q19 : V3 (Proc.devRef .tc main_v19) = V2 (Proc.devRef .tc main_v19) := by
    rw [← hV3]; after_results_steps
  have q20 : V3 (Proc.devRef .tc main_v20) = V2 (Proc.devRef .tc main_v20) := by
    rw [← hV3]; after_results_steps
  have q21 : V3 (Proc.devRef .tc main_v21) = V2 (Proc.devRef .tc main_v21) := by
    rw [← hV3]; after_results_steps
  have q22 : V3 (Proc.devRef .tc main_v22) = V2 (Proc.devRef .tc main_v22) := by
    rw [← hV3]; after_results_steps
  have q25 : V3 (Proc.devRef .tc main_v25) = V2 (Proc.devRef .tc main_v25) := by
    rw [← hV3]; after_results_steps
  have q27 : V3 (Proc.devRef .tc main_v27) = V2 (Proc.devRef .tc main_v27) := by
    rw [← hV3]; after_results_steps
  have q28 : V3 (Proc.devRef .tc main_v28) = concatenate S4x2048x4096 2 [⟨S4x2048x1024, V2 (Proc.devRef .tc main_v18)⟩, ⟨S4x2048x1024, V2 (Proc.devRef .tc main_v23)⟩, ⟨S4x2048x1024, V2 (Proc.devRef .tc main_v24)⟩, ⟨S4x2048x1024, V2 (Proc.devRef .tc main_v26)⟩] Gen.concatenates_S4x2048x1024_S4x2048x1024_S4x2048x1024_S4x2048x1024_S4x2048x4096_d2 := by
    rw [← hV3]; exact StableHlo.nary_result _ _ _ _ _ _
  clear hV3
  generalize hV4 : HloOp.result (StableHlo.nary ![main_v19, main_v20, main_v21, main_v25, main_v27] main_v29 _ _ _) _ = V4 at h1 h2 h3
  have s29 : V4 (Proc.devRef .tc main_v29) = concatenate S4x2048x10240 2 [⟨S4x2048x1024, V3 (Proc.devRef .tc main_v19)⟩, ⟨S4x2048x1024, V3 (Proc.devRef .tc main_v20)⟩, ⟨S4x2048x1024, V3 (Proc.devRef .tc main_v21)⟩, ⟨S4x2048x1024, V3 (Proc.devRef .tc main_v25)⟩, ⟨S4x2048x6144, V3 (Proc.devRef .tc main_v27)⟩] Gen.concatenates_S4x2048x1024_S4x2048x1024_S4x2048x1024_S4x2048x1024_S4x2048x6144_S4x2048x10240_d2 := by
    rw [← hV4]; exact StableHlo.nary_result _ _ _ _ _ _
  have s28 : V4 (Proc.devRef .tc main_v28) = V3 (Proc.devRef .tc main_v28) := by
    rw [← hV4]; after_results_steps
  have s22 : V4 (Proc.devRef .tc main_v22) = V3 (Proc.devRef .tc main_v22) := by
    rw [← hV4]; after_results_steps
  clear hV4
  rw [p18, p23, p24, p26] at q28
  rw [q19, q20, q21, q25, q27, p19, p20, p21, p25, p27] at s29
  have e28 := s28.trans q28
  have e22 := s22.trans (q22.trans p22)
  rw [hz] at e28 s29 e22
  refine ⟨h1.trans ?_, h2.trans ?_, h3.trans ?_⟩
  all_goals clear h1 h2 h3
  all_goals after_results_steps
  · rw [e28]
    exact joined_F _ _ _ _ fun _ => rfl
  · rw [s29]
    exact joined_B _ _ _ _ fun _ => rfl
  · rw [e22]
    exact joined_L _ _ _ _ fun _ => rfl

end Cert.ReferenceIdeal.InProj

end
-- ==== Proof.InProj.lean ====
module

public import proofs.«01_k».proof.Proof.InProjValue
public import proofs.«01_k».proof.Proof.SameText
public import proofs.«01_k».proof.Proof.InProjReference
public import proofs.«01_k».proof.Defs
public import proofs.«01_k».proof.Proof.Gen.KernelIdeal
public import proofs.«01_k».proof.Proof.Gen.ReferenceIdeal
public import Idealize.ShloMosaic.Lib.Claim

@[expose] public section

set_option maxRecDepth 16384

noncomputable section

namespace Cert.Kernel.InProj

open Idealize.ShloMosaic Idealize.ShloMosaic.TcCoe Idealize.ShloMosaic.Tactic Idealize.SL.Sem
open Cert.Kernel Cert.Kernel.Gen

section

variable {F : FTy → Type} [FloatOps F]
variable (m : (ℓ : Loc nD τ sig) → Buf (Elt F) ℓ) (ρ : Dev nD → PrngReg)

/-- The run of the kernel at any float values: the three result arrays hold what the points write back, the argument
    arrays are unchanged, every semaphore counter is at zero. -/
theorem outcome : θ_run defs (onTc (τ := τ) (main (F := F))) ⟨m, fun _ => 0, ρ⟩ (fun r => (∀ c : Dev nD,
      (r.2.mem ((c.tc : Thread nD τ).loc main_v6_0) = (dats m (ok m) 0 c).arrAt 4 (cfgM m (ok m)).N
      ∧ r.2.mem ((c.tc : Thread nD τ).loc main_v6_1) = (dats m (ok m) 0 c).arrAt 5 (cfgM m (ok m)).N
      ∧ r.2.mem ((c.tc : Thread nD τ).loc main_v6_2) = (dats m (ok m) 0 c).arrAt 6 (cfgM m (ok m)).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨⟨(h.1 c).1 4, (h.1 c).1 5, (h.1 c).1 6⟩,
      ((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c)⟩, h.2⟩) (run m ρ (ok m))

end

theorem frame_kernel : Cert.quiescent_Kernel := fun m ρ _ =>
  (θ_run defs _ _).mono (fun _ h => ⟨fun c => (h.1 c).2, h.2⟩) (outcome m ρ)

theorem frame_ideal : Cert.quiescent_KernelIdeal := fun m ρ _ =>
  run_of m ρ _ ((θ_run defs _ _).mono (fun _ h => ⟨fun c => (h.1 c).2, h.2⟩) (outcome m ρ))

/-- The run over the extended reals, each result the projection's entries. -/
theorem ideal_outcome (m : (ℓ : Loc nD τ sig) → Buf (Elt Ideal) ℓ) (ρ : Dev nD → PrngReg) :
    θ_run Cert.KernelIdeal.defs (onTc (τ := τ) (Cert.KernelIdeal.main (F := Ideal))) ⟨m, fun _ => 0, ρ⟩ (fun r => ∀ c : Dev nD,
      r.2.mem ((c.tc : Thread nD τ).loc main_v6_0) = outF (m ((c.tc : Thread nD τ).loc main_arg0)) (m ((c.tc : Thread nD τ).loc main_arg1)) (m ((c.tc : Thread nD τ).loc main_arg2))
      ∧ r.2.mem ((c.tc : Thread nD τ).loc main_v6_1) = outB (m ((c.tc : Thread nD τ).loc main_arg0)) (m ((c.tc : Thread nD τ).loc main_arg1)) (m ((c.tc : Thread nD τ).loc main_arg2))
      ∧ r.2.mem ((c.tc : Thread nD τ).loc main_v6_2) = outL (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_of m ρ _ ((θ_run defs _ _).mono (fun _ h c => ⟨(h.1 c).1.1.trans (final_F m (ok m) c), (h.1 c).1.2.1.trans (final_B m (ok m) c),
    (h.1 c).1.2.2.trans (final_L m (ok m) c), (h.1 c).2⟩) (outcome m ρ))

theorem frame_reference : Cert.quiescent_ReferenceIdeal := by
  intro m g hpre
  refine (θ_run Cert.ReferenceIdeal.defs _ _).mono (fun r h => ⟨h, sem_eq_zero_of_no_sems (by decide) r.2⟩) ?_
  hlo_run

theorem algebraic : Cert.algebraic_KernelIdeal_ReferenceIdeal := by
  pair_intro
  · run_from ideal_outcome m g
  · run_from Cert.ReferenceIdeal.InProj.reference_outcome m' g' & frame_reference m' g' trivial

end Cert.Kernel.InProj

end
-- ==== Proof.FfnMath.lean ====
module

public import Idealize.ShloMosaic.Lib.Pipeline.ValueKit
public import Idealize.ShloMosaic.Lib.IdealHost

@[expose] public section

set_option maxRecDepth 16384

noncomputable section

namespace Cert.Ffn

open Idealize.ShloMosaic

/-! # The gated feed-forward half-step, entry by entry over the extended reals -/

/-- The factor of a half-step: one half. -/
abbrev half : Ideal .f32 := Ideal.ofBits .f32 0x3F000000#32

theorem half_eq : half = (((1 : ℝ) / 2 : ℝ) : EReal) := by
  simp [half, Ideal.ofBits, Ideal.ieee, -EReal.coe_mul]; norm_num

/-- The half goes through a finite sum: it is a real number at least zero. -/
theorem half_mul_sum {n : ℕ} (f : Fin n → EReal) : (half : EReal) * ∑ s, f s = ∑ s, (half : EReal) * f s := by
  have h0 : (0 : EReal) ≤ (half : EReal) := by rw [half_eq]; exact_mod_cast (by norm_num : (0 : ℝ) ≤ 1 / 2)
  have h1 : (half : EReal) ≠ ⊤ := by rw [half_eq]; exact EReal.coe_ne_top _
  generalize (half : EReal) = a at h0 h1
  induction n with
  | zero => simp
  | succ n ih => rw [Fin.sum_univ_succ, Fin.sum_univ_succ, EReal.left_distrib_of_nonneg_of_ne_top h0 h1, ih]

/-- A gated unit: the first projection times its logistic, times the second projection. -/
def gated (a b : Ideal .f32) : Ideal .f32 := a * Ideal.logistic a * b

abbrev Rows : Shape := ⟨3, ![4, 2048, 2048]⟩
abbrev Gains : Shape := ⟨2, ![4, 2048]⟩
abbrev Up : Shape := ⟨3, ![4, 2048, 11264]⟩
abbrev Down : Shape := ⟨3, ![4, 5632, 2048]⟩
abbrev Flat : Shape := ⟨2, ![8192, 2048]⟩

variable (ℓ : Fin 4) (X : FVec Ideal Rows .f32) (G : FVec Ideal Gains .f32) (A : FVec Ideal Up .f32) (B : FVec Ideal Down .f32)

/-- One over the root of the mean square of a row. -/
def scale (v : Fin 2048 → Ideal .f32) : Ideal .f32 :=
  Ideal.rsqrt (Ideal.div (∑ q, v q * v q) (Ideal.ofBits .f32 0x45000000#32) + Ideal.ofBits .f32 0x358637BD#32)

/-- An entry of the normalized, scaled row. -/
def normed (b : Fin 4) (s k : Fin 2048) : Ideal .f32 := X (ix3 b s k) * scale (fun q => X (ix3 b s q)) * G (ix2 ℓ k)

/-- A hidden value of the row: column `l` of the first half of the up-projection gated with the same column of the second. -/
def unitAt (b : Fin 4) (s : Fin 2048) (l : Fin 5632) : Ideal .f32 :=
  gated (∑ q, normed ℓ X G b s q * A (ix3 ℓ q ⟨l.val, by omega⟩)) (∑ q, normed ℓ X G b s q * A (ix3 ℓ q ⟨5632 + l.val, by omega⟩))

/-- An entry of the half-step: the row plus half its feed-forward value. -/
def step (b : Fin 4) (s k : Fin 2048) : Ideal .f32 :=
  X (ix3 b s k) + half * ∑ l, unitAt ℓ X G A b s l * B (ix3 ℓ l k)

/-- What a block of 512 hidden columns adds to an entry. -/
def part (b : Fin 4) (s k : Fin 2048) (f : Fin 11) : Ideal .f32 :=
  half * ∑ l : Fin 512, unitAt ℓ X G A b s ⟨f.val * 512 + l.val, by omega⟩ * B (ix3 ℓ ⟨f.val * 512 + l.val, by omega⟩ k)

/-- The eleven blocks' parts, the first with the row itself, add up to the half-step. -/
theorem sum_parts (b : Fin 4) (s k : Fin 2048) :
    (∑ f : Fin 11, ((if f.val = 0 then (X (ix3 b s k) : EReal) else 0) + (part ℓ X G A B b s k f : EReal)) : EReal)
      = (step ℓ X G A B b s k : EReal) := by
  rw [Finset.sum_add_distrib]
  refine congrArg₂ (fun p q : EReal => p + q) ?_ ?_
  · rw [Fin.sum_univ_succ]
    simp
  · unfold part
    rw [← half_mul_sum]
    refine congrArg (fun p : EReal => (half : EReal) * p) ?_
    exact Fin.sum_mul_add_congr fun f l h => rfl

/-- The half-step as a flat array of rows. -/
def stepFlat : FVec Ideal Flat .f32 := fun i =>
  have h : (i 0).val < 8192 := (i 0).isLt
  step ℓ X G A B ⟨(i 0).val / 2048, by omega⟩ ⟨(i 0).val % 2048, by omega⟩ (i 1)

theorem stepFlat_at (i : Flat.Idx) (b : Fin 4) (s k : Fin 2048) (h : (i 0).val = 2048 * b.val + s.val) (hk : i 1 = k) :
    stepFlat ℓ X G A B i = step ℓ X G A B b s k := by
  have h0 : (i 0).val < 8192 := (i 0).isLt
  have hb : (⟨(i 0).val / 2048, by omega⟩ : Fin 4) = b := Fin.ext (by show (i 0).val / 2048 = b.val; omega)
  have hs : (⟨(i 0).val % 2048, by omega⟩ : Fin 2048) = s := Fin.ext (by show (i 0).val % 2048 = s.val; omega)
  have e : ∀ b' s' k', b' = b → s' = s → k' = k → step ℓ X G A B b' s' k' = step ℓ X G A B b s k := by
    rintro _ _ _ rfl rfl rfl
    rfl
  exact e _ _ _ hb hs hk

/-- An entry of the half-step's rows, normalized once more and scaled by a gain. -/
def stepNorm (g : FVec Ideal ⟨1, ![2048]⟩ .f32) (b : Fin 4) (s k : Fin 2048) : Ideal .f32 :=
  step ℓ X G A B b s k * scale (fun q => step ℓ X G A B b s q) * g (ix1 k)

/-- The half-step followed by a further normalization of its rows, as a flat array of rows. -/
def stepNormFlat (g : FVec Ideal ⟨1, ![2048]⟩ .f32) : FVec Ideal Flat .f32 := fun i =>
  have h : (i 0).val < 8192 := (i 0).isLt
  stepNorm ℓ X G A B g ⟨(i 0).val / 2048, by omega⟩ ⟨(i 0).val % 2048, by omega⟩ (i 1)

theorem stepNormFlat_at (g : FVec Ideal ⟨1, ![2048]⟩ .f32) (i : Flat.Idx) (b : Fin 4) (s k : Fin 2048) (h : (i 0).val = 2048 * b.val + s.val) (hk : i 1 = k) :
    stepNormFlat ℓ X G A B g i = stepNorm ℓ X G A B g b s k := by
  unfold stepNormFlat
  have h0 : (i 0).val < 8192 := (i 0).isLt
  have hb : (⟨(i 0).val / 2048, by omega⟩ : Fin 4) = b := Fin.ext (by show (i 0).val / 2048 = b.val; omega)
  have hs : (⟨(i 0).val % 2048, by omega⟩ : Fin 2048) = s := Fin.ext (by show (i 0).val % 2048 = s.val; omega)
  have e : ∀ b' s' k', b' = b → s' = s → k' = k → stepNorm ℓ X G A B g b' s' k' = stepNorm ℓ X G A B g b s k := by
    rintro _ _ _ rfl rfl rfl
    rfl
  exact e _ _ _ hb hs hk

end Cert.Ffn

end
-- ==== Proof.Ffn.lean ====
module

public import proofs.«01_k».proof.Proof.Gen.Kernel2Ideal.Frame
public import proofs.«01_k».proof.Proof.FfnMath
public import Idealize.ShloMosaic.Lib.StableHlo.ReadAt
public import Idealize.ShloMosaic.Lib.Pipeline.ValueKit
public import Idealize.ShloMosaic.Lib.Pipeline.ReadBack
import Idealize.ShloMosaic.Lib.Pointwise

@[expose] public section

set_option maxRecDepth 16384

noncomputable section

namespace Cert.Kernel2Ideal.Ffn

open Idealize.ShloMosaic Idealize.ShloMosaic.TcCoe Idealize.ShloMosaic.Tactic
open Cert.Kernel2Ideal Cert.Kernel2Ideal.Gen
open Cert.Ffn (half gated scale normed unitAt step part stepFlat)
open Idealize.ShloMosaic.Pipeline (Dat Cfg Window BodyObligation cellOf)

/-! ## What the body computes -/

theorem pay2_at (x : Vec Ideal S1024x2048 .f32) (j : S1024x2048.Idx) : k0_pay2 x j = x j := by
  pointwise [k0_pay2]

theorem pay3_at (x : Vec Ideal S1024x2048 .f32) (g : Vec Ideal S1x2048 .f32) (i : Fin 1024) (k : Fin 2048) :
    k0_pay3 x g (ix2 i k) = x (ix2 i k) * scale (fun q => x (ix2 i q)) * g (ix2 0 k) := by
  unfold scale
  pointwise [k0_pay3, k0_pay2]

theorem pay4_at (x : Vec Ideal S1024x2048 .bf16) (w1 w3 : Vec Ideal S2048x512 .bf16) (acc : Vec Ideal S1024x2048 .f32)
    (w2 : Vec Ideal S512x2048 .bf16) (j : S1024x2048.Idx) :
    k0_pay4 x w1 w3 acc w2 j = acc j + half *
      ∑ l : Fin 512, gated (∑ q, x (ix2 (j 0) q) * w1 (ix2 q l)) (∑ q, x (ix2 (j 0) q) * w3 (ix2 q l)) * w2 (ix2 l (j 1)) := by
  unfold gated
  pointwise [k0_pay4]

theorem pay5_at (w : Vec Ideal S1x256x1024 .f32) (j : S256x1024.Idx) : k0_pay5 w j = w (ix3 0 (j 0) (j 1)) := by
  pointwise [k0_pay5]

theorem pay6_at (w : Vec Ideal S1x512x256 .f32) (j : S512x256.Idx) : k0_pay1 (k0_pay6 w) j = w (ix3 0 (j 0) (j 1)) := by
  pointwise [k0_pay1, k0_pay6]

/-! ## What the windows read -/

variable (m : (ℓ : Loc nD τ sig) → Buf (Elt Ideal) ℓ)

theorem idx : ∀ t : Fin cfg0.N, win0_0.index t = ![t.val / 11, 0] ∧ win0_1.index t = ![0, 0] ∧ win0_2.index t = ![0, t.val % 11]
    ∧ win0_3.index t = ![0, t.val % 11 + 11] ∧ win0_4.index t = ![t.val % 11, 0] ∧ win0_5.index t = ![1, t.val / 11, t.val % 11]
    ∧ win0_6.index t = ![1, t.val % 11, t.val / 11] ∧ win0_7.index t = ![t.val / 11, 0] ∧ win0_8.index t = ![t.val / 11, t.val % 11]
    ∧ win0_9.index t = ![t.val % 11, t.val / 11] := (by decide +kernel : ∀ t : Fin grid0.N, _)

theorem x_read (c : Dev nD) (j : S8192x2048.Idx) :
    V m c main_v0 j = m ((c : Thread nD τ).loc main_arg0)
      (ix3 ⟨(j 0).val / 2048, by have h : (j 0).val < 8192 := (j 0).isLt; omega⟩ ⟨(j 0).val % 2048, by omega⟩ (j 1)) := by
  unfold V
  after_reads_at

theorem w1_read (c : Dev nD) (j : S2048x11264.Idx) :
    V m c main_v3 j = m ((c : Thread nD τ).loc main_arg2) (ix3 1 (j 0) (j 1)) := by
  unfold V
  after_reads_at

theorem w2_read (c : Dev nD) (j : S5632x2048.Idx) :
    V m c main_v6 j = m ((c : Thread nD τ).loc main_arg3) (ix3 1 (j 0) (j 1)) := by
  unfold V
  after_reads_at

theorem g_read (c : Dev nD) (j : S1x2048.Idx) : V m c main_v9 j = m ((c : Thread nD τ).loc main_arg1) (ix2 1 (j 1)) := by
  unfold V
  after_reads_at

theorem x_block (c : Dev nD) (t : Fin cfg0.N) (i : Fin 1024) (k : Fin 2048) (b : Fin 4) (s : Fin 2048)
    (h : 2048 * b.val + s.val = 1024 * (t.val / 11) + i.val) :
    iblk m c 0 t (ix2 i k) = m ((c : Thread nD τ).loc main_arg0) (ix3 b s k) := by
  refine (x_read m c ((win0_0.blk t).view.emb (ix2 i k))).trans ?_
  blk_ext [iblk, idx t]

theorem g_block (c : Dev nD) (t : Fin cfg0.N) (k : Fin 2048) :
    iblk m c 1 t (ix2 0 k) = m ((c : Thread nD τ).loc main_arg1) (ix2 1 k) := by
  refine (g_read m c ((win0_1.blk t).view.emb (ix2 0 k))).trans ?_
  blk_ext [iblk, idx t]

theorem w1_block (c : Dev nD) (t : Fin cfg0.N) (q : Fin 2048) (l : Fin 512) (n : Fin 11264) (h : n.val = t.val % 11 * 512 + l.val) :
    iblk m c 2 t (ix2 q l) = m ((c : Thread nD τ).loc main_arg2) (ix3 1 q n) := by
  refine (w1_read m c ((win0_2.blk t).view.emb (ix2 q l))).trans ?_
  blk_ext [iblk, idx t]

theorem w3_block (c : Dev nD) (t : Fin cfg0.N) (q : Fin 2048) (l : Fin 512) (n : Fin 11264) (h : n.val = 5632 + (t.val % 11 * 512 + l.val)) :
    iblk m c 3 t (ix2 q l) = m ((c : Thread nD τ).loc main_arg2) (ix3 1 q n) := by
  refine (w1_read m c ((win0_3.blk t).view.emb (ix2 q l))).trans ?_
  blk_ext [iblk, idx t]

theorem w2_block (c : Dev nD) (t : Fin cfg0.N) (l : Fin 512) (k : Fin 2048) (n : Fin 5632) (h : n.val = t.val % 11 * 512 + l.val) :
    iblk m c 4 t (ix2 l k) = m ((c : Thread nD τ).loc main_arg3) (ix3 1 n k) := by
  refine (w2_read m c ((win0_4.blk t).view.emb (ix2 l k))).trans ?_
  blk_ext [iblk, idx t]

/-! ## The normalized rows kept for the row block -/

theorem kept_first (c : Dev nD) (t : Fin cfg0.N) (h : t.val % 11 = 0) :
    (outsAt0 m c t.val t.isLt).2.2.2 = k0_pay3 (iblk m c 0 t) (iblk m c 1 t) := by
  rw [outsAt0_A m c t h]
  frame_out

theorem kept_later (c : Dev nD) (t : Fin cfg0.N) (h : ¬t.val % 11 = 0) :
    (outsAt0 m c t.val t.isLt).2.2.2 = (outsAt0 m c (t.val - 1) (Nat.lt_of_le_of_lt (Nat.sub_le _ _) t.isLt)).2.2.2 := by
  rw [outsAt0_B m c t h]
  dsimp only
  unfold sout0_B_0
  rfl

theorem kept (c : Dev nD) : ∀ (n : ℕ) (hn : n < cfg0.N) (i : Fin 1024) (k : Fin 2048) (b : Fin 4) (s : Fin 2048)
    (_ : 2048 * b.val + s.val = 1024 * (n / 11) + i.val),
    (outsAt0 m c n hn).2.2.2 (ix2 i k)
      = normed 1 (m ((c : Thread nD τ).loc main_arg0)) (m ((c : Thread nD τ).loc main_arg1)) b s k := by
  intro n
  induction n with
  | zero =>
    intro hn i k b s h
    refine (congrFun (kept_first m c ⟨0, hn⟩ rfl) _).trans ((pay3_at _ _ i k).trans ?_)
    unfold normed
    simp only [x_block m c ⟨0, hn⟩ i _ b s h, g_block m c ⟨0, hn⟩ k]
  | succ n ih =>
    intro hn i k b s h
    by_cases h0 : (n + 1) % 11 = 0
    · refine (congrFun (kept_first m c ⟨n + 1, hn⟩ h0) _).trans ((pay3_at _ _ i k).trans ?_)
      unfold normed
      simp only [x_block m c ⟨n + 1, hn⟩ i _ b s h, g_block m c ⟨n + 1, hn⟩ k]
    · exact (congrFun (kept_later m c ⟨n + 1, hn⟩ h0) _).trans (ih (Nat.lt_of_succ_lt hn) i k b s (by omega))

/-! ## The accumulated result block -/

/-- What point `t` adds to the result block: a block of hidden columns' part, and at a row block's first point the rows. -/
def added (c : Dev nD) (t : Fin cfg0.N) (j : S1024x2048.Idx) : EReal :=
  (if t.val % 11 = 0 then ((show FVec Ideal S1024x2048 .f32 from iblk m c 0 t) j : EReal) else 0)
    + (half * ∑ l : Fin 512, gated (∑ q, (outsAt0 m c t.val t.isLt).2.2.2 (ix2 (j 0) q) * (show FVec Ideal S2048x512 .bf16 from iblk m c 2 t) (ix2 q l))
        (∑ q, (outsAt0 m c t.val t.isLt).2.2.2 (ix2 (j 0) q) * (show FVec Ideal S2048x512 .bf16 from iblk m c 3 t) (ix2 q l))
        * (show FVec Ideal S512x2048 .bf16 from iblk m c 4 t) (ix2 l (j 1)) : Ideal .f32)

theorem block_first (c : Dev nD) (t : Fin cfg0.N) (h : t.val % 11 = 0) :
    (outsAt0 m c t.val t.isLt).1 = k0_pay4 (k0_pay3 (iblk m c 0 t) (iblk m c 1 t)) (iblk m c 2 t) (iblk m c 3 t) (k0_pay2 (iblk m c 0 t)) (iblk m c 4 t) := by
  rw [outsAt0_A m c t h]
  frame_out

theorem block_later (c : Dev nD) (t : Fin cfg0.N) (h : ¬t.val % 11 = 0) :
    (outsAt0 m c t.val t.isLt).1 = k0_pay4 (outsAt0 m c (t.val - 1) (Nat.lt_of_le_of_lt (Nat.sub_le _ _) t.isLt)).2.2.2 (iblk m c 2 t) (iblk m c 3 t)
      (outsAt0 m c (t.val - 1) (Nat.lt_of_le_of_lt (Nat.sub_le _ _) t.isLt)).1 (iblk m c 4 t) := by
  rw [outsAt0_B m c t h]
  frame_out
  rw [read_unread_whole]

theorem result_first (c : Dev nD) (t : Fin cfg0.N) (h : t.val % 11 = 0) (j : S1024x2048.Idx) :
    ((outsAt0 m c t.val t.isLt).1 j : EReal) = 0 + added m c t j := by
  rw [block_first m c t h, pay4_at, pay2_at, ← kept_first m c t h, zero_add]
  unfold added
  rw [if_pos h]

theorem result_later (c : Dev nD) (t : Fin cfg0.N) (h : ¬t.val % 11 = 0) (j : S1024x2048.Idx) :
    ((outsAt0 m c t.val t.isLt).1 j : EReal)
      = ((outsAt0 m c (t.val - 1) (Nat.lt_of_le_of_lt (Nat.sub_le _ _) t.isLt)).1 j : EReal) + added m c t j := by
  rw [block_later m c t h, pay4_at, ← kept_later m c t h]
  unfold added
  rw [if_neg h, zero_add]

/-- The part a point of a row block adds, in the arguments' entries. -/
theorem added_eq (c : Dev nD) (t : Fin cfg0.N) (i : Fin 1024) (k : Fin 2048) (b : Fin 4) (s : Fin 2048) (f : Fin 11)
    (h : 2048 * b.val + s.val = 1024 * (t.val / 11) + i.val) (hf : f.val = t.val % 11) :
    added m c t (ix2 i k) = (if f.val = 0 then ((show FVec Ideal S4x2048x2048 .f32 from m ((c : Thread nD τ).loc main_arg0)) (ix3 b s k) : EReal) else 0)
      + (part 1 (m ((c : Thread nD τ).loc main_arg0)) (m ((c : Thread nD τ).loc main_arg1)) (m ((c : Thread nD τ).loc main_arg2))
          (m ((c : Thread nD τ).loc main_arg3)) b s k f : EReal) := by
  unfold added part unitAt
  refine congrArg₂ (fun p q : EReal => p + q) ?_ ?_
  · rw [hf]
    split
    · exact x_block m c t i k b s h
    · rfl
  · refine congrArg (fun p : EReal => (half : EReal) * p) ?_
    refine Fin.sum_fin_congr fun l => ?_
    refine congrArg₂ (fun p q : EReal => p * q) (congrArg₂ gated ?_ ?_) ?_
    · refine Fin.sum_fin_congr fun q => ?_
      exact congrArg₂ (fun p q : EReal => p * q) (kept m c _ _ i q b s h) (w1_block m c t q l _ (congrArg (fun z => z * 512 + l.val) hf))
    · refine Fin.sum_fin_congr fun q => ?_
      exact congrArg₂ (fun p q : EReal => p * q) (kept m c _ _ i q b s h) (w3_block m c t q l _ (congrArg (fun z => 5632 + (z * 512 + l.val)) hf))
    · exact w2_block m c t l k _ (congrArg (fun z => z * 512 + l.val) hf)

/-- The result block as a row block's last point leaves it. -/
theorem result_block (c : Dev nD) (t : Fin cfg0.N) (ht : t.val % 11 = 10) (i : Fin 1024) (k : Fin 2048) (b : Fin 4) (s : Fin 2048)
    (h : 2048 * b.val + s.val = 1024 * (t.val / 11) + i.val) :
    (outsAt0 m c t.val t.isLt).1 (ix2 i k)
      = step 1 (m ((c : Thread nD τ).loc main_arg0)) (m ((c : Thread nD τ).loc main_arg1)) (m ((c : Thread nD τ).loc main_arg2))
          (m ((c : Thread nD τ).loc main_arg3)) b s k := by
  have e := Pipeline.eq_sum_fin_of_reset_step_apply_of_flush (M := EReal) (N := cfg0.N) (fun n h => (outsAt0 m c n h).1) 11 (fun _ => 0)
    (fun t j => added m c t j) (result_first m c) (result_later m c) t ht (ix2 i k)
  refine e.trans ((zero_add _).trans (Eq.trans ?_ (Cert.Ffn.sum_parts 1 _ _ _ _ b s k)))
  refine Finset.sum_congr rfl fun f _ => ?_
  exact added_eq m c _ i k b s f (by show _ = 1024 * ((11 * (t.val / 11) + f.val) / 11) + i.val; omega) (by show f.val = (11 * (t.val / 11) + f.val) % 11; omega)

/-! ## What the result arrays end holding -/

theorem place_y (t : Fin cfg0.N) (y : S1024x2048.Idx) (a : Fin 2) :
    ((win0_7.blk t).view.emb y a).val = (![t.val / 11, 0] : Fin 2 → ℕ) a * (![1024, 2048] : Fin 2 → ℕ) a + (y a).val := by
  rw [← (idx t).2.2.2.2.2.2.2.1]
  exact ValueKit.rect_emb_unit_val (s := win0_7.shape) _ _ _ y a

theorem point_y (c : Dev nD) (t : Fin cfg0.N) (ht : t.val % 11 = 10) (y : S1024x2048.Idx) :
    (outsAt0 m c t.val t.isLt).1 y
      = stepFlat 1 (m ((c : Thread nD τ).loc main_arg0)) (m ((c : Thread nD τ).loc main_arg1)) (m ((c : Thread nD τ).loc main_arg2))
          (m ((c : Thread nD τ).loc main_arg3)) ((win0_7.blk t).view.emb y) := by
  have hN : t.val < 88 := lt_of_lt_of_eq t.isLt N_0
  have hy : (y 0).val < 1024 := (y 0).isLt
  have e0 : ((win0_7.blk t).view.emb y 0).val = t.val / 11 * 1024 + (y 0).val := place_y t y 0
  have e1 : ((win0_7.blk t).view.emb y 1).val = (y 1).val := (place_y t y 1).trans (by simp)
  have key := result_block m c t ht (y 0) (y 1) ⟨(1024 * (t.val / 11) + (y 0).val) / 2048, by omega⟩ ⟨(1024 * (t.val / 11) + (y 0).val) % 2048, by omega⟩
    (by show 2048 * (_ / 2048) + _ % 2048 = _; omega)
  refine (congrArg (outsAt0 m c t.val t.isLt).1 (show y = ix2 (y 0) (y 1) from by funext a; match a with | ⟨0, _⟩ => rfl | ⟨1, _⟩ => rfl)).trans (key.trans ?_)
  refine (Cert.Ffn.stepFlat_at 1 _ _ _ _ _ _ _ (y 1) ?_ (Fin.ext e1)).symm
  refine e0.trans ?_
  show _ = 2048 * (_ / 2048) + _ % 2048
  omega

theorem final_y (c : Dev nD) : (dats m 0 c).arrAt 7 (cfgs 0).N
    = stepFlat 1 (m ((c : Thread nD τ).loc main_arg0)) (m ((c : Thread nD τ).loc main_arg1)) (m ((c : Thread nD τ).loc main_arg2))
        (m ((c : Thread nD τ).loc main_arg3)) := by
  refine (dats m 0 c).arrAt_eq_of_covers 7 _ (by decide +kernel) fun t hf y => ?_
  have ht := (flush0_7 t).mp hf
  rw [after0_7]
  blk_simp
  exact point_y m c t ht y

/-- The sliced and rounded up-projection weights: a slice of the fifth argument. -/
theorem final_up (c : Dev nD) : (dats m 0 c).arrAt 8 (cfgs 0).N
    = fun i : S2048x11264.Idx => m ((c : Thread nD τ).loc main_arg4) (ix3 1 (i 0) (i 1)) := by
  refine (dats m 0 c).arrAt_eq_of_covers 8 _ (by decide +kernel) fun t hf y => ?_
  have e : (outsAt0 m c t.val t.isLt).2.1 = k0_pay5 (iblk m c 5 t) := by
    by_cases h : t.val % 11 = 0
    · rw [outsAt0_A m c t h]; frame_out
    · rw [outsAt0_B m c t h]; frame_out
  rw [after0_8, e]
  refine (pay5_at _ y).trans ?_
  blk_point [iblk, V, idx t]

/-- The sliced and rounded down-projection weights: a slice of the sixth argument. -/
theorem final_down (c : Dev nD) : (dats m 0 c).arrAt 9 (cfgs 0).N
    = fun i : S5632x2048.Idx => m ((c : Thread nD τ).loc main_arg5) (ix3 1 (i 0) (i 1)) := by
  refine (dats m 0 c).arrAt_eq_of_covers 9 _ (by decide +kernel) fun t hf y => ?_
  have e : (outsAt0 m c t.val t.isLt).2.2.1 = k0_pay1 (k0_pay6 (iblk m c 6 t)) := by
    by_cases h : t.val % 11 = 0
    · rw [outsAt0_A m c t h]; frame_out
    · rw [outsAt0_B m c t h]; frame_out
  rw [after0_9, e]
  refine (pay6_at _ y).trans ?_
  blk_point [iblk, V, idx t]

end Cert.Kernel2Ideal.Ffn

end
-- ==== Proof.FfnReference.lean ====
module

public import proofs.«01_k».proof.Proof.FfnMath
public import proofs.«01_k».proof.Proof.Gen.Reference2Ideal
public import proofs.«01_k».proof.Defs
public import Idealize.ShloMosaic.Lib.Claim
import Idealize.ShloMosaic.Lib.Pointwise

@[expose] public section

set_option maxRecDepth 16384

noncomputable section

namespace Cert.Reference2Ideal.Ffn

open Idealize.ShloMosaic Idealize.ShloMosaic.TcCoe Idealize.ShloMosaic.Tactic Idealize.SL.Sem
open Cert.Reference2Ideal Cert.Reference2Ideal.Gen
open Cert.Ffn (half gated scale normed unitAt step stepFlat)

set_option maxHeartbeats 1000000 in
/-- The reference's run: its three results. -/
theorem reference_outcome (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v28) = stepFlat 1 (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_v31) = (fun i : S2048x11264.Idx => m ((c.tc : Thread nD τ).loc main_arg4) (ix3 1 (i 0) (i 1)))
      ∧ r.2.mem ((c.tc : Thread nD τ).loc main_v34) = (fun i : S5632x2048.Idx => m ((c.tc : Thread nD τ).loc main_arg5) (ix3 1 (i 0) (i 1)))) := by
  hlo_run
  · funext i
    simp only [stepFlat, step, unitAt, gated, normed, scale]
    simp -implicitDefEqProofs only [StableHlo.TRef.toBuf, StableHlo.TRef.ofBuf, cast_cast, cast_eq]
    pointwise
    rfl
  · funext i; pointwise
  · funext i; pointwise

theorem frame_reference : Cert.quiescent_Reference2Ideal := by
  intro m g hpre
  refine (θ_run Cert.Reference2Ideal.defs _ _).mono (fun r h => ⟨h, sem_eq_zero_of_no_sems (by decide) r.2⟩) ?_
  hlo_run

end Cert.Reference2Ideal.Ffn

end
-- ==== Proof.FfnClaim.lean ====
module

public import proofs.«01_k».proof.Proof.Ffn
public import proofs.«01_k».proof.Proof.FfnReference
public import proofs.«01_k».proof.Defs
public import Idealize.ShloMosaic.Lib.Claim

@[expose] public section

set_option maxRecDepth 16384

noncomputable section

namespace Cert.Kernel2Ideal.Ffn

open Idealize.ShloMosaic Idealize.ShloMosaic.TcCoe Idealize.ShloMosaic.Tactic Idealize.SL.Sem
open Cert.Kernel2Ideal Cert.Kernel2Ideal.Gen
open Cert.Ffn (stepFlat)

/-- The kernel's run over the extended reals: the half-step's entries, and the two weight matrices sliced. -/
theorem kernel_outcome (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v10_0) = stepFlat 1 (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_v10_1) = (fun i : S2048x11264.Idx => m ((c.tc : Thread nD τ).loc main_arg4) (ix3 1 (i 0) (i 1)))
      ∧ r.2.mem ((c.tc : Thread nD τ).loc main_v10_2) = (fun i : S5632x2048.Idx => m ((c.tc : Thread nD τ).loc main_arg5) (ix3 1 (i 0) (i 1)))) :=
  (θ_run defs _ _).mono (fun _ h c => ⟨((h c).1 7).trans (final_y m c), ((h c).1 8).trans (final_up m c), ((h c).1 9).trans (final_down m c)⟩) (run_main m ρ)

theorem algebraic : Cert.algebraic_Kernel2Ideal_Reference2Ideal := by
  pair_intro
  · run_from kernel_outcome m g & Gen.frame m g
  · run_from Cert.Reference2Ideal.Ffn.reference_outcome m' g' & Cert.Reference2Ideal.Ffn.frame_reference m' g' trivial

end Cert.Kernel2Ideal.Ffn

end
-- ==== Proof.LastFfn.lean ====
module

public import proofs.«01_k».proof.Proof.Gen.Kernel3Ideal.Frame
public import proofs.«01_k».proof.Proof.FfnMath
public import Idealize.ShloMosaic.Lib.StableHlo.ReadAt
public import Idealize.ShloMosaic.Lib.Pipeline.ValueKit
public import Idealize.ShloMosaic.Lib.Pipeline.ReadBack
import Idealize.ShloMosaic.Lib.Pointwise

@[expose] public section

set_option maxRecDepth 16384

noncomputable section

namespace Cert.Kernel3Ideal.Ffn

open Idealize.ShloMosaic Idealize.ShloMosaic.TcCoe Idealize.ShloMosaic.Tactic
open Cert.Kernel3Ideal Cert.Kernel3Ideal.Gen
open Cert.Ffn (half gated scale normed unitAt step part stepNorm stepNormFlat)
open Idealize.ShloMosaic.Pipeline (Dat Cfg Window BodyObligation cellOf)

/-! ## What the body computes -/

theorem pay1_at (x : Vec Ideal S1024x2048 .f32) (j : S1024x2048.Idx) : k0_pay1 x j = x j := by
  pointwise [k0_pay1]

theorem pay2_at (x : Vec Ideal S1024x2048 .f32) (g : Vec Ideal S1x2048 .f32) (i : Fin 1024) (k : Fin 2048) :
    k0_pay2 x g (ix2 i k) = x (ix2 i k) * scale (fun q => x (ix2 i q)) * g (ix2 0 k) := by
  unfold scale
  pointwise [k0_pay2, k0_pay1]

theorem pay3_at (x : Vec Ideal S1024x2048 .bf16) (w1 w3 : Vec Ideal S2048x512 .bf16) (acc : Vec Ideal S1024x2048 .f32)
    (w2 : Vec Ideal S512x2048 .bf16) (j : S1024x2048.Idx) :
    k0_pay3 x w1 w3 acc w2 j = acc j + half *
      ∑ l : Fin 512, gated (∑ q, x (ix2 (j 0) q) * w1 (ix2 q l)) (∑ q, x (ix2 (j 0) q) * w3 (ix2 q l)) * w2 (ix2 l (j 1)) := by
  unfold gated
  pointwise [k0_pay3]

theorem final_pay_at (y : Vec Ideal S1024x2048 .f32) (g : Vec Ideal S1x2048 .f32) (i : Fin 1024) (k : Fin 2048) :
    k0_pay4 y g (ix2 i k) = y (ix2 i k) * scale (fun q => y (ix2 i q)) * g (ix2 0 k) := by
  unfold scale
  pointwise [k0_pay4]

/-! ## What the windows read -/

variable (m : (ℓ : Loc nD τ sig) → Buf (Elt Ideal) ℓ)

theorem idx : ∀ t : Fin cfg0.N, win0_0.index t = ![t.val / 11, 0] ∧ win0_1.index t = ![0, 0] ∧ win0_2.index t = ![0, t.val % 11]
    ∧ win0_3.index t = ![0, t.val % 11 + 11] ∧ win0_4.index t = ![t.val % 11, 0] ∧ win0_5.index t = ![0, 0]
    ∧ win0_6.index t = ![t.val / 11, 0] := (by decide +kernel : ∀ t : Fin grid0.N, _)

theorem x_read (c : Dev nD) (j : S8192x2048.Idx) :
    V m c main_v0 j = m ((c : Thread nD τ).loc main_arg0)
      (ix3 ⟨(j 0).val / 2048, by have h : (j 0).val < 8192 := (j 0).isLt; omega⟩ ⟨(j 0).val % 2048, by omega⟩ (j 1)) := by
  unfold V
  after_reads_at

theorem w1_read (c : Dev nD) (j : S2048x11264.Idx) :
    V m c main_v3 j = m ((c : Thread nD τ).loc main_arg2) (ix3 3 (j 0) (j 1)) := by
  unfold V
  after_reads_at

theorem w2_read (c : Dev nD) (j : S5632x2048.Idx) :
    V m c main_v6 j = m ((c : Thread nD τ).loc main_arg3) (ix3 3 (j 0) (j 1)) := by
  unfold V
  after_reads_at

theorem g_read (c : Dev nD) (j : S1x2048.Idx) : V m c main_v9 j = m ((c : Thread nD τ).loc main_arg1) (ix2 3 (j 1)) := by
  unfold V
  after_reads_at

theorem last_read (c : Dev nD) (j : S1x2048.Idx) : V m c main_v10 j = m ((c : Thread nD τ).loc main_arg4) (ix1 (j 1)) := by
  unfold V
  after_reads_at

theorem x_block (c : Dev nD) (t : Fin cfg0.N) (i : Fin 1024) (k : Fin 2048) (b : Fin 4) (s : Fin 2048)
    (h : 2048 * b.val + s.val = 1024 * (t.val / 11) + i.val) :
    iblk m c 0 t (ix2 i k) = m ((c : Thread nD τ).loc main_arg0) (ix3 b s k) := by
  refine (x_read m c ((win0_0.blk t).view.emb (ix2 i k))).trans ?_
  blk_ext [iblk, idx t]

theorem g_block (c : Dev nD) (t : Fin cfg0.N) (k : Fin 2048) :
    iblk m c 1 t (ix2 0 k) = m ((c : Thread nD τ).loc main_arg1) (ix2 3 k) := by
  refine (g_read m c ((win0_1.blk t).view.emb (ix2 0 k))).trans ?_
  blk_ext [iblk, idx t]

theorem w1_block (c : Dev nD) (t : Fin cfg0.N) (q : Fin 2048) (l : Fin 512) (n : Fin 11264) (h : n.val = t.val % 11 * 512 + l.val) :
    iblk m c 2 t (ix2 q l) = m ((c : Thread nD τ).loc main_arg2) (ix3 3 q n) := by
  refine (w1_read m c ((win0_2.blk t).view.emb (ix2 q l))).trans ?_
  blk_ext [iblk, idx t]

theorem w3_block (c : Dev nD) (t : Fin cfg0.N) (q : Fin 2048) (l : Fin 512) (n : Fin 11264) (h : n.val = 5632 + (t.val % 11 * 512 + l.val)) :
    iblk m c 3 t (ix2 q l) = m ((c : Thread nD τ).loc main_arg2) (ix3 3 q n) := by
  refine (w1_read m c ((win0_3.blk t).view.emb (ix2 q l))).trans ?_
  blk_ext [iblk, idx t]

theorem w2_block (c : Dev nD) (t : Fin cfg0.N) (l : Fin 512) (k : Fin 2048) (n : Fin 5632) (h : n.val = t.val % 11 * 512 + l.val) :
    iblk m c 4 t (ix2 l k) = m ((c : Thread nD τ).loc main_arg3) (ix3 3 n k) := by
  refine (w2_read m c ((win0_4.blk t).view.emb (ix2 l k))).trans ?_
  blk_ext [iblk, idx t]

theorem last_block (c : Dev nD) (t : Fin cfg0.N) (k : Fin 2048) :
    iblk m c 5 t (ix2 0 k) = m ((c : Thread nD τ).loc main_arg4) (ix1 k) := by
  refine (last_read m c ((win0_5.blk t).view.emb (ix2 0 k))).trans ?_
  blk_ext [iblk, idx t]

/-! ## The normalized rows kept for the row block -/

theorem kept_first (c : Dev nD) (t : Fin cfg0.N) (h : t.val % 11 = 0) :
    (outsAt0 m c t.val t.isLt).2 = k0_pay2 (iblk m c 0 t) (iblk m c 1 t) := by
  rw [outsAt0_A m c t h (by omega)]
  frame_out

theorem kept_later (c : Dev nD) (t : Fin cfg0.N) (h : ¬t.val % 11 = 0) :
    (outsAt0 m c t.val t.isLt).2 = (outsAt0 m c (t.val - 1) (Nat.lt_of_le_of_lt (Nat.sub_le _ _) t.isLt)).2 := by
  by_cases h1 : t.val % 11 = 10
  · rw [outsAt0_C m c t h h1]
    dsimp only
    unfold sout0_C_0
    rfl
  · rw [outsAt0_B m c t h h1]
    dsimp only
    unfold sout0_B_0
    rfl

theorem kept (c : Dev nD) : ∀ (n : ℕ) (hn : n < cfg0.N) (i : Fin 1024) (k : Fin 2048) (b : Fin 4) (s : Fin 2048)
    (_ : 2048 * b.val + s.val = 1024 * (n / 11) + i.val),
    (outsAt0 m c n hn).2 (ix2 i k)
      = normed 3 (m ((c : Thread nD τ).loc main_arg0)) (m ((c : Thread nD τ).loc main_arg1)) b s k := by
  intro n
  induction n with
  | zero =>
    intro hn i k b s h
    refine (congrFun (kept_first m c ⟨0, hn⟩ rfl) _).trans ((pay2_at _ _ i k).trans ?_)
    unfold normed
    simp only [x_block m c ⟨0, hn⟩ i _ b s h, g_block m c ⟨0, hn⟩ k]
  | succ n ih =>
    intro hn i k b s h
    by_cases h0 : (n + 1) % 11 = 0
    · refine (congrFun (kept_first m c ⟨n + 1, hn⟩ h0) _).trans ((pay2_at _ _ i k).trans ?_)
      unfold normed
      simp only [x_block m c ⟨n + 1, hn⟩ i _ b s h, g_block m c ⟨n + 1, hn⟩ k]
    · exact (congrFun (kept_later m c ⟨n + 1, hn⟩ h0) _).trans (ih (Nat.lt_of_succ_lt hn) i k b s (by omega))

/-! ## The accumulated result block -/

/-- What point `t` adds to the result block: a block of hidden columns' part, and at a row block's first point the rows. -/
def added (c : Dev nD) (t : Fin cfg0.N) (j : S1024x2048.Idx) : EReal :=
  (if t.val % 11 = 0 then ((show FVec Ideal S1024x2048 .f32 from iblk m c 0 t) j : EReal) else 0)
    + (half * ∑ l : Fin 512, gated (∑ q, (outsAt0 m c t.val t.isLt).2 (ix2 (j 0) q) * (show FVec Ideal S2048x512 .bf16 from iblk m c 2 t) (ix2 q l))
        (∑ q, (outsAt0 m c t.val t.isLt).2 (ix2 (j 0) q) * (show FVec Ideal S2048x512 .bf16 from iblk m c 3 t) (ix2 q l))
        * (show FVec Ideal S512x2048 .bf16 from iblk m c 4 t) (ix2 l (j 1)) : Ideal .f32)

theorem block_first (c : Dev nD) (t : Fin cfg0.N) (h : t.val % 11 = 0) :
    (outsAt0 m c t.val t.isLt).1 = k0_pay3 (k0_pay2 (iblk m c 0 t) (iblk m c 1 t)) (iblk m c 2 t) (iblk m c 3 t) (k0_pay1 (iblk m c 0 t)) (iblk m c 4 t) := by
  rw [outsAt0_A m c t h (by omega)]
  frame_out

/-- The result block with point `t`'s part added to what the point before left. -/
def grown (c : Dev nD) (t : Fin cfg0.N) : FVec Ideal S1024x2048 .f32 :=
  k0_pay3 (outsAt0 m c (t.val - 1) (Nat.lt_of_le_of_lt (Nat.sub_le _ _) t.isLt)).2 (iblk m c 2 t) (iblk m c 3 t)
    (outsAt0 m c (t.val - 1) (Nat.lt_of_le_of_lt (Nat.sub_le _ _) t.isLt)).1 (iblk m c 4 t)

theorem block_later (c : Dev nD) (t : Fin cfg0.N) (h : ¬t.val % 11 = 0) (h1 : ¬t.val % 11 = 10) : (outsAt0 m c t.val t.isLt).1 = grown m c t := by
  rw [outsAt0_B m c t h h1]
  unfold grown
  frame_out
  rw [read_unread_whole]

theorem block_last (c : Dev nD) (t : Fin cfg0.N) (h1 : t.val % 11 = 10) :
    (outsAt0 m c t.val t.isLt).1 = k0_pay4 (grown m c t) (iblk m c 5 t) := by
  rw [outsAt0_C m c t (by omega) h1]
  unfold grown
  frame_out
  rw [read_unread_whole]

/-- The result block before the closing normalization. -/
def sums (c : Dev nD) (n : ℕ) (hn : n < cfg0.N) (j : S1024x2048.Idx) : EReal :=
  if n % 11 = 10 then (grown m c ⟨n, hn⟩ j : EReal) else ((outsAt0 m c n hn).1 j : EReal)

theorem result_first (c : Dev nD) (t : Fin cfg0.N) (h : t.val % 11 = 0) (j : S1024x2048.Idx) :
    sums m c t.val t.isLt j = 0 + added m c t j := by
  unfold sums
  rw [if_neg (by omega), block_first m c t h, pay3_at, pay1_at, ← kept_first m c t h, zero_add]
  unfold added
  rw [if_pos h]

theorem grown_at (c : Dev nD) (t : Fin cfg0.N) (h : ¬t.val % 11 = 0) (j : S1024x2048.Idx) :
    (grown m c t j : EReal) = ((outsAt0 m c (t.val - 1) (Nat.lt_of_le_of_lt (Nat.sub_le _ _) t.isLt)).1 j : EReal) + added m c t j := by
  unfold grown
  rw [pay3_at, ← kept_later m c t h]
  unfold added
  rw [if_neg h, zero_add]

theorem result_later (c : Dev nD) (t : Fin cfg0.N) (h : ¬t.val % 11 = 0) (j : S1024x2048.Idx) :
    sums m c t.val t.isLt j = sums m c (t.val - 1) (Nat.lt_of_le_of_lt (Nat.sub_le _ _) t.isLt) j + added m c t j := by
  have e : sums m c (t.val - 1) (Nat.lt_of_le_of_lt (Nat.sub_le _ _) t.isLt) j
      = ((outsAt0 m c (t.val - 1) (Nat.lt_of_le_of_lt (Nat.sub_le _ _) t.isLt)).1 j : EReal) := if_neg (by omega)
  rw [e, ← grown_at m c t h j]
  unfold sums
  split
  · rfl
  · next h1 => exact congrFun (block_later m c t h h1) j

/-- The part a point of a row block adds, in the arguments' entries. -/
theorem added_eq (c : Dev nD) (t : Fin cfg0.N) (i : Fin 1024) (k : Fin 2048) (b : Fin 4) (s : Fin 2048) (f : Fin 11)
    (h : 2048 * b.val + s.val = 1024 * (t.val / 11) + i.val) (hf : f.val = t.val % 11) :
    added m c t (ix2 i k) = (if f.val = 0 then ((show FVec Ideal S4x2048x2048 .f32 from m ((c : Thread nD τ).loc main_arg0)) (ix3 b s k) : EReal) else 0)
      + (part 3 (m ((c : Thread nD τ).loc main_arg0)) (m ((c : Thread nD τ).loc main_arg1)) (m ((c : Thread nD τ).loc main_arg2))
          (m ((c : Thread nD τ).loc main_arg3)) b s k f : EReal) := by
  unfold added part unitAt
  refine congrArg₂ (fun p q : EReal => p + q) ?_ ?_
  · rw [hf]
    split
    · exact x_block m c t i k b s h
    · rfl
  · refine congrArg (fun p : EReal => (half : EReal) * p) ?_
    refine Fin.sum_fin_congr fun l => ?_
    refine congrArg₂ (fun p q : EReal => p * q) (congrArg₂ gated ?_ ?_) ?_
    · refine Fin.sum_fin_congr fun q => ?_
      exact congrArg₂ (fun p q : EReal => p * q) (kept m c _ _ i q b s h) (w1_block m c t q l _ (congrArg (fun z => z * 512 + l.val) hf))
    · refine Fin.sum_fin_congr fun q => ?_
      exact congrArg₂ (fun p q : EReal => p * q) (kept m c _ _ i q b s h) (w3_block m c t q l _ (congrArg (fun z => 5632 + (z * 512 + l.val)) hf))
    · exact w2_block m c t l k _ (congrArg (fun z => z * 512 + l.val) hf)

/-- The result block at a row block's last point, before the closing normalization. -/
theorem grown_last (c : Dev nD) (t : Fin cfg0.N) (ht : t.val % 11 = 10) (i : Fin 1024) (k : Fin 2048) (b : Fin 4) (s : Fin 2048)
    (h : 2048 * b.val + s.val = 1024 * (t.val / 11) + i.val) :
    grown m c t (ix2 i k)
      = step 3 (m ((c : Thread nD τ).loc main_arg0)) (m ((c : Thread nD τ).loc main_arg1)) (m ((c : Thread nD τ).loc main_arg2))
          (m ((c : Thread nD τ).loc main_arg3)) b s k := by
  have e := Pipeline.eq_sum_fin_of_reset_step_apply_of_flush (M := EReal) (N := cfg0.N) (sums m c) 11 (fun _ => 0)
    (fun t j => added m c t j) (result_first m c) (result_later m c) t ht (ix2 i k)
  refine (show grown m c t (ix2 i k) = sums m c t.val t.isLt (ix2 i k) from (if_pos ht).symm).trans ?_
  refine e.trans ((zero_add _).trans (Eq.trans ?_ (Cert.Ffn.sum_parts 3 _ _ _ _ b s k)))
  refine Finset.sum_congr rfl fun f _ => ?_
  exact added_eq m c _ i k b s f (by show _ = 1024 * ((11 * (t.val / 11) + f.val) / 11) + i.val; omega) (by show f.val = (11 * (t.val / 11) + f.val) % 11; omega)

/-- The result block as a row block's last point leaves it. -/
theorem result_block (c : Dev nD) (t : Fin cfg0.N) (ht : t.val % 11 = 10) (i : Fin 1024) (k : Fin 2048) (b : Fin 4) (s : Fin 2048)
    (h : 2048 * b.val + s.val = 1024 * (t.val / 11) + i.val) :
    (outsAt0 m c t.val t.isLt).1 (ix2 i k)
      = stepNorm 3 (m ((c : Thread nD τ).loc main_arg0)) (m ((c : Thread nD τ).loc main_arg1)) (m ((c : Thread nD τ).loc main_arg2))
          (m ((c : Thread nD τ).loc main_arg3)) (m ((c : Thread nD τ).loc main_arg4)) b s k := by
  refine (congrFun (block_last m c t ht) _).trans ((final_pay_at _ _ i k).trans ?_)
  unfold stepNorm
  simp only [grown_last m c t ht i _ b s h, last_block m c t k]

/-! ## What the result array ends holding -/

theorem place_y (t : Fin cfg0.N) (y : S1024x2048.Idx) (a : Fin 2) :
    ((win0_6.blk t).view.emb y a).val = (![t.val / 11, 0] : Fin 2 → ℕ) a * (![1024, 2048] : Fin 2 → ℕ) a + (y a).val := by
  rw [← (idx t).2.2.2.2.2.2]
  exact ValueKit.rect_emb_unit_val (s := win0_6.shape) _ _ _ y a

theorem point_y (c : Dev nD) (t : Fin cfg0.N) (ht : t.val % 11 = 10) (y : S1024x2048.Idx) :
    (outsAt0 m c t.val t.isLt).1 y
      = stepNormFlat 3 (m ((c : Thread nD τ).loc main_arg0)) (m ((c : Thread nD τ).loc main_arg1)) (m ((c : Thread nD τ).loc main_arg2))
          (m ((c : Thread nD τ).loc main_arg3)) (m ((c : Thread nD τ).loc main_arg4)) ((win0_6.blk t).view.emb y) := by
  have hN : t.val < 88 := lt_of_lt_of_eq t.isLt N_0
  have hy : (y 0).val < 1024 := (y 0).isLt
  have e0 : ((win0_6.blk t).view.emb y 0).val = t.val / 11 * 1024 + (y 0).val := place_y t y 0
  have e1 : ((win0_6.blk t).view.emb y 1).val = (y 1).val := (place_y t y 1).trans (by simp)
  have key := result_block m c t ht (y 0) (y 1) ⟨(1024 * (t.val / 11) + (y 0).val) / 2048, by omega⟩ ⟨(1024 * (t.val / 11) + (y 0).val) % 2048, by omega⟩
    (by show 2048 * (_ / 2048) + _ % 2048 = _; omega)
  refine (congrArg (outsAt0 m c t.val t.isLt).1 (show y = ix2 (y 0) (y 1) from by funext a; match a with | ⟨0, _⟩ => rfl | ⟨1, _⟩ => rfl)).trans (key.trans ?_)
  refine (Cert.Ffn.stepNormFlat_at 3 _ _ _ _ _ _ _ _ (y 1) ?_ (Fin.ext e1)).symm
  refine e0.trans ?_
  show _ = 2048 * (_ / 2048) + _ % 2048
  omega

theorem final_y (c : Dev nD) : (dats m 0 c).arrAt 6 (cfgs 0).N
    = stepNormFlat 3 (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  have ht := (flush0_6 t).mp hf
  rw [after0_6]
  blk_simp
  exact point_y m c t ht y

end Cert.Kernel3Ideal.Ffn

end
-- ==== Proof.LastFfnReference.lean ====
module

public import proofs.«01_k».proof.Proof.FfnMath
public import proofs.«01_k».proof.Proof.Gen.Reference3Ideal
public import proofs.«01_k».proof.Defs
public import Idealize.ShloMosaic.Lib.Claim
import Idealize.ShloMosaic.Lib.Pointwise

@[expose] public section

set_option maxRecDepth 16384

noncomputable section

namespace Cert.Reference3Ideal.Ffn

open Idealize.ShloMosaic Idealize.ShloMosaic.TcCoe Idealize.ShloMosaic.Tactic Idealize.SL.Sem
open Cert.Reference3Ideal Cert.Reference3Ideal.Gen
open Cert.Ffn (half gated scale normed unitAt step stepNorm stepNormFlat)

set_option maxHeartbeats 1000000 in
/-- The reference's run: its result. -/
theorem reference_outcome (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v41) = stepNormFlat 3 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))) := by
  hlo_run
  funext i
  simp only [stepNormFlat, stepNorm, step, unitAt, gated, normed, scale]
  simp -implicitDefEqProofs only [StableHlo.TRef.toBuf, StableHlo.TRef.ofBuf, cast_cast, cast_eq]
  pointwise
  rfl

theorem frame_reference : Cert.quiescent_Reference3Ideal := by
  intro m g hpre
  refine (θ_run Cert.Reference3Ideal.defs _ _).mono (fun r h => ⟨h, sem_eq_zero_of_no_sems (by decide) r.2⟩) ?_
  hlo_run

end Cert.Reference3Ideal.Ffn

end
-- ==== Proof.LastFfnClaim.lean ====
module

public import proofs.«01_k».proof.Proof.LastFfn
public import proofs.«01_k».proof.Proof.LastFfnReference
public import proofs.«01_k».proof.Defs
public import Idealize.ShloMosaic.Lib.Claim

@[expose] public section

set_option maxRecDepth 16384

noncomputable section

namespace Cert.Kernel3Ideal.Ffn

open Idealize.ShloMosaic Idealize.ShloMosaic.TcCoe Idealize.ShloMosaic.Tactic Idealize.SL.Sem
open Cert.Kernel3Ideal Cert.Kernel3Ideal.Gen
open Cert.Ffn (stepNormFlat)

/-- The kernel's run over the extended reals: the entries of the last half-step's rows, normalized. -/
theorem kernel_outcome (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v11) = stepNormFlat 3 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))) :=
  (θ_run defs _ _).mono (fun _ h c => ((h c).1 6).trans (final_y m c)) (run_main m ρ)

theorem algebraic : Cert.algebraic_Kernel3Ideal_Reference3Ideal := by
  pair_intro
  · run_from kernel_outcome m g & Gen.frame m g
  · run_from Cert.Reference3Ideal.Ffn.reference_outcome m' g' & Cert.Reference3Ideal.Ffn.frame_reference m' g' trivial

end Cert.Kernel3Ideal.Ffn

end
-- ==== Proof.MergeMath.lean ====
module

public import Idealize.ShloMosaic.Lib.Pipeline.ValueKit
public import Idealize.ShloMosaic.Lib.IdealHost

@[expose] public section

set_option maxRecDepth 16384

noncomputable section

namespace Cert.Merge

open Idealize.ShloMosaic

/-! # The gated merge of three branches and its output projection, entry by entry over the extended reals -/

abbrev Branch : Shape := ⟨3, ![4, 2048, 1024]⟩
abbrev Gates : Shape := ⟨2, ![8192, 10240]⟩
abbrev Rows : Shape := ⟨3, ![4, 2048, 2048]⟩
abbrev Weights : Shape := ⟨3, ![4, 1024, 2048]⟩
abbrev Flat : Shape := ⟨2, ![8192, 2048]⟩

/-- An entry's gate: the logistic of its logit, whose column is after the first 4096 of the array. -/
def gate (Z : FVec Ideal Gates .bf16) (n : Fin 3) (b : Fin 4) (s k : Fin 2048) : Ideal .f32 :=
  Ideal.logistic (Z (ix2 ⟨b.val * 2048 + s.val, by omega⟩ ⟨4096 + (2048 * n.val + k.val), by omega⟩) : EReal)

/-- An entry of a branch's projection. -/
def proj (ℓ : Fin 4) (Y : FVec Ideal Branch .bf16) (W : FVec Ideal Weights .f32) (b : Fin 4) (s k : Fin 2048) : Ideal .f32 :=
  (∑ q, (Y (ix3 b s q) : EReal) * (W (ix3 ℓ q k) : EReal) : EReal)

variable (ℓ : Fin 4) (P Q R : FVec Ideal Branch .bf16) (Z : FVec Ideal Gates .bf16) (X : FVec Ideal Rows .f32)
  (A B C : FVec Ideal Weights .f32) (D : FVec Ideal Rows .f32)

/-- An entry of the merged row: the three gated projections added up. -/
def merged (b : Fin 4) (s k : Fin 2048) : Ideal .f32 :=
  gate Z 0 b s k * proj ℓ P A b s k + gate Z 1 b s k * proj ℓ Q B b s k + gate Z 2 b s k * proj ℓ R C b s k

/-- An entry of the result: the row plus the merged row's output projection. -/
def out (b : Fin 4) (s k : Fin 2048) : Ideal .f32 :=
  X (ix3 b s k) + ∑ l, merged ℓ P Q R Z A B C b s l * D (ix3 ℓ l k)

/-- The result as a flat array of rows. -/
def outFlat : FVec Ideal Flat .f32 := fun i =>
  have h : (i 0).val < 8192 := (i 0).isLt
  out ℓ P Q R Z X A B C D ⟨(i 0).val / 2048, by omega⟩ ⟨(i 0).val % 2048, by omega⟩ (i 1)

theorem outFlat_at (i : Flat.Idx) (b : Fin 4) (s k : Fin 2048) (h : (i 0).val = 2048 * b.val + s.val) (hk : i 1 = k) :
    outFlat ℓ P Q R Z X A B C D i = out ℓ P Q R Z X A B C D b s k := by
  have h0 : (i 0).val < 8192 := (i 0).isLt
  have hb : (⟨(i 0).val / 2048, by omega⟩ : Fin 4) = b := Fin.ext (by show (i 0).val / 2048 = b.val; omega)
  have hs : (⟨(i 0).val % 2048, by omega⟩ : Fin 2048) = s := Fin.ext (by show (i 0).val % 2048 = s.val; omega)
  have e : ∀ b' s' k', b' = b → s' = s → k' = k → out ℓ P Q R Z X A B C D b' s' k' = out ℓ P Q R Z X A B C D b s k := by
    rintro _ _ _ rfl rfl rfl
    rfl
  exact e _ _ _ hb hs hk

/-- A layer of a weight array. -/
def layer {p q : ℕ} (ℓ : Fin 4) (W : FVec Ideal ⟨3, ![4, p, q]⟩ .f32) : FVec Ideal ⟨2, ![p, q]⟩ .bf16 := fun i =>
  (W (ix3 ℓ (i 0) (i 1)) : EReal)

end Cert.Merge

end
-- ==== Proof.Merge.lean ====
module

public import proofs.«01_k».proof.Proof.Gen.Kernel4Ideal.Frame
public import proofs.«01_k».proof.Proof.MergeMath
public import Idealize.ShloMosaic.Lib.StableHlo.ReadAt
public import Idealize.ShloMosaic.Lib.Pipeline.ValueKit
public import Idealize.ShloMosaic.Lib.Pipeline.ReadBack
import Idealize.ShloMosaic.Lib.Pointwise

@[expose] public section

set_option maxRecDepth 16384

noncomputable section

namespace Cert.Kernel4Ideal.Merge

open Idealize.ShloMosaic Idealize.ShloMosaic.TcCoe Idealize.ShloMosaic.Tactic
open Cert.Kernel4Ideal Cert.Kernel4Ideal.Gen
open Cert.Merge (gate proj merged out outFlat layer)
open Idealize.ShloMosaic.Pipeline (Dat Cfg Window BodyObligation cellOf)

/-! ## What the body computes -/

theorem pay7_at (z0 z1 z2 : Vec Ideal S256x2048 .bf16) (y0 y1 y2 : Vec Ideal S256x1024 .bf16) (w0 w1 w2 : Vec Ideal S1024x2048 .bf16)
    (i : Fin 256) (k : Fin 2048) :
    k0_pay7 z0 y0 w0 z1 y1 w1 z2 y2 w2 (ix2 i k)
      = Ideal.logistic (z0 (ix2 i k)) * (∑ q, y0 (ix2 i q) * w0 (ix2 q k)) + Ideal.logistic (z1 (ix2 i k)) * (∑ q, y1 (ix2 i q) * w1 (ix2 q k))
        + Ideal.logistic (z2 (ix2 i k)) * (∑ q, y2 (ix2 i q) * w2 (ix2 q k)) := by
  pointwise [k0_pay7]

theorem pay1_at (x : Vec Ideal S256x2048 .f32) (h : Vec Ideal S256x2048 .bf16) (w : Vec Ideal S2048x2048 .bf16) (i : Fin 256) (k : Fin 2048) :
    k0_pay1 (k0_pay6 x) h (k0_pay8 w) (ix2 i k) = x (ix2 i k) + ∑ l, h (ix2 i l) * w (ix2 l k) := by
  pointwise [k0_pay1, k0_pay6, k0_pay8]

theorem pay2_at (w : Vec Ideal S1x32x2048 .f32) (j : S32x2048.Idx) : k0_pay2 w j = w (ix3 0 (j 0) (j 1)) := by
  pointwise [k0_pay2]

theorem pay3_at (w : Vec Ideal S1x32x2048 .f32) (j : S32x2048.Idx) : k0_pay3 w j = w (ix3 0 (j 0) (j 1)) := by
  pointwise [k0_pay3]

theorem pay4_at (w : Vec Ideal S1x32x2048 .f32) (j : S32x2048.Idx) : k0_pay4 w j = w (ix3 0 (j 0) (j 1)) := by
  pointwise [k0_pay4]

theorem pay5_at (w : Vec Ideal S1x64x2048 .f32) (j : S64x2048.Idx) : k0_pay5 w j = w (ix3 0 (j 0) (j 1)) := by
  pointwise [k0_pay5]

/-! ## What the windows read -/

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 2] ∧ win0_4.index t = ![t.val, 3] ∧ win0_5.index t = ![t.val, 4] ∧ win0_6.index t = ![t.val, 0]
    ∧ win0_7.index t = ![0, 0] ∧ win0_8.index t = ![0, 0] ∧ win0_9.index t = ![0, 0] ∧ win0_10.index t = ![0, 0]
    ∧ win0_11.index t = ![2, t.val, 0] ∧ win0_12.index t = ![2, t.val, 0] ∧ win0_13.index t = ![2, t.val, 0] ∧ win0_14.index t = ![2, t.val, 0]
    ∧ win0_15.index t = ![t.val, 0] ∧ win0_16.index t = ![t.val, 0] ∧ win0_17.index t = ![t.val, 0] ∧ win0_18.index t = ![t.val, 0]
    ∧ win0_19.index t = ![t.val, 0] := (by decide +kernel : ∀ t : Fin grid0.N, _)

theorem p_read (c : Dev nD) (j : S8192x1024.Idx) :
    V m c main_v13 j = m ((c : Thread nD τ).loc main_arg0)
      (ix3 ⟨(j 0).val / 2048, by have h : (j 0).val < 8192 := (j 0).isLt; omega⟩ ⟨(j 0).val % 2048, by omega⟩ (j 1)) := by
  unfold V
  after_reads_at

theorem q_read (c : Dev nD) (j : S8192x1024.Idx) :
    V m c main_v14 j = m ((c : Thread nD τ).loc main_arg1)
      (ix3 ⟨(j 0).val / 2048, by have h : (j 0).val < 8192 := (j 0).isLt; omega⟩ ⟨(j 0).val % 2048, by omega⟩ (j 1)) := by
  unfold V
  after_reads_at

theorem r_read (c : Dev nD) (j : S8192x1024.Idx) :
    V m c main_v15 j = m ((c : Thread nD τ).loc main_arg2)
      (ix3 ⟨(j 0).val / 2048, by have h : (j 0).val < 8192 := (j 0).isLt; omega⟩ ⟨(j 0).val % 2048, by omega⟩ (j 1)) := by
  unfold V
  after_reads_at

theorem x_read (c : Dev nD) (j : S8192x2048.Idx) :
    V m c main_v12 j = m ((c : Thread nD τ).loc main_arg4)
      (ix3 ⟨(j 0).val / 2048, by have h : (j 0).val < 8192 := (j 0).isLt; omega⟩ ⟨(j 0).val % 2048, by omega⟩ (j 1)) := by
  unfold V
  after_reads_at

theorem a_read (c : Dev nD) (j : S1024x2048.Idx) : V m c main_v2 j = m ((c : Thread nD τ).loc main_arg5) (ix3 1 (j 0) (j 1)) := by
  unfold V
  after_reads_at

theorem b_read (c : Dev nD) (j : S1024x2048.Idx) : V m c main_v5 j = m ((c : Thread nD τ).loc main_arg6) (ix3 1 (j 0) (j 1)) := by
  unfold V
  after_reads_at

theorem c_read (c : Dev nD) (j : S1024x2048.Idx) : V m c main_v8 j = m ((c : Thread nD τ).loc main_arg7) (ix3 1 (j 0) (j 1)) := by
  unfold V
  after_reads_at

theorem d_read (c : Dev nD) (j : S2048x2048.Idx) : V m c main_v11 j = m ((c : Thread nD τ).loc main_arg8) (ix3 1 (j 0) (j 1)) := by
  unfold V
  after_reads_at

section Blocks

variable (c : Dev nD) (t : Fin cfg0.N) (i : Fin 256) (b : Fin 4) (s : Fin 2048) (h : 2048 * b.val + s.val = 256 * t.val + i.val)

include h

theorem p_block (q : Fin 1024) : iblk m c 0 t (ix2 i q) = m ((c : Thread nD τ).loc main_arg0) (ix3 b s q) := by
  refine (p_read m c ((win0_0.blk t).view.emb (ix2 i q))).trans ?_
  blk_ext [iblk, idx t]

theorem q_block (q : Fin 1024) : iblk m c 1 t (ix2 i q) = m ((c : Thread nD τ).loc main_arg1) (ix3 b s q) := by
  refine (q_read m c ((win0_1.blk t).view.emb (ix2 i q))).trans ?_
  blk_ext [iblk, idx t]

theorem r_block (q : Fin 1024) : iblk m c 2 t (ix2 i q) = m ((c : Thread nD τ).loc main_arg2) (ix3 b s q) := by
  refine (r_read m c ((win0_2.blk t).view.emb (ix2 i q))).trans ?_
  blk_ext [iblk, idx t]

theorem x_block (k : Fin 2048) : iblk m c 6 t (ix2 i k) = m ((c : Thread nD τ).loc main_arg4) (ix3 b s k) := by
  refine (x_read m c ((win0_6.blk t).view.emb (ix2 i k))).trans ?_
  blk_ext [iblk, idx t]

theorem gate0_block (k : Fin 2048) :
    iblk m c 3 t (ix2 i k) = m ((c : Thread nD τ).loc main_arg3) (ix2 ⟨b.val * 2048 + s.val, by omega⟩ ⟨4096 + (2048 * (0 : Fin 3).val + k.val), by omega⟩) := by
  blk_point [iblk, V, idx t]

theorem gate1_block (k : Fin 2048) :
    iblk m c 4 t (ix2 i k) = m ((c : Thread nD τ).loc main_arg3) (ix2 ⟨b.val * 2048 + s.val, by omega⟩ ⟨4096 + (2048 * (1 : Fin 3).val + k.val), by omega⟩) := by
  blk_point [iblk, V, idx t]

theorem gate2_block (k : Fin 2048) :
    iblk m c 5 t (ix2 i k) = m ((c : Thread nD τ).loc main_arg3) (ix2 ⟨b.val * 2048 + s.val, by omega⟩ ⟨4096 + (2048 * (2 : Fin 3).val + k.val), by omega⟩) := by
  blk_point [iblk, V, idx t]

end Blocks

theorem a_block (c : Dev nD) (t : Fin cfg0.N) (q : Fin 1024) (k : Fin 2048) :
    iblk m c 7 t (ix2 q k) = m ((c : Thread nD τ).loc main_arg5) (ix3 1 q k) := by
  refine (a_read m c ((win0_7.blk t).view.emb (ix2 q k))).trans ?_
  blk_ext [iblk, idx t]

theorem b_block (c : Dev nD) (t : Fin cfg0.N) (q : Fin 1024) (k : Fin 2048) :
    iblk m c 8 t (ix2 q k) = m ((c : Thread nD τ).loc main_arg6) (ix3 1 q k) := by
  refine (b_read m c ((win0_8.blk t).view.emb (ix2 q k))).trans ?_
  blk_ext [iblk, idx t]

theorem c_block (c : Dev nD) (t : Fin cfg0.N) (q : Fin 1024) (k : Fin 2048) :
    iblk m c 9 t (ix2 q k) = m ((c : Thread nD τ).loc main_arg7) (ix3 1 q k) := by
  refine (c_read m c ((win0_9.blk t).view.emb (ix2 q k))).trans ?_
  blk_ext [iblk, idx t]

theorem d_block (c : Dev nD) (t : Fin cfg0.N) (q : Fin 2048) (k : Fin 2048) :
    iblk m c 10 t (ix2 q k) = m ((c : Thread nD τ).loc main_arg8) (ix3 1 q k) := by
  refine (d_read m c ((win0_10.blk t).view.emb (ix2 q k))).trans ?_
  blk_ext [iblk, idx t]

/-! ## The result block -/

/-- The merged rows of a point's block. -/
abbrev hid (c : Dev nD) (t : Fin cfg0.N) : Vec Ideal S256x2048 .bf16 :=
  k0_pay7 (iblk m c 3 t) (iblk m c 0 t) (iblk m c 7 t) (iblk m c 4 t) (iblk m c 1 t) (iblk m c 8 t) (iblk m c 5 t) (iblk m c 2 t) (iblk m c 9 t)

theorem hid_at (c : Dev nD) (t : Fin cfg0.N) (i : Fin 256) (k : Fin 2048) (b : Fin 4) (s : Fin 2048)
    (h : 2048 * b.val + s.val = 256 * t.val + i.val) :
    hid m c t (ix2 i k) = merged 1 (m ((c : Thread nD τ).loc main_arg0)) (m ((c : Thread nD τ).loc main_arg1)) (m ((c : Thread nD τ).loc main_arg2))
      (m ((c : Thread nD τ).loc main_arg3)) (m ((c : Thread nD τ).loc main_arg5)) (m ((c : Thread nD τ).loc main_arg6))
      (m ((c : Thread nD τ).loc main_arg7)) b s k := by
  refine (pay7_at _ _ _ _ _ _ _ _ _ i k).trans ?_
  unfold merged gate proj
  refine congrArg₂ (fun p q : EReal => p + q) (congrArg₂ (fun p q : EReal => p + q) (congrArg₂ (fun p q : EReal => p * q) ?_ ?_)
    (congrArg₂ (fun p q : EReal => p * q) ?_ ?_)) (congrArg₂ (fun p q : EReal => p * q) ?_ ?_)
  · exact congrArg Ideal.logistic (gate0_block m c t i b s h k)
  · exact Fin.sum_fin_congr fun q => congrArg₂ (fun p q : EReal => p * q) (p_block m c t i b s h q) (a_block m c t q k)
  · exact congrArg Ideal.logistic (gate1_block m c t i b s h k)
  · exact Fin.sum_fin_congr fun q => congrArg₂ (fun p q : EReal => p * q) (q_block m c t i b s h q) (b_block m c t q k)
  · exact congrArg Ideal.logistic (gate2_block m c t i b s h k)
  · exact Fin.sum_fin_congr fun q => congrArg₂ (fun p q : EReal => p * q) (r_block m c t i b s h q) (c_block m c t q k)

theorem result_at (c : Dev nD) (t : Fin cfg0.N) (i : Fin 256) (k : Fin 2048) (b : Fin 4) (s : Fin 2048)
    (h : 2048 * b.val + s.val = 256 * t.val + i.val) :
    k0_pay1 (k0_pay6 (iblk m c 6 t)) (hid m c t) (k0_pay8 (iblk m c 10 t)) (ix2 i k)
      = out 1 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) b s k := by
  refine (pay1_at _ _ _ i k).trans ?_
  unfold out
  refine congrArg₂ (fun p q : EReal => p + q) (x_block m c t i b s h k) ?_
  exact Fin.sum_fin_congr fun l => congrArg₂ (fun p q : EReal => p * q) (hid_at m c t i l b s h) (d_block m c t l k)

/-! ## What the result arrays end holding -/

theorem place_y (t : Fin cfg0.N) (y : S256x2048.Idx) (a : Fin 2) :
    ((win0_15.blk t).view.emb y a).val = (![t.val, 0] : Fin 2 → ℕ) a * (![256, 2048] : Fin 2 → ℕ) a + (y a).val := by
  rw [← (idx t).2.2.2.2.2.2.2.2.2.2.2.2.2.2.2.1]
  exact ValueKit.rect_emb_unit_val (s := win0_15.shape) _ _ _ y a

theorem point_y (c : Dev nD) (t : Fin cfg0.N) (y : S256x2048.Idx) :
    k0_pay1 (k0_pay6 (iblk m c 6 t)) (hid m c t) (k0_pay8 (iblk m c 10 t)) y
      = outFlat 1 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) ((win0_15.blk t).view.emb y) := by
  have hN : t.val < 32 := lt_of_lt_of_eq t.isLt N_0
  have hy : (y 0).val < 256 := (y 0).isLt
  have e0 : ((win0_15.blk t).view.emb y 0).val = t.val * 256 + (y 0).val := place_y t y 0
  have e1 : ((win0_15.blk t).view.emb y 1).val = (y 1).val := (place_y t y 1).trans (by simp)
  have key := result_at m c t (y 0) (y 1) ⟨(256 * t.val + (y 0).val) / 2048, by omega⟩ ⟨(256 * t.val + (y 0).val) % 2048, by omega⟩
    (by show 2048 * (_ / 2048) + _ % 2048 = _; omega)
  refine (congrArg (k0_pay1 (k0_pay6 (iblk m c 6 t)) (hid m c t) (k0_pay8 (iblk m c 10 t)))
    (show y = ix2 (y 0) (y 1) from by funext a; match a with | ⟨0, _⟩ => rfl | ⟨1, _⟩ => rfl)).trans (key.trans ?_)
  refine (Cert.Merge.outFlat_at 1 _ _ _ _ _ _ _ _ _ _ _ _ (y 1) ?_ (Fin.ext e1)).symm
  refine e0.trans ?_
  show _ = 2048 * (_ / 2048) + _ % 2048
  omega

theorem final_y (c : Dev nD) : (dats m 0 c).arrAt 15 (cfgs 0).N
    = outFlat 1 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) := by
  refine (dats m 0 c).arrAt_eq_of_covers 15 _ (by decide +kernel) fun t hf y => ?_
  have e : (dats m 0 c).after 15 t = k0_pay1 (k0_pay6 (iblk m c 6 t)) (hid m c t) (k0_pay8 (iblk m c 10 t)) := by
    rw [after0_15]
    frame_out
  rw [e]
  blk_simp
  exact point_y m c t y

theorem final_a (c : Dev nD) : (dats m 0 c).arrAt 16 (cfgs 0).N = layer 2 (m ((c : Thread nD τ).loc main_arg5)) := by
  refine (dats m 0 c).arrAt_eq_of_covers 16 _ (by decide +kernel) fun t hf y => ?_
  have e : (dats m 0 c).after 16 t = k0_pay2 (iblk m c 11 t) := by
    rw [after0_16]
    frame_out
  rw [e]
  refine (pay2_at _ y).trans ?_
  unfold layer
  blk_point [iblk, V, idx t]

theorem final_b (c : Dev nD) : (dats m 0 c).arrAt 17 (cfgs 0).N = layer 2 (m ((c : Thread nD τ).loc main_arg6)) := by
  refine (dats m 0 c).arrAt_eq_of_covers 17 _ (by decide +kernel) fun t hf y => ?_
  have e : (dats m 0 c).after 17 t = k0_pay3 (iblk m c 12 t) := by
    rw [after0_17]
    frame_out
  rw [e]
  refine (pay3_at _ y).trans ?_
  unfold layer
  blk_point [iblk, V, idx t]

theorem final_c (c : Dev nD) : (dats m 0 c).arrAt 18 (cfgs 0).N = layer 2 (m ((c : Thread nD τ).loc main_arg7)) := by
  refine (dats m 0 c).arrAt_eq_of_covers 18 _ (by decide +kernel) fun t hf y => ?_
  have e : (dats m 0 c).after 18 t = k0_pay4 (iblk m c 13 t) := by
    rw [after0_18]
    frame_out
  rw [e]
  refine (pay4_at _ y).trans ?_
  unfold layer
  blk_point [iblk, V, idx t]

theorem final_d (c : Dev nD) : (dats m 0 c).arrAt 19 (cfgs 0).N = layer 2 (m ((c : Thread nD τ).loc main_arg8)) := by
  refine (dats m 0 c).arrAt_eq_of_covers 19 _ (by decide +kernel) fun t hf y => ?_
  have e : (dats m 0 c).after 19 t = k0_pay5 (iblk m c 14 t) := by
    rw [after0_19]
    frame_out
  rw [e]
  refine (pay5_at _ y).trans ?_
  unfold layer
  blk_point [iblk, V, idx t]

end Cert.Kernel4Ideal.Merge

end
-- ==== Proof.MergeReference.lean ====
module

public import proofs.«01_k».proof.Proof.MergeMath
public import proofs.«01_k».proof.Proof.Gen.Reference4Ideal
public import proofs.«01_k».proof.Defs
public import Idealize.ShloMosaic.Lib.Claim
import Idealize.ShloMosaic.Lib.Pointwise

@[expose] public section

set_option maxRecDepth 16384

noncomputable section

namespace Cert.Reference4Ideal.Merge

open Idealize.ShloMosaic Idealize.ShloMosaic.TcCoe Idealize.ShloMosaic.Tactic Idealize.SL.Sem
open Cert.Reference4Ideal Cert.Reference4Ideal.Gen
open Cert.Merge (gate proj merged out outFlat layer)

set_option maxHeartbeats 1000000 in
/-- The reference's run: its five results. -/
theorem reference_outcome (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v45) = outFlat 1 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8))
      ∧ r.2.mem ((c.tc : Thread nD τ).loc main_v35) = layer 2 (m ((c.tc : Thread nD τ).loc main_arg5))
      ∧ r.2.mem ((c.tc : Thread nD τ).loc main_v38) = layer 2 (m ((c.tc : Thread nD τ).loc main_arg6))
      ∧ r.2.mem ((c.tc : Thread nD τ).loc main_v41) = layer 2 (m ((c.tc : Thread nD τ).loc main_arg7))
      ∧ r.2.mem ((c.tc : Thread nD τ).loc main_v44) = layer 2 (m ((c.tc : Thread nD τ).loc main_arg8))) := by
  hlo_run
  · funext i
    simp only [outFlat, out, merged, gate, proj]
    pointwise
    rfl
  · funext i; unfold layer; pointwise
  · funext i; unfold layer; pointwise
  · funext i; unfold layer; pointwise
  · funext i; unfold layer; pointwise

theorem frame_reference : Cert.quiescent_Reference4Ideal := by
  intro m g hpre
  refine (θ_run Cert.Reference4Ideal.defs _ _).mono (fun r h => ⟨h, sem_eq_zero_of_no_sems (by decide) r.2⟩) ?_
  hlo_run

end Cert.Reference4Ideal.Merge

end
-- ==== Proof.MergeClaim.lean ====
module

public import proofs.«01_k».proof.Proof.Merge
public import proofs.«01_k».proof.Proof.MergeReference
public import proofs.«01_k».proof.Defs
public import Idealize.ShloMosaic.Lib.Claim

@[expose] public section

set_option maxRecDepth 16384

noncomputable section

namespace Cert.Kernel4Ideal.Merge

open Idealize.ShloMosaic Idealize.ShloMosaic.TcCoe Idealize.ShloMosaic.Tactic Idealize.SL.Sem
open Cert.Kernel4Ideal Cert.Kernel4Ideal.Gen
open Cert.Merge (outFlat layer)

/-- The kernel's run over the extended reals: the merge's entries, and the four weight matrices sliced. -/
theorem kernel_outcome (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v16_0) = outFlat 1 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
      ∧ r.2.mem ((c.tc : Thread nD τ).loc main_v16_1) = layer 2 (m ((c.tc : Thread nD τ).loc main_arg5))
      ∧ r.2.mem ((c.tc : Thread nD τ).loc main_v16_2) = layer 2 (m ((c.tc : Thread nD τ).loc main_arg6))
      ∧ r.2.mem ((c.tc : Thread nD τ).loc main_v16_3) = layer 2 (m ((c.tc : Thread nD τ).loc main_arg7))
      ∧ r.2.mem ((c.tc : Thread nD τ).loc main_v16_4) = layer 2 (m ((c.tc : Thread nD τ).loc main_arg8))) :=
  (θ_run defs _ _).mono (fun _ h c => ⟨((h c).1 15).trans (final_y m c), ((h c).1 16).trans (final_a m c), ((h c).1 17).trans (final_b m c),
    ((h c).1 18).trans (final_c m c), ((h c).1 19).trans (final_d m c)⟩) (run_main m ρ)

theorem algebraic : Cert.algebraic_Kernel4Ideal_Reference4Ideal := by
  pair_intro
  · run_from kernel_outcome m g & Gen.frame m g
  · run_from Cert.Reference4Ideal.Merge.reference_outcome m' g' & Cert.Reference4Ideal.Merge.frame_reference m' g' trivial

end Cert.Kernel4Ideal.Merge

end
-- ==== Proof.LastMerge.lean ====
module

public import proofs.«01_k».proof.Proof.Gen.Kernel5Ideal.Frame
public import proofs.«01_k».proof.Proof.MergeMath
public import Idealize.ShloMosaic.Lib.StableHlo.ReadAt
public import Idealize.ShloMosaic.Lib.Pipeline.ValueKit
public import Idealize.ShloMosaic.Lib.Pipeline.ReadBack
import Idealize.ShloMosaic.Lib.Pointwise

@[expose] public section

set_option maxRecDepth 16384

noncomputable section

namespace Cert.Kernel5Ideal.Merge

open Idealize.ShloMosaic Idealize.ShloMosaic.TcCoe Idealize.ShloMosaic.Tactic
open Cert.Kernel5Ideal Cert.Kernel5Ideal.Gen
open Cert.Merge (gate proj merged out outFlat)
open Idealize.ShloMosaic.Pipeline (Dat Cfg Window BodyObligation cellOf)

/-! ## What the body computes -/

theorem pay3_at (z0 z1 z2 : Vec Ideal S256x2048 .bf16) (y0 y1 y2 : Vec Ideal S256x1024 .bf16) (w0 w1 w2 : Vec Ideal S1024x2048 .bf16)
    (i : Fin 256) (k : Fin 2048) :
    k0_pay3 z0 y0 w0 z1 y1 w1 z2 y2 w2 (ix2 i k)
      = Ideal.logistic (z0 (ix2 i k)) * (∑ q, y0 (ix2 i q) * w0 (ix2 q k)) + Ideal.logistic (z1 (ix2 i k)) * (∑ q, y1 (ix2 i q) * w1 (ix2 q k))
        + Ideal.logistic (z2 (ix2 i k)) * (∑ q, y2 (ix2 i q) * w2 (ix2 q k)) := by
  pointwise [k0_pay3]

theorem pay1_at (x : Vec Ideal S256x2048 .f32) (h : Vec Ideal S256x2048 .bf16) (w : Vec Ideal S2048x2048 .bf16) (i : Fin 256) (k : Fin 2048) :
    k0_pay1 (k0_pay2 x) h (k0_pay4 w) (ix2 i k) = x (ix2 i k) + ∑ l, h (ix2 i l) * w (ix2 l k) := by
  pointwise [k0_pay1, k0_pay2, k0_pay4]

/-! ## What the windows read -/

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 2] ∧ win0_4.index t = ![t.val, 3] ∧ win0_5.index t = ![t.val, 4] ∧ win0_6.index t = ![t.val, 0]
    ∧ win0_7.index t = ![0, 0] ∧ win0_8.index t = ![0, 0] ∧ win0_9.index t = ![0, 0] ∧ win0_10.index t = ![0, 0]
    ∧ win0_11.index t = ![t.val, 0] := (by decide +kernel : ∀ t : Fin grid0.N, _)

theorem p_read (c : Dev nD) (j : S8192x1024.Idx) :
    V m c main_v13 j = m ((c : Thread nD τ).loc main_arg0)
      (ix3 ⟨(j 0).val / 2048, by have h : (j 0).val < 8192 := (j 0).isLt; omega⟩ ⟨(j 0).val % 2048, by omega⟩ (j 1)) := by
  unfold V
  after_reads_at

theorem q_read (c : Dev nD) (j : S8192x1024.Idx) :
    V m c main_v14 j = m ((c : Thread nD τ).loc main_arg1)
      (ix3 ⟨(j 0).val / 2048, by have h : (j 0).val < 8192 := (j 0).isLt; omega⟩ ⟨(j 0).val % 2048, by omega⟩ (j 1)) := by
  unfold V
  after_reads_at

theorem r_read (c : Dev nD) (j : S8192x1024.Idx) :
    V m c main_v15 j = m ((c : Thread nD τ).loc main_arg2)
      (ix3 ⟨(j 0).val / 2048, by have h : (j 0).val < 8192 := (j 0).isLt; omega⟩ ⟨(j 0).val % 2048, by omega⟩ (j 1)) := by
  unfold V
  after_reads_at

theorem x_read (c : Dev nD) (j : S8192x2048.Idx) :
    V m c main_v12 j = m ((c : Thread nD τ).loc main_arg4)
      (ix3 ⟨(j 0).val / 2048, by have h : (j 0).val < 8192 := (j 0).isLt; omega⟩ ⟨(j 0).val % 2048, by omega⟩ (j 1)) := by
  unfold V
  after_reads_at

theorem a_read (c : Dev nD) (j : S1024x2048.Idx) : V m c main_v2 j = m ((c : Thread nD τ).loc main_arg5) (ix3 3 (j 0) (j 1)) := by
  unfold V
  after_reads_at

theorem b_read (c : Dev nD) (j : S1024x2048.Idx) : V m c main_v5 j = m ((c : Thread nD τ).loc main_arg6) (ix3 3 (j 0) (j 1)) := by
  unfold V
  after_reads_at

theorem c_read (c : Dev nD) (j : S1024x2048.Idx) : V m c main_v8 j = m ((c : Thread nD τ).loc main_arg7) (ix3 3 (j 0) (j 1)) := by
  unfold V
  after_reads_at

theorem d_read (c : Dev nD) (j : S2048x2048.Idx) : V m c main_v11 j = m ((c : Thread nD τ).loc main_arg8) (ix3 3 (j 0) (j 1)) := by
  unfold V
  after_reads_at

section Blocks

variable (c : Dev nD) (t : Fin cfg0.N) (i : Fin 256) (b : Fin 4) (s : Fin 2048) (h : 2048 * b.val + s.val = 256 * t.val + i.val)

include h

theorem p_block (q : Fin 1024) : iblk m c 0 t (ix2 i q) = m ((c : Thread nD τ).loc main_arg0) (ix3 b s q) := by
  refine (p_read m c ((win0_0.blk t).view.emb (ix2 i q))).trans ?_
  blk_ext [iblk, idx t]

theorem q_block (q : Fin 1024) : iblk m c 1 t (ix2 i q) = m ((c : Thread nD τ).loc main_arg1) (ix3 b s q) := by
  refine (q_read m c ((win0_1.blk t).view.emb (ix2 i q))).trans ?_
  blk_ext [iblk, idx t]

theorem r_block (q : Fin 1024) : iblk m c 2 t (ix2 i q) = m ((c : Thread nD τ).loc main_arg2) (ix3 b s q) := by
  refine (r_read m c ((win0_2.blk t).view.emb (ix2 i q))).trans ?_
  blk_ext [iblk, idx t]

theorem x_block (k : Fin 2048) : iblk m c 6 t (ix2 i k) = m ((c : Thread nD τ).loc main_arg4) (ix3 b s k) := by
  refine (x_read m c ((win0_6.blk t).view.emb (ix2 i k))).trans ?_
  blk_ext [iblk, idx t]

theorem gate0_block (k : Fin 2048) :
    iblk m c 3 t (ix2 i k) = m ((c : Thread nD τ).loc main_arg3) (ix2 ⟨b.val * 2048 + s.val, by omega⟩ ⟨4096 + (2048 * (0 : Fin 3).val + k.val), by omega⟩) := by
  blk_point [iblk, V, idx t]

theorem gate1_block (k : Fin 2048) :
    iblk m c 4 t (ix2 i k) = m ((c : Thread nD τ).loc main_arg3) (ix2 ⟨b.val * 2048 + s.val, by omega⟩ ⟨4096 + (2048 * (1 : Fin 3).val + k.val), by omega⟩) := by
  blk_point [iblk, V, idx t]

theorem gate2_block (k : Fin 2048) :
    iblk m c 5 t (ix2 i k) = m ((c : Thread nD τ).loc main_arg3) (ix2 ⟨b.val * 2048 + s.val, by omega⟩ ⟨4096 + (2048 * (2 : Fin 3).val + k.val), by omega⟩) := by
  blk_point [iblk, V, idx t]

end Blocks

theorem a_block (c : Dev nD) (t : Fin cfg0.N) (q : Fin 1024) (k : Fin 2048) :
    iblk m c 7 t (ix2 q k) = m ((c : Thread nD τ).loc main_arg5) (ix3 3 q k) := by
  refine (a_read m c ((win0_7.blk t).view.emb (ix2 q k))).trans ?_
  blk_ext [iblk, idx t]

theorem b_block (c : Dev nD) (t : Fin cfg0.N) (q : Fin 1024) (k : Fin 2048) :
    iblk m c 8 t (ix2 q k) = m ((c : Thread nD τ).loc main_arg6) (ix3 3 q k) := by
  refine (b_read m c ((win0_8.blk t).view.emb (ix2 q k))).trans ?_
  blk_ext [iblk, idx t]

theorem c_block (c : Dev nD) (t : Fin cfg0.N) (q : Fin 1024) (k : Fin 2048) :
    iblk m c 9 t (ix2 q k) = m ((c : Thread nD τ).loc main_arg7) (ix3 3 q k) := by
  refine (c_read m c ((win0_9.blk t).view.emb (ix2 q k))).trans ?_
  blk_ext [iblk, idx t]

theorem d_block (c : Dev nD) (t : Fin cfg0.N) (q : Fin 2048) (k : Fin 2048) :
    iblk m c 10 t (ix2 q k) = m ((c : Thread nD τ).loc main_arg8) (ix3 3 q k) := by
  refine (d_read m c ((win0_10.blk t).view.emb (ix2 q k))).trans ?_
  blk_ext [iblk, idx t]

/-! ## The result block -/

/-- The merged rows of a point's block. -/
abbrev hid (c : Dev nD) (t : Fin cfg0.N) : Vec Ideal S256x2048 .bf16 :=
  k0_pay3 (iblk m c 3 t) (iblk m c 0 t) (iblk m c 7 t) (iblk m c 4 t) (iblk m c 1 t) (iblk m c 8 t) (iblk m c 5 t) (iblk m c 2 t) (iblk m c 9 t)

theorem hid_at (c : Dev nD) (t : Fin cfg0.N) (i : Fin 256) (k : Fin 2048) (b : Fin 4) (s : Fin 2048)
    (h : 2048 * b.val + s.val = 256 * t.val + i.val) :
    hid m c t (ix2 i k) = merged 3 (m ((c : Thread nD τ).loc main_arg0)) (m ((c : Thread nD τ).loc main_arg1)) (m ((c : Thread nD τ).loc main_arg2))
      (m ((c : Thread nD τ).loc main_arg3)) (m ((c : Thread nD τ).loc main_arg5)) (m ((c : Thread nD τ).loc main_arg6))
      (m ((c : Thread nD τ).loc main_arg7)) b s k := by
  refine (pay3_at _ _ _ _ _ _ _ _ _ i k).trans ?_
  unfold merged gate proj
  refine congrArg₂ (fun p q : EReal => p + q) (congrArg₂ (fun p q : EReal => p + q) (congrArg₂ (fun p q : EReal => p * q) ?_ ?_)
    (congrArg₂ (fun p q : EReal => p * q) ?_ ?_)) (congrArg₂ (fun p q : EReal => p * q) ?_ ?_)
  · exact congrArg Ideal.logistic (gate0_block m c t i b s h k)
  · exact Fin.sum_fin_congr fun q => congrArg₂ (fun p q : EReal => p * q) (p_block m c t i b s h q) (a_block m c t q k)
  · exact congrArg Ideal.logistic (gate1_block m c t i b s h k)
  · exact Fin.sum_fin_congr fun q => congrArg₂ (fun p q : EReal => p * q) (q_block m c t i b s h q) (b_block m c t q k)
  · exact congrArg Ideal.logistic (gate2_block m c t i b s h k)
  · exact Fin.sum_fin_congr fun q => congrArg₂ (fun p q : EReal => p * q) (r_block m c t i b s h q) (c_block m c t q k)

theorem result_at (c : Dev nD) (t : Fin cfg0.N) (i : Fin 256) (k : Fin 2048) (b : Fin 4) (s : Fin 2048)
    (h : 2048 * b.val + s.val = 256 * t.val + i.val) :
    k0_pay1 (k0_pay2 (iblk m c 6 t)) (hid m c t) (k0_pay4 (iblk m c 10 t)) (ix2 i k)
      = out 3 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) b s k := by
  refine (pay1_at _ _ _ i k).trans ?_
  unfold out
  refine congrArg₂ (fun p q : EReal => p + q) (x_block m c t i b s h k) ?_
  exact Fin.sum_fin_congr fun l => congrArg₂ (fun p q : EReal => p * q) (hid_at m c t i l b s h) (d_block m c t l k)

/-! ## What the result array ends holding -/

theorem place_y (t : Fin cfg0.N) (y : S256x2048.Idx) (a : Fin 2) :
    ((win0_11.blk t).view.emb y a).val = (![t.val, 0] : Fin 2 → ℕ) a * (![256, 2048] : Fin 2 → ℕ) a + (y a).val := by
  rw [← (idx t).2.2.2.2.2.2.2.2.2.2.2]
  exact ValueKit.rect_emb_unit_val (s := win0_11.shape) _ _ _ y a

theorem point_y (c : Dev nD) (t : Fin cfg0.N) (y : S256x2048.Idx) :
    k0_pay1 (k0_pay2 (iblk m c 6 t)) (hid m c t) (k0_pay4 (iblk m c 10 t)) y
      = outFlat 3 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) ((win0_11.blk t).view.emb y) := by
  have hN : t.val < 32 := lt_of_lt_of_eq t.isLt N_0
  have hy : (y 0).val < 256 := (y 0).isLt
  have e0 : ((win0_11.blk t).view.emb y 0).val = t.val * 256 + (y 0).val := place_y t y 0
  have e1 : ((win0_11.blk t).view.emb y 1).val = (y 1).val := (place_y t y 1).trans (by simp)
  have key := result_at m c t (y 0) (y 1) ⟨(256 * t.val + (y 0).val) / 2048, by omega⟩ ⟨(256 * t.val + (y 0).val) % 2048, by omega⟩
    (by show 2048 * (_ / 2048) + _ % 2048 = _; omega)
  refine (congrArg (k0_pay1 (k0_pay2 (iblk m c 6 t)) (hid m c t) (k0_pay4 (iblk m c 10 t)))
    (show y = ix2 (y 0) (y 1) from by funext a; match a with | ⟨0, _⟩ => rfl | ⟨1, _⟩ => rfl)).trans (key.trans ?_)
  refine (Cert.Merge.outFlat_at 3 _ _ _ _ _ _ _ _ _ _ _ _ (y 1) ?_ (Fin.ext e1)).symm
  refine e0.trans ?_
  show _ = 2048 * (_ / 2048) + _ % 2048
  omega

theorem final_y (c : Dev nD) : (dats m 0 c).arrAt 11 (cfgs 0).N
    = outFlat 3 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) := by
  refine (dats m 0 c).arrAt_eq_of_covers 11 _ (by decide +kernel) fun t hf y => ?_
  have e : (dats m 0 c).after 11 t = k0_pay1 (k0_pay2 (iblk m c 6 t)) (hid m c t) (k0_pay4 (iblk m c 10 t)) := by
    rw [after0_11]
    frame_out
  rw [e]
  blk_simp
  exact point_y m c t y

end Cert.Kernel5Ideal.Merge

end
-- ==== Proof.LastMergeReference.lean ====
module

public import proofs.«01_k».proof.Proof.MergeMath
public import proofs.«01_k».proof.Proof.Gen.Reference5Ideal
public import proofs.«01_k».proof.Defs
public import Idealize.ShloMosaic.Lib.Claim
import Idealize.ShloMosaic.Lib.Pointwise

@[expose] public section

set_option maxRecDepth 16384

noncomputable section

namespace Cert.Reference5Ideal.Merge

open Idealize.ShloMosaic Idealize.ShloMosaic.TcCoe Idealize.ShloMosaic.Tactic Idealize.SL.Sem
open Cert.Reference5Ideal Cert.Reference5Ideal.Gen
open Cert.Merge (gate proj merged out outFlat)

set_option maxHeartbeats 1000000 in
/-- The reference's run: its result. -/
theorem reference_outcome (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v33) = outFlat 3 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8))) := by
  hlo_run
  funext i
  simp only [outFlat, out, merged, gate, proj]
  pointwise
  rfl

theorem frame_reference : Cert.quiescent_Reference5Ideal := by
  intro m g hpre
  refine (θ_run Cert.Reference5Ideal.defs _ _).mono (fun r h => ⟨h, sem_eq_zero_of_no_sems (by decide) r.2⟩) ?_
  hlo_run

end Cert.Reference5Ideal.Merge

end
-- ==== Proof.LastMergeClaim.lean ====
module

public import proofs.«01_k».proof.Proof.LastMerge
public import proofs.«01_k».proof.Proof.LastMergeReference
public import proofs.«01_k».proof.Defs
public import Idealize.ShloMosaic.Lib.Claim

@[expose] public section

set_option maxRecDepth 16384

noncomputable section

namespace Cert.Kernel5Ideal.Merge

open Idealize.ShloMosaic Idealize.ShloMosaic.TcCoe Idealize.ShloMosaic.Tactic Idealize.SL.Sem
open Cert.Kernel5Ideal Cert.Kernel5Ideal.Gen
open Cert.Merge (outFlat)

/-- The kernel's run over the extended reals: the last layer's merge. -/
theorem kernel_outcome (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v16) = outFlat 3 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))) :=
  (θ_run defs _ _).mono (fun _ h c => ((h c).1 11).trans (final_y m c)) (run_main m ρ)

theorem algebraic : Cert.algebraic_Kernel5Ideal_Reference5Ideal := by
  pair_intro
  · run_from kernel_outcome m g & Gen.frame m g
  · run_from Cert.Reference5Ideal.Merge.reference_outcome m' g' & Cert.Reference5Ideal.Merge.frame_reference m' g' trivial

end Cert.Kernel5Ideal.Merge

end
-- ==== Proof.ForgetMath.lean ====
module

public import Idealize.ShloMosaic.Lib.Pipeline.ValueKit
public import Idealize.ShloMosaic.Lib.IdealHost

@[expose] public section

set_option maxRecDepth 16384

noncomputable section

namespace Cert.Forget

open Idealize.ShloMosaic

/-! # The running sums of the forget gates' logarithms, entry by entry over the extended reals -/

abbrev Logits : Shape := ⟨3, ![4, 2048, 128]⟩
abbrev Biases : Shape := ⟨2, ![4, 8]⟩
abbrev Tiles : Shape := ⟨4, ![4, 4, 8, 512]⟩

/-! ## The logarithm of a gate -/

/-- The logarithm of the logistic of a number: what is below zero of it, less a correction between 0 and log 2. -/
def logGate (z : EReal) : EReal := min z 0 - Ideal.log1p (Ideal.exp (-(max z (-z))))

theorem correction_real (z : EReal) : ∃ r : ℝ, Ideal.log1p (Ideal.exp (-(max z (-z)))) = (r : EReal) := by
  induction z with
  | bot =>
    refine ⟨0, ?_⟩
    have e : -(max (⊥ : EReal) (-⊥)) = ⊥ := by simp
    rw [e, Ideal.exp_bot, Ideal.log1p, add_zero, show (1 : EReal) = ((1 : ℝ) : EReal) from rfl, Ideal.log_coe]
    simp
  | top =>
    refine ⟨0, ?_⟩
    have e : -(max (⊤ : EReal) (-⊤)) = ⊥ := by simp
    rw [e, Ideal.exp_bot, Ideal.log1p, add_zero, show (1 : EReal) = ((1 : ℝ) : EReal) from rfl, Ideal.log_coe]
    simp
  | coe x =>
    have e : -(max (x : EReal) (-(x : EReal))) = ((-(max x (-x)) : ℝ) : EReal) := by
      rw [← EReal.coe_neg, EReal.coe_neg (max x (-x)), EReal.coe_strictMono.monotone.map_max]
    refine ⟨Real.log (1 + Real.exp (-(max x (-x)))), ?_⟩
    rw [e, Ideal.exp_coe, Ideal.log1p, show (1 : EReal) = ((1 : ℝ) : EReal) from rfl, ← EReal.coe_add, Ideal.log_coe, if_neg]
    have := Real.exp_pos (-(max x (-x)))
    linarith

/-- The same as the negated softplus of the negated number. -/
theorem logGate_eq (z : EReal) : logGate z = -(max (-z) 0 + Ideal.log1p (Ideal.exp (-(max (-z) z)))) := by
  obtain ⟨r, hr⟩ := correction_real z
  rw [logGate, max_comm (-z) z, hr, EReal.neg_add (.inr (EReal.coe_ne_top r)) (.inr (EReal.coe_ne_bot r))]
  congr 1
  rcases le_total z 0 with h | h
  · rw [min_eq_left h, max_eq_left (by simpa using EReal.neg_le_neg_iff.2 h), neg_neg]
  · rw [min_eq_right h, max_eq_right (by simpa using EReal.neg_le_neg_iff.2 h), neg_zero]

/-! ## Sums over the last entries -/

/-- The sum of the last `k` entries of a column up to the entry `s`, or of all of them where there are fewer. -/
def tail (f : ℕ → EReal) (k s : ℕ) : EReal := ∑ j ∈ Finset.range (min k (s + 1)), f (s - j)

theorem tail_one (f : ℕ → EReal) (s : ℕ) : tail f 1 s = f s := by
  have e : min 1 (s + 1) = 1 := by omega
  simp [tail, e]

/-- Twice as many entries: a sum and the one that ends before it. -/
theorem tail_double (f : ℕ → EReal) (k s : ℕ) : tail f k s + (if k ≤ s then tail f k (s - k) else 0) = tail f (k + k) s := by
  unfold tail
  split
  · next h =>
    have e₁ : min k (s + 1) = k := by omega
    have e₂ : min (k + k) (s + 1) = k + min k (s - k + 1) := by omega
    rw [e₁, e₂, Finset.sum_range_add]
    refine congrArg _ (Finset.sum_congr rfl fun j _ => ?_)
    rw [Nat.sub_sub]
  · next h =>
    have e : min (k + k) (s + 1) = min k (s + 1) := by omega
    rw [e, add_zero]

theorem tail_all (f : ℕ → EReal) (k s : ℕ) (h : s < k) : tail f k s = ∑ j ∈ Finset.range (s + 1), f j := by
  unfold tail
  have e : min k (s + 1) = s + 1 := by omega
  rw [e, ← Finset.sum_range_reflect f (s + 1)]
  exact Finset.sum_congr rfl fun j _ => congrArg f (by omega)

/-- A window over a column that is padded before its first entry. -/
theorem window_sum (f : ℕ → EReal) (n s : ℕ) (h : s ≤ n) :
    ∑ w ∈ Finset.range (n + 1), (if n ≤ s + w then f (s + w - n) else 0) = ∑ j ∈ Finset.range (s + 1), f j := by
  obtain ⟨d, rfl⟩ : ∃ d, n = s + d := ⟨n - s, by omega⟩
  rw [show s + d + 1 = d + (s + 1) by omega, Finset.sum_range_add, Finset.sum_eq_zero, zero_add]
  · refine Finset.sum_congr rfl fun j _ => ?_
    rw [if_pos (by omega)]
    exact congrArg f (by omega)
  · intro w hw
    have := Finset.mem_range.1 hw
    exact if_neg (by omega)

/-! ## The result -/

variable (X : FVec Ideal Logits .f32) (B : FVec Ideal Biases .f32)

/-- A column's bias: the layer's for the first eight columns, zero for those that pad the array. -/
def bias (l : Fin 128) : EReal := if h : l.val < 8 then B (ix2 1 ⟨l.val, h⟩) else 0

theorem bias_head (l : Fin 8) : bias B ⟨l.val, by omega⟩ = B (ix2 1 l) := by
  unfold bias
  rw [dif_pos l.isLt]

/-- The logarithm of a gate, by the number of its row. -/
def logF (b : Fin 4) (l : Fin 128) (n : ℕ) : EReal := if h : n < 2048 then logGate (X (ix3 b ⟨n, h⟩ l) + bias B l) else 0

/-- The running sum up to a row. -/
def cum (b : Fin 4) (s : ℕ) (l : Fin 128) : EReal := ∑ j ∈ Finset.range (s + 1), logF X B b l j

theorem cum_congr {b b' : Fin 4} {s s' : ℕ} {l l' : Fin 128} (hb : b.val = b'.val) (hs : s = s') (hl : l.val = l'.val) :
    cum X B b s l = cum X B b' s' l' := by
  rw [Fin.ext hb, hs, Fin.ext hl]

/-- All the running sums. -/
def cums : FVec Ideal Logits .f32 := fun i => cum X B (i 0) (i 1).val (i 2)

/-- Those of the first eight columns, laid out by tiles of 512 rows. -/
def cumTiles : FVec Ideal Tiles .f32 := fun i => cum X B (i 0) ((i 1).val * 512 + (i 3).val) ⟨(i 2).val, lt_of_lt_of_le (i 2).isLt (by decide)⟩

/-- A gate's logarithm as the negated softplus of the negated sum of its logit and bias. -/
theorem logF_at (b : Fin 4) (r : Fin 2048) (l : Fin 128) (z : EReal) (hz : z = X (ix3 b r l) + bias B l) :
    -(max (-z) 0 + Ideal.log1p (Ideal.exp (-(max (-z) (- -z))))) = logF X B b l r.val := by
  unfold logF
  rw [dif_pos r.isLt, neg_neg, ← logGate_eq, hz]

/-! ## The host's running sum -/

theorem foldl_add {ι : Type} (l : List ι) (g : ι → EReal) (v : EReal) : l.foldl (fun r a => r + g a) v = v + (l.map g).sum := by
  induction l generalizing v with
  | nil => simp
  | cons a l ih => rw [List.foldl_cons, ih, List.map_cons, List.sum_cons, add_assoc]

abbrev column (N : ℕ) : Shape := ⟨3, ![1, N, 1]⟩

theorem column_numel (N : ℕ) : (column N).numel = N := by
  show ∏ a : Fin 3, (![1, N, 1] : Fin 3 → Nat) a = N
  rw [Fin.prod_univ_three]
  show 1 * N * 1 = N
  omega

theorem column_at {N : ℕ} (n : Fin (column N).numel) : (column N).rowMajor.symm n = ix3 (0 : Fin 1) (n.cast (column_numel N)) (0 : Fin 1) :=
  ((column N).rowMajor.symm_apply_eq).2 (Fin.ext (by
    rw [Shape.rowMajor_val_three]
    show n.val = (0 * N + n.val) * 1 + 0
    omega))

/-- A host window over all rows, padded by one less before the first, is the running sum. -/
theorem windowAdd_at {u : Shape} {A N C M : ℕ} (hN : M + 1 = N) (x : FVec Ideal ⟨3, ![A, N, C]⟩ .f32) (init : u.Idx → Ideal .f32) (f : ℕ → EReal)
    (h : (⟨3, ![A, N, C]⟩ : Shape).ReduceWindows ![1, N, 1] ![1, 1, 1] ![0, M, 0] ![0, 0, 0] ⟨3, ![A, N, C]⟩) (hu : 0 < u.numel)
    (hinit : ∀ i, (init i : EReal) = 0) (b : Fin A) (s : Fin N) (l : Fin C) (hx : ∀ r : Fin N, (x (ix3 b r l) : EReal) = f r.val) :
    (Host.reduceWindowAdd ![1, N, 1] ![1, 1, 1] ![0, M, 0] ![0, 0, 0] x init h hu (ix3 b s l) : EReal)
      = ∑ j ∈ Finset.range (s.val + 1), f j := by
  subst hN
  show Host.reduceWindow (fun a c : EReal => a + c) ![1, M + 1, 1] ![1, 1, 1] ![0, M, 0] ![0, 0, 0] x
    (fun _ : (⟨0, ![]⟩ : Shape).Idx => init (Shape.Idx.first hu)) h (by decide) (ix3 b s l) = _
  unfold Host.reduceWindow
  rw [foldl_add, hinit, zero_add, ← window_sum f M s.val (by omega), ← List.ofFn_eq_map, List.sum_ofFn]
  rw [← Fin.sum_univ_eq_sum_range (fun w => if M ≤ s.val + w then f (s.val + w - M) else 0) (M + 1)]
  refine Fintype.sum_equiv (finCongr (column_numel (M + 1))) _ _ fun n => ?_
  have hn : n.val < M + 1 := lt_of_lt_of_eq n.isLt (column_numel _)
  have w0 : ((column (M + 1)).rowMajor.symm n 0).val = 0 := by rw [column_at]; rfl
  have w1 : ((column (M + 1)).rowMajor.symm n 1).val = n.val := by rw [column_at]; rfl
  have w2 : ((column (M + 1)).rowMajor.symm n 2).val = 0 := by rw [column_at]; rfl
  have hs := s.isLt
  show _ = if M ≤ s.val + n.val then f (s.val + n.val - M) else 0
  dsimp only
  split
  · next hin =>
    have h1 := hin 1
    change M ≤ s.val * 1 + ((column (M + 1)).rowMajor.symm n 1).val ∧ s.val * 1 + ((column (M + 1)).rowMajor.symm n 1).val - M < M + 1 at h1
    rw [w1] at h1
    rw [if_pos (by omega), ← hx ⟨s.val + n.val - M, by omega⟩]
    refine congrArg x (funext fun a => Fin.ext ?_)
    match a with
    | ⟨0, _⟩ =>
      show b.val * 1 + ((column (M + 1)).rowMajor.symm n 0).val - 0 = b.val
      rw [w0]; omega
    | ⟨1, _⟩ =>
      show s.val * 1 + ((column (M + 1)).rowMajor.symm n 1).val - M = s.val + n.val - M
      rw [w1]; omega
    | ⟨2, _⟩ =>
      show l.val * 1 + ((column (M + 1)).rowMajor.symm n 2).val - 0 = l.val
      rw [w2]; omega
  · next hin =>
    rw [if_neg]
    intro hc
    refine hin fun a => ?_
    match a with
    | ⟨0, _⟩ =>
      show 0 ≤ b.val * 1 + ((column (M + 1)).rowMajor.symm n 0).val ∧ b.val * 1 + ((column (M + 1)).rowMajor.symm n 0).val - 0 < A
      have := b.isLt
      rw [w0]; omega
    | ⟨1, _⟩ =>
      show M ≤ s.val * 1 + ((column (M + 1)).rowMajor.symm n 1).val ∧ s.val * 1 + ((column (M + 1)).rowMajor.symm n 1).val - M < M + 1
      rw [w1]; omega
    | ⟨2, _⟩ =>
      show 0 ≤ l.val * 1 + ((column (M + 1)).rowMajor.symm n 2).val ∧ l.val * 1 + ((column (M + 1)).rowMajor.symm n 2).val - 0 < C
      have := l.isLt
      rw [w2]; omega

end Cert.Forget

end
-- ==== Proof.Forget.lean ====
module

public import proofs.«01_k».proof.Proof.Gen.Kernel6Ideal.Frame
public import proofs.«01_k».proof.Proof.ForgetMath
public import Idealize.ShloMosaic.Lib.StableHlo.ReadAt
public import Idealize.ShloMosaic.Lib.Pipeline.ValueKit
public import Idealize.ShloMosaic.Lib.Pipeline.ReadBack
import Idealize.ShloMosaic.Lib.Pointwise

@[expose] public section

set_option maxRecDepth 16384

noncomputable section

namespace Cert.Kernel6Ideal.Forget

open Idealize.ShloMosaic Idealize.ShloMosaic.TcCoe Idealize.ShloMosaic.Tactic
open Cert.Kernel6Ideal Cert.Kernel6Ideal.Gen
open Cert.Forget (logGate tail tail_one tail_double tail_all bias logF cum cum_congr cums cumTiles)
open Idealize.ShloMosaic.ValueIdx (select_one select_zero)
open Idealize.ShloMosaic.Pipeline (Dat Cfg Window BodyObligation cellOf)

/-! ## The steps of the running sum -/

/-- An array whose entries are the sums of the last `k` entries of their columns. -/
def Tails (f : Fin 128 → ℕ → EReal) (k : ℕ) (x : FVec Ideal S2048x128 .f32) : Prop := ∀ (s : Fin 2048) (l : Fin 128), x (ix2 s l) = tail (f l) k s.val

/-- An array whose rows are those of another, moved down, below rows of zeros. -/
def Moved (k : ℕ) (x d : FVec Ideal S2048x128 .f32) : Prop :=
  ∀ (s : Fin 2048) (l : Fin 128), d (ix2 s l) = if _h : k ≤ s.val then x (ix2 ⟨s.val - k, by omega⟩ l) else (0 : EReal)

theorem Tails.step {f : Fin 128 → ℕ → EReal} {k : ℕ} {x d : FVec Ideal S2048x128 .f32} (hx : Tails f k x) (hd : Moved k x d) :
    Tails f (k + k) (addf x d) := by
  intro s l
  rw [← tail_double (f l) k s.val, ← hx s l]
  refine congrArg (fun e : EReal => (x (ix2 s l) : EReal) + e) ((hd s l).trans ?_)
  split
  · exact hx _ l
  · rfl

theorem sge_at (n k : ℕ) (hn : n < 2048) (hk : k < 2048) :
    IntOp.cmpi .sge (BitVec.ofNat 32 n) (BitVec.ofNat 32 k) = BitVec.ofBool (decide (k ≤ n)) := by
  show BitVec.ofBool (BitVec.sle (BitVec.ofNat 32 k) (BitVec.ofNat 32 n)) = _
  refine congrArg BitVec.ofBool ?_
  have e : ∀ q : ℕ, q < 2048 → (BitVec.ofNat 32 q).toInt = (q : ℤ) := fun q hq => by
    rw [BitVec.toInt_eq_toNat_of_lt (by rw [BitVec.toNat_ofNat]; omega), BitVec.toNat_ofNat]
    omega
  rw [BitVec.sle, e k hk, e n hn]
  exact decide_eq_decide.2 (by omega)

/-- The rows moved down by 1: a rotation, its first rows replaced by zeros. -/
def down1 (x : FVec Ideal S2048x128 .f32) : FVec Ideal S2048x128 .f32 :=
  select (cmpi .sge (iota .tc S2048x128 32 [0] iota_S2048x128_d0_w32) (broadcast S2048x128 1#32)) (dynamicRotate 0 1#32 none x rotates_S2048x128_d0)
    (broadcast S2048x128 (Scalar.ofBits .f32 0x00000000#32))

theorem down1_moved (x : FVec Ideal S2048x128 .f32) : Moved 1 x (down1 x) := by
  intro s l
  have hs := s.isLt
  pointwise [down1]
  refine (congrArg (fun b => Scalar.select b _ _) (sge_at s.val 1 hs (by omega))).trans ?_
  by_cases h : 1 ≤ s.val
  · rw [dif_pos h, decide_eq_true h]
    refine (select_one _ _).trans (congrArg x (congrArg (fun r => ix2 r l) (Fin.ext ?_)))
    show (s.val + 2048 - 1) % 2048 = s.val - 1
    omega
  · rw [dif_neg h, decide_eq_false h]
    exact select_zero _ _

/-- The rows moved down by 2: a rotation, its first rows replaced by zeros. -/
def down2 (x : FVec Ideal S2048x128 .f32) : FVec Ideal S2048x128 .f32 :=
  select (cmpi .sge (iota .tc S2048x128 32 [0] iota_S2048x128_d0_w32) (broadcast S2048x128 2#32)) (dynamicRotate 0 2#32 none x rotates_S2048x128_d0)
    (broadcast S2048x128 (Scalar.ofBits .f32 0x00000000#32))

theorem down2_moved (x : FVec Ideal S2048x128 .f32) : Moved 2 x (down2 x) := by
  intro s l
  have hs := s.isLt
  pointwise [down2]
  refine (congrArg (fun b => Scalar.select b _ _) (sge_at s.val 2 hs (by omega))).trans ?_
  by_cases h : 2 ≤ s.val
  · rw [dif_pos h, decide_eq_true h]
    refine (select_one _ _).trans (congrArg x (congrArg (fun r => ix2 r l) (Fin.ext ?_)))
    show (s.val + 2048 - 2) % 2048 = s.val - 2
    omega
  · rw [dif_neg h, decide_eq_false h]
    exact select_zero _ _

/-- The rows moved down by 4: a rotation, its first rows replaced by zeros. -/
def down4 (x : FVec Ideal S2048x128 .f32) : FVec Ideal S2048x128 .f32 :=
  select (cmpi .sge (iota .tc S2048x128 32 [0] iota_S2048x128_d0_w32) (broadcast S2048x128 4#32)) (dynamicRotate 0 4#32 none x rotates_S2048x128_d0)
    (broadcast S2048x128 (Scalar.ofBits .f32 0x00000000#32))

theorem down4_moved (x : FVec Ideal S2048x128 .f32) : Moved 4 x (down4 x) := by
  intro s l
  have hs := s.isLt
  pointwise [down4]
  refine (congrArg (fun b => Scalar.select b _ _) (sge_at s.val 4 hs (by omega))).trans ?_
  by_cases h : 4 ≤ s.val
  · rw [dif_pos h, decide_eq_true h]
    refine (select_one _ _).trans (congrArg x (congrArg (fun r => ix2 r l) (Fin.ext ?_)))
    show (s.val + 2048 - 4) % 2048 = s.val - 4
    omega
  · rw [dif_neg h, decide_eq_false h]
    exact select_zero _ _

/-- The rows moved down by 8: the rows that stay, below rows of zeros. -/
def down8 (x : FVec Ideal S2048x128 .f32) : FVec Ideal S2048x128 .f32 :=
  concatenate S2048x128 0 [⟨S8x128, broadcast S8x128 (Scalar.ofBits .f32 0x00000000#32)⟩,
    ⟨S2040x128, extractStridedSlice S2040x128 ![0, 0] x slices_S2048x128_o0_0_S2040x128⟩] concatenates_S8x128_S2040x128_S2048x128_d0

theorem down8_moved (x : FVec Ideal S2048x128 .f32) : Moved 8 x (down8 x) := by
  intro s l
  pointwise [down8]
  by_cases h : 8 ≤ s.val
  · rw [dif_pos h, dif_neg (by omega)]
  · rw [dif_neg h, dif_pos (by omega)]

/-- The rows moved down by 16: the rows that stay, below rows of zeros. -/
def down16 (x : FVec Ideal S2048x128 .f32) : FVec Ideal S2048x128 .f32 :=
  concatenate S2048x128 0 [⟨S16x128, broadcast S16x128 (Scalar.ofBits .f32 0x00000000#32)⟩,
    ⟨S2032x128, extractStridedSlice S2032x128 ![0, 0] x slices_S2048x128_o0_0_S2032x128⟩] concatenates_S16x128_S2032x128_S2048x128_d0

theorem down16_moved (x : FVec Ideal S2048x128 .f32) : Moved 16 x (down16 x) := by
  intro s l
  pointwise [down16]
  by_cases h : 16 ≤ s.val
  · rw [dif_pos h, dif_neg (by omega)]
  · rw [dif_neg h, dif_pos (by omega)]

/-- The rows moved down by 32: the rows that stay, below rows of zeros. -/
def down32 (x : FVec Ideal S2048x128 .f32) : FVec Ideal S2048x128 .f32 :=
  concatenate S2048x128 0 [⟨S32x128, broadcast S32x128 (Scalar.ofBits .f32 0x00000000#32)⟩,
    ⟨S2016x128, extractStridedSlice S2016x128 ![0, 0] x slices_S2048x128_o0_0_S2016x128⟩] concatenates_S32x128_S2016x128_S2048x128_d0

theorem down32_moved (x : FVec Ideal S2048x128 .f32) : Moved 32 x (down32 x) := by
  intro s l
  pointwise [down32]
  by_cases h : 32 ≤ s.val
  · rw [dif_pos h, dif_neg (by omega)]
  · rw [dif_neg h, dif_pos (by omega)]

/-- The rows moved down by 64: the rows that stay, below rows of zeros. -/
def down64 (x : FVec Ideal S2048x128 .f32) : FVec Ideal S2048x128 .f32 :=
  concatenate S2048x128 0 [⟨S64x128, broadcast S64x128 (Scalar.ofBits .f32 0x00000000#32)⟩,
    ⟨S1984x128, extractStridedSlice S1984x128 ![0, 0] x slices_S2048x128_o0_0_S1984x128⟩] concatenates_S64x128_S1984x128_S2048x128_d0

theorem down64_moved (x : FVec Ideal S2048x128 .f32) : Moved 64 x (down64 x) := by
  intro s l
  pointwise [down64]
  by_cases h : 64 ≤ s.val
  · rw [dif_pos h, dif_neg (by omega)]
  · rw [dif_neg h, dif_pos (by omega)]

/-- The rows moved down by 128: the rows that stay, below rows of zeros. -/
def down128 (x : FVec Ideal S2048x128 .f32) : FVec Ideal S2048x128 .f32 :=
  concatenate S2048x128 0 [⟨S128x128, broadcast S128x128 (Scalar.ofBits .f32 0x00000000#32)⟩,
    ⟨S1920x128, extractStridedSlice S1920x128 ![0, 0] x slices_S2048x128_o0_0_S1920x128⟩] concatenates_S128x128_S1920x128_S2048x128_d0

theorem down128_moved (x : FVec Ideal S2048x128 .f32) : Moved 128 x (down128 x) := by
  intro s l
  pointwise [down128]
  by_cases h : 128 ≤ s.val
  · rw [dif_pos h, dif_neg (by omega)]
  · rw [dif_neg h, dif_pos (by omega)]

/-- The rows moved down by 256: the rows that stay, below rows of zeros. -/
def down256 (x : FVec Ideal S2048x128 .f32) : FVec Ideal S2048x128 .f32 :=
  concatenate S2048x128 0 [⟨S256x128, broadcast S256x128 (Scalar.ofBits .f32 0x00000000#32)⟩,
    ⟨S1792x128, extractStridedSlice S1792x128 ![0, 0] x slices_S2048x128_o0_0_S1792x128⟩] concatenates_S256x128_S1792x128_S2048x128_d0

theorem down256_moved (x : FVec Ideal S2048x128 .f32) : Moved 256 x (down256 x) := by
  intro s l
  pointwise [down256]
  by_cases h : 256 ≤ s.val
  · rw [dif_pos h, dif_neg (by omega)]
  · rw [dif_neg h, dif_pos (by omega)]

/-- The rows moved down by 512: the rows that stay, below rows of zeros. -/
def down512 (x : FVec Ideal S2048x128 .f32) : FVec Ideal S2048x128 .f32 :=
  concatenate S2048x128 0 [⟨S512x128, broadcast S512x128 (Scalar.ofBits .f32 0x00000000#32)⟩,
    ⟨S1536x128, extractStridedSlice S1536x128 ![0, 0] x slices_S2048x128_o0_0_S1536x128⟩] concatenates_S512x128_S1536x128_S2048x128_d0

theorem down512_moved (x : FVec Ideal S2048x128 .f32) : Moved 512 x (down512 x) := by
  intro s l
  pointwise [down512]
  by_cases h : 512 ≤ s.val
  · rw [dif_pos h, dif_neg (by omega)]
  · rw [dif_neg h, dif_pos (by omega)]

/-- The rows moved down by 1024: the rows that stay, below rows of zeros. -/
def down1024 (x : FVec Ideal S2048x128 .f32) : FVec Ideal S2048x128 .f32 :=
  concatenate S2048x128 0 [⟨S1024x128, broadcast S1024x128 (Scalar.ofBits .f32 0x00000000#32)⟩,
    ⟨S1024x128, extractStridedSlice S1024x128 ![0, 0] x slices_S2048x128_o0_0_S1024x128⟩] concatenates_S1024x128_S1024x128_S2048x128_d0

theorem down1024_moved (x : FVec Ideal S2048x128 .f32) : Moved 1024 x (down1024 x) := by
  intro s l
  pointwise [down1024]
  by_cases h : 1024 ≤ s.val
  · rw [dif_pos h, dif_neg (by omega)]
  · rw [dif_neg h, dif_pos (by omega)]

/-- The logarithms of a block's gates. -/
def logs (v0 : Vec Ideal S1x2048x128 .f32) (v2 : Vec Ideal S1x1x128 .f32) : FVec Ideal S2048x128 .f32 :=
  have z : FVec Ideal S2048x128 .f32 := addf (shapeCast S2048x128 v0 shapeCasts_S1x2048x128_S2048x128)
    (broadcastTo S2048x128 (shapeCast S1x128 v2 shapeCasts_S1x1x128_S1x128) broadcasts_S1x128_S2048x128)
  subf (minimumf z (broadcast S2048x128 (Scalar.ofBits .f32 0x00000000#32)))
    (log1p (exp (subf (broadcast S2048x128 (Scalar.ofBits .f32 0x00000000#32)) (absf z))))

theorem logs_at (v0 : Vec Ideal S1x2048x128 .f32) (v2 : Vec Ideal S1x1x128 .f32) (s : Fin 2048) (l : Fin 128) :
    logs v0 v2 (ix2 s l) = logGate (v0 (ix3 0 s l) + v2 (ix3 0 0 l)) := by
  pointwise [logs, logGate]
  rw [zero_sub]
  rfl

theorem pay3_eq (v0 : Vec Ideal S1x2048x128 .f32) (v2 : Vec Ideal S1x1x128 .f32) :
    k0_pay3 v0 v2 = (fun x => addf x (down8 x)) ((fun x => addf x (down4 x)) ((fun x => addf x (down2 x)) ((fun x => addf x (down1 x)) (logs v0 v2)))) := rfl

theorem pay4_eq (v0 : Vec Ideal S1x2048x128 .f32) (v2 : Vec Ideal S1x1x128 .f32) : k0_pay4 v0 v2 = down16 (k0_pay3 v0 v2) := rfl

theorem pay5_eq (x y : FVec Ideal S2048x128 .f32) :
    k0_pay5 x y = (fun x => addf x (down1024 x)) ((fun x => addf x (down512 x)) ((fun x => addf x (down256 x)) ((fun x => addf x (down128 x))
      ((fun x => addf x (down64 x)) ((fun x => addf x (down32 x)) (addf x y)))))) := rfl

/-- All the steps: the running sums of a block. -/
theorem pay5_at (v0 : Vec Ideal S1x2048x128 .f32) (v2 : Vec Ideal S1x1x128 .f32) (f : Fin 128 → ℕ → EReal)
    (hf : ∀ (s : Fin 2048) (l : Fin 128), logGate (v0 (ix3 0 s l) + v2 (ix3 0 0 l)) = f l s.val) (s : Fin 2048) (l : Fin 128) :
    k0_pay5 (k0_pay3 v0 v2) (k0_pay4 v0 v2) (ix2 s l) = ∑ j ∈ Finset.range (s.val + 1), f l j := by
  have h0 : Tails f 1 (logs v0 v2) := fun s l => (logs_at v0 v2 s l).trans ((hf s l).trans (tail_one (f l) s.val).symm)
  have h4 : Tails f 16 (k0_pay3 v0 v2) := by
    rw [pay3_eq]
    exact (((h0.step (down1_moved _)).step (down2_moved _)).step (down4_moved _)).step (down8_moved _)
  have h5 : Tails f 32 (addf (k0_pay3 v0 v2) (k0_pay4 v0 v2)) := by
    rw [pay4_eq]
    exact h4.step (down16_moved _)
  have h11 : Tails f 2048 (k0_pay5 (k0_pay3 v0 v2) (k0_pay4 v0 v2)) := by
    rw [pay5_eq]
    exact (((((h5.step (down32_moved _)).step (down64_moved _)).step (down128_moved _)).step (down256_moved _)).step (down512_moved _)).step (down1024_moved _)
  exact (h11 s l).trans (tail_all (f l) 2048 s.val s.isLt)

/-! ## What the windows read -/

variable (m : (ℓ : Loc nD τ sig) → Buf (Elt Ideal) ℓ)

theorem idx : ∀ t : Fin cfg0.N, win0_0.index t = ![t.val, 0, 0] ∧ win0_1.index t = ![1, 0, 0] ∧ win0_2.index t = ![t.val, 0, 0]
    ∧ win0_3.index t = ![t.val, 0, 0, 0] := (by decide +kernel : ∀ t : Fin grid0.N, _)

theorem bias_read (c : Dev nD) (l : Fin 128) : V m c main_v1 (ix3 1 0 l) = bias (m ((c : Thread nD τ).loc main_arg1)) l := by
  unfold V bias
  after_reads_at
  split
  · rfl
  · show ((((0#32 : BitVec 32).toInt : ℤ) : ℝ) : EReal) = 0
    simp

theorem logit_block (c : Dev nD) (t : Fin cfg0.N) (b : Fin 4) (h : b.val = t.val) (s : Fin 2048) (l : Fin 128) :
    iblk m c 0 t (ix3 0 s l) = m ((c : Thread nD τ).loc main_arg0) (ix3 b s l) := by
  blk_point [iblk, V, idx t]

theorem bias_block (c : Dev nD) (t : Fin cfg0.N) (l : Fin 128) :
    iblk m c 1 t (ix3 0 0 l) = bias (m ((c : Thread nD τ).loc main_arg1)) l := by
  refine Eq.trans ?_ (bias_read m c l)
  blk_ext [iblk, idx t]

/-! ## The result blocks -/

theorem pay11_eq (x0 : Vec Ideal S1x2048x128 .f32) (x1 : Vec Ideal S1x1x128 .f32) : k0_pay11 x0 x1 = k0_pay3 x0 x1 := by
  unfold k0_pay11
  congr 1 <;> frame_out

theorem pay12_eq (x0 : Vec Ideal S1x2048x128 .f32) (x1 : Vec Ideal S1x1x128 .f32) : k0_pay12 x0 x1 = k0_pay4 x0 x1 := by
  unfold k0_pay12
  congr 1 <;> frame_out

theorem sums_at (c : Dev nD) (t : Fin cfg0.N) (b : Fin 4) (h : b.val = t.val) (s : Fin 2048) (l : Fin 128) :
    k0_pay5 (k0_pay11 (iblk m c 0 t) (iblk m c 1 t)) (k0_pay12 (iblk m c 0 t) (iblk m c 1 t)) (ix2 s l)
      = cum (m ((c : Thread nD τ).loc main_arg0)) (m ((c : Thread nD τ).loc main_arg1)) b s.val l := by
  rw [pay11_eq, pay12_eq]
  refine pay5_at (iblk m c 0 t) (iblk m c 1 t) (fun l => logF (m ((c : Thread nD τ).loc main_arg0)) (m ((c : Thread nD τ).loc main_arg1)) b l) (fun s l => ?_) s l
  refine Eq.trans ?_ (dif_pos s.isLt).symm
  rw [logit_block m c t b h s l, bias_block m c t l]

theorem final_cums (c : Dev nD) : (dats m 0 c).arrAt 2 (cfgs 0).N
    = cums (m ((c : Thread nD τ).loc main_arg0)) (m ((c : Thread nD τ).loc main_arg1)) := by
  refine (dats m 0 c).arrAt_eq_of_covers 2 _ (by decide +kernel) fun t hf y => ?_
  have e : (dats m 0 c).after 2 t = k0_pay6 (k0_pay11 (iblk m c 0 t) (iblk m c 1 t)) (k0_pay12 (iblk m c 0 t) (iblk m c 1 t)) := by
    rw [after0_2]
    frame_out
  rw [e]
  blk_simp
  have ht : t.val < 4 := lt_of_lt_of_eq t.isLt (by decide)
  refine Eq.trans ?_ ((sums_at m c t ⟨t.val, ht⟩ rfl (y 1) (y 2)).trans ?_)
  · pointwise [k0_pay6]
  · unfold cums
    apply cum_congr
    all_goals (blk_simp [idx t] <;> try omega)

theorem final_tiles (c : Dev nD) : (dats m 0 c).arrAt 3 (cfgs 0).N
    = cumTiles (m ((c : Thread nD τ).loc main_arg0)) (m ((c : Thread nD τ).loc main_arg1)) := by
  refine (dats m 0 c).arrAt_eq_of_covers 3 _ (by decide +kernel) fun t hf y => ?_
  blk_simp
  rw [after0_3]
  have ht : t.val < 4 := lt_of_lt_of_eq t.isLt (by decide)
  have y1 : (y 1).val < 4 := (y 1).isLt
  have y2 : (y 2).val < 8 := (y 2).isLt
  have y3 : (y 3).val < 512 := (y 3).isLt
  refine Eq.trans ?_ ((sums_at m c t ⟨t.val, ht⟩ rfl ⟨(y 1).val * 512 + (y 3).val, by omega⟩ ⟨(y 2).val, by omega⟩).trans ?_)
  · canon_tiles x h
    all_goals (open_payloads; pointwise; blk_ext)
  · unfold cumTiles
    apply cum_congr
    all_goals (blk_simp [idx t] <;> try omega)

end Cert.Kernel6Ideal.Forget

end
-- ==== Proof.ForgetReference.lean ====
module

public import proofs.«01_k».proof.Proof.ForgetMath
public import proofs.«01_k».proof.Proof.Gen.Reference6Ideal
public import proofs.«01_k».proof.Defs
public import Idealize.ShloMosaic.Lib.Claim
import Idealize.ShloMosaic.Lib.Pointwise

@[expose] public section

set_option maxRecDepth 16384

noncomputable section

namespace Cert.Reference6Ideal.Forget

open Idealize.ShloMosaic Idealize.ShloMosaic.TcCoe Idealize.ShloMosaic.Tactic Idealize.SL.Sem
open Cert.Reference6Ideal Cert.Reference6Ideal.Gen
open Cert.Forget (logF logF_at bias_head cum cums cumTiles windowAdd_at)

theorem zero_word : (FloatOps.sitofp (F := Ideal) .f32 (0#32 : BitVec 32) : EReal) = 0 := by
  show ((((0#32 : BitVec 32).toInt : ℤ) : ℝ) : EReal) = 0
  simp

set_option maxHeartbeats 1000000 in
/-- The reference's run: its two results. -/
theorem reference_outcome (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v7) = cums (m ((c.tc : Thread nD τ).loc main_arg0)) (m ((c.tc : Thread nD τ).loc main_arg1))
      ∧ r.2.mem ((c.tc : Thread nD τ).loc main_v10) = cumTiles (m ((c.tc : Thread nD τ).loc main_arg0)) (m ((c.tc : Thread nD τ).loc main_arg1))) := by
  hlo_run
  · simp only [StableHlo.TRef.ofBuf, StableHlo.TRef.toBuf, cast_eq]
    funext i
    obtain ⟨b, s, l, rfl⟩ : ∃ b s l, i = ix3 b s l := ⟨i 0, i 1, i 2, by funext a; match a with | ⟨0, _⟩ => rfl | ⟨1, _⟩ => rfl | ⟨2, _⟩ => rfl⟩
    refine windowAdd_at (N := 2048) (M := 2047) rfl _ _ (logF (m ((c.tc : Thread nD τ).loc main_arg0)) (m ((c.tc : Thread nD τ).loc main_arg1)) b l) _ _ ?_ b s l ?_
    · intro i
      pointwise
    · intro r
      pointwise
      rw [if_neg (not_not.2 rfl), zero_word]
      exact logF_at _ _ b r l _ rfl
  · simp only [StableHlo.TRef.ofBuf, StableHlo.TRef.toBuf, cast_eq]
    funext i
    obtain ⟨b, n, l, s, rfl⟩ : ∃ b n l s, i = ix4 b n l s :=
      ⟨i 0, i 1, i 2, i 3, by funext a; match a with | ⟨0, _⟩ => rfl | ⟨1, _⟩ => rfl | ⟨2, _⟩ => rfl | ⟨3, _⟩ => rfl⟩
    pointwise
    refine windowAdd_at (N := 2048) (M := 2047) rfl _ _ (logF (m ((c.tc : Thread nD τ).loc main_arg0)) (m ((c.tc : Thread nD τ).loc main_arg1)) b ⟨l.val, by omega⟩)
      _ _ ?_ b ⟨n.val * 512 + s.val, by omega⟩ ⟨l.val, by omega⟩ ?_
    · intro i
      pointwise
    · intro r
      pointwise
      rw [if_neg (not_not.2 rfl)]
      refine logF_at _ _ b r _ _ ?_
      rw [bias_head]

theorem frame_reference : Cert.quiescent_Reference6Ideal := by
  intro m g hpre
  refine (θ_run Cert.Reference6Ideal.defs _ _).mono (fun r h => ⟨h, sem_eq_zero_of_no_sems (by decide) r.2⟩) ?_
  hlo_run

end Cert.Reference6Ideal.Forget

end
-- ==== Proof.ForgetClaim.lean ====
module

public import proofs.«01_k».proof.Proof.Forget
public import proofs.«01_k».proof.Proof.ForgetReference
public import proofs.«01_k».proof.Defs
public import Idealize.ShloMosaic.Lib.Claim

@[expose] public section

set_option maxRecDepth 16384

noncomputable section

namespace Cert.Kernel6Ideal.Forget

open Idealize.ShloMosaic Idealize.ShloMosaic.TcCoe Idealize.ShloMosaic.Tactic Idealize.SL.Sem
open Cert.Kernel6Ideal Cert.Kernel6Ideal.Gen
open Cert.Forget (cums cumTiles)

/-- The kernel's run over the extended reals: the running sums, and those of the first eight columns by tiles. -/
theorem kernel_outcome (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v2_0) = cums (m ((c.tc : Thread nD τ).loc main_arg0)) (m ((c.tc : Thread nD τ).loc main_arg1))
      ∧ r.2.mem ((c.tc : Thread nD τ).loc main_v2_1) = cumTiles (m ((c.tc : Thread nD τ).loc main_arg0)) (m ((c.tc : Thread nD τ).loc main_arg1))) :=
  (θ_run defs _ _).mono (fun _ h c => ⟨((h c).1 2).trans (final_cums m c), ((h c).1 3).trans (final_tiles m c)⟩) (run_main m ρ)

theorem algebraic : Cert.algebraic_Kernel6Ideal_Reference6Ideal := by
  pair_intro
  · run_from kernel_outcome m g & Gen.frame m g
  · run_from Cert.Reference6Ideal.Forget.reference_outcome m' g' & Cert.Reference6Ideal.Forget.frame_reference m' g' trivial

end Cert.Kernel6Ideal.Forget

end
-- ==== Proof.PoolMath.lean ====
module

public import proofs.«01_k».proof.Proof.ForgetMath

@[expose] public section

set_option maxRecDepth 16384

noncomputable section

namespace Cert.Pool

open Idealize.ShloMosaic
open Cert.Forget (tail)

/-! # The pooling mixer, entry by entry over the extended reals -/

abbrev Tokens : Shape := ⟨3, ![4, 2048, 4096]⟩
abbrev Weights : Shape := ⟨4, ![4, 4, 256, 256]⟩
abbrev Scales : Shape := ⟨2, ![4, 1024]⟩
abbrev Pooled : Shape := ⟨3, ![4, 2048, 1024]⟩

/-! ## Sums over a trailing window -/

/-- A trailing window's sum, each of its entries taken as zero where it lies before the first. -/
theorem tail_eq (f : ℕ → EReal) (w s : ℕ) : tail f w s = ∑ k ∈ Finset.range w, (if k ≤ s then f (s - k) else 0) := by
  unfold tail
  obtain h | h := le_total w (s + 1)
  · rw [min_eq_left h]
    refine Finset.sum_congr rfl fun k hk => (if_pos ?_).symm
    have := Finset.mem_range.1 hk
    omega
  · rw [min_eq_right h]
    obtain ⟨d, rfl⟩ : ∃ d, w = s + 1 + d := ⟨w - (s + 1), by omega⟩
    rw [Finset.sum_range_add (fun k => if k ≤ s then f (s - k) else 0) (s + 1) d, Finset.sum_eq_zero (s := Finset.range d), add_zero]
    · refine Finset.sum_congr rfl fun k hk => (if_pos ?_).symm
      have := Finset.mem_range.1 hk
      omega
    · intro k _
      exact if_neg (by omega)

theorem sum_real (f : ℕ → EReal) (g : ℕ → ℝ) (h : ∀ n, f n = (g n : EReal)) (n : ℕ) :
    ∑ j ∈ Finset.range n, f j = ((∑ j ∈ Finset.range n, g j : ℝ) : EReal) := by
  induction n with
  | zero => simp
  | succ n ih => rw [Finset.sum_range_succ, Finset.sum_range_succ, ih, h, EReal.coe_add]

/-- Over real entries a trailing window's sum is a difference of two running sums. -/
theorem window_diff (f : ℕ → EReal) (g : ℕ → ℝ) (h : ∀ n, f n = (g n : EReal)) (w s : ℕ) :
    (∑ j ∈ Finset.range (s + 1), f j) - (if w ≤ s then ∑ j ∈ Finset.range (s - w + 1), f j else 0) = tail f w s := by
  split
  · next hw =>
    have e : min w (s + 1) = w := by omega
    unfold tail
    rw [e, ← Finset.sum_range_reflect (fun j => f (s - j)) w]
    obtain ⟨d, rfl⟩ : ∃ d, s = w + d := ⟨s - w, by omega⟩
    have e₁ : w + d + 1 = (d + 1) + w := by omega
    have e₂ : w + d - w + 1 = d + 1 := by omega
    have e₃ : ∑ j ∈ Finset.range w, f (w + d - (w - 1 - j)) = ∑ j ∈ Finset.range w, f (d + 1 + j) :=
      Finset.sum_congr rfl fun j hj => congrArg f (by have := Finset.mem_range.1 hj; omega)
    rw [e₁, e₂, e₃, Finset.sum_range_add f (d + 1) w, sum_real f g h (d + 1), sum_real (fun j => f (d + 1 + j)) (fun j => g (d + 1 + j)) (fun n => h _) w,
      ← EReal.coe_add, ← EReal.coe_sub, add_sub_cancel_left]
  · next hw =>
    have e : min w (s + 1) = s + 1 := by omega
    unfold tail
    rw [e, sub_zero, ← Finset.sum_range_reflect f (s + 1)]
    exact Finset.sum_congr rfl fun j _ => congrArg f (by omega)

/-! ## The result -/

variable (X : FVec Ideal Tokens .f32) (W : FVec Ideal Weights .f32) (S : FVec Ideal Scales .f32)

/-- A column of the pooled tokens, by the number of its row. -/
def col (b : Fin 4) (l : Fin 1024) (n : ℕ) : EReal := if h : n < 2048 then X (ix3 b ⟨n, h⟩ ⟨l.val, by omega⟩) else 0

/-- The number of rows that a window of `w` holds at a row, as a float. -/
def count (w s : ℕ) : EReal :=
  FloatOps.sitofp (F := Ideal) .f32 (IntOp.minsi (BitVec.ofNat 32 s + 1#32) (BitVec.ofNat 32 w))

/-- A window's mean less the token. -/
def centred (w : ℕ) (b : Fin 4) (s : ℕ) (l : Fin 1024) : EReal :=
  Ideal.div (tail (col X b l) w s) (count w s) - col X b l s

def chan (g : Fin 4) (i : Fin 256) : Fin 1024 := ⟨256 * g.val + i.val, by omega⟩

/-- A group's product with the layer's weights, scaled. -/
def mixed (w : ℕ) (g : Fin 4) (b : Fin 4) (s : ℕ) (o : Fin 256) : EReal :=
  (∑ i : Fin 256, centred X w b s (chan g i) * W (ix4 1 g i o)) * S (ix2 1 (chan g o))

/-- The window of a group. -/
def span (g : Fin 4) : ℕ := 2 ^ (g.val + 1)

/-- All of the result. -/
def pools : FVec Ideal Pooled .bf16 := fun i =>
  mixed X W S (span ⟨(i 2).val / 256, by have : (i 2).val < 1024 := (i 2).isLt; omega⟩) ⟨(i 2).val / 256, by have : (i 2).val < 1024 := (i 2).isLt; omega⟩
    (i 0) (i 1).val ⟨(i 2).val % 256, Nat.mod_lt _ (by omega)⟩

theorem pools_at (i : Pooled.Idx) (b : Fin 4) (s : ℕ) (g : Fin 4) (j : Fin 256) (h0 : (i 0).val = b.val) (h1 : (i 1).val = s)
    (h2 : (i 2).val = 256 * g.val + j.val) : pools X W S i = mixed X W S (span g) g b s j := by
  subst h1
  obtain rfl : i 0 = b := Fin.ext h0
  have eg : (⟨(i 2).val / 256, by have : (i 2).val < 1024 := (i 2).isLt; omega⟩ : Fin 4) = g := Fin.ext (show (i 2).val / 256 = g.val by omega)
  have ej : (⟨(i 2).val % 256, Nat.mod_lt _ (by omega)⟩ : Fin 256) = j := Fin.ext (show (i 2).val % 256 = j.val by omega)
  unfold pools
  rw [eg, ej]

/-- The pooled tokens are real numbers. -/
def Finite : Prop := ∀ (b : Fin 4) (s : Fin 2048) (l : Fin 1024), ∃ r : ℝ, (X (ix3 b s ⟨l.val, by omega⟩) : EReal) = (r : EReal)

theorem Finite.col {X : FVec Ideal Tokens .f32} (h : Finite X) (b : Fin 4) (l : Fin 1024) : ∃ g : ℕ → ℝ, ∀ n, col X b l n = (g n : EReal) := by
  have e : ∀ n, ∃ r : ℝ, Pool.col X b l n = (r : EReal) := fun n => by
    unfold Pool.col
    by_cases hn : n < 2048
    · rw [dif_pos hn]
      exact h b ⟨n, hn⟩ l
    · exact ⟨0, by rw [dif_neg hn]; rfl⟩
  exact ⟨fun n => (e n).choose, fun n => (e n).choose_spec⟩

theorem mixed_of (w : ℕ) (g : Fin 4) (b : Fin 4) (s : ℕ) (o : Fin 256)
    (T : Fin 256 → EReal) (v : EReal) (hT : ∀ x, T x = W (ix4 1 g x o) * centred X w b s (chan g x)) (hv : v = S (ix2 1 (chan g o))) :
    (∑ x, T x) * v = mixed X W S w g b s o := by
  unfold mixed
  rw [hv]
  refine congrArg (fun p : EReal => p * _) (Finset.sum_congr rfl fun x _ => ?_)
  rw [hT x]
  exact mul_comm _ _

end Cert.Pool

end
-- ==== Proof.Pool.lean ====
module

public import proofs.«01_k».proof.Proof.Gen.Kernel7Ideal.Frame
public import proofs.«01_k».proof.Proof.PoolMath
public import Idealize.ShloMosaic.Lib.StableHlo.ReadAt
public import Idealize.ShloMosaic.Lib.Pipeline.ValueKit
public import Idealize.ShloMosaic.Lib.Pipeline.ReadBack
import Idealize.ShloMosaic.Lib.Pointwise

@[expose] public section

set_option maxRecDepth 16384

noncomputable section

namespace Cert.Kernel7Ideal.Pool

open Idealize.ShloMosaic Idealize.ShloMosaic.TcCoe Idealize.ShloMosaic.Tactic
open Cert.Kernel7Ideal Cert.Kernel7Ideal.Gen
open Cert.Forget (tail)
open Cert.Pool
open Idealize.ShloMosaic.Pipeline (Dat Cfg Window BodyObligation cellOf)

/-! ## The rows that a point reads: its own tile's below the sixteen before it -/

/-- The two stores into the scratch of rows. -/
abbrev rows (h : FVec Ideal S16x1024 .f32) (u : FVec Ideal S512x1024 .f32) : List (View.Piece (Elt Ideal) S528x1024 .f32) :=
  [⟨Rect.unit ![16, 0] ![512, 1024] inb_S528x1024_S512x1024_16_0, u⟩, ⟨Rect.unit ![0, 0] ![16, 1024] inb_S528x1024_S16x1024_0_0, h⟩]

/-- What a column holds `d` rows after the sixteenth before the first row. -/
def late (f : ℕ → EReal) (d : ℕ) : EReal := if 16 ≤ d then f (d - 16) else 0

/-- The tile and the rows before it are those of columns, from the row `o` on. -/
structure Holds (f : Fin 1024 → ℕ → EReal) (o : ℕ) (h : FVec Ideal S16x1024 .f32) (u : FVec Ideal S512x1024 .f32) : Prop where
  tile : ∀ (r : Fin 512) (l : Fin 1024), u (ix2 r l) = f l (o + r.val)
  before : ∀ (r : Fin 16) (l : Fin 1024), h (ix2 r l) = late (f l) (o + r.val)

theorem cover_rows (h : FVec Ideal S16x1024 .f32) (u : FVec Ideal S512x1024 .f32) (y : S528x1024.Idx) : ∃ p ∈ rows h u, y ∈ p.1.set :=
  View.cover_of_tiledBy (rows h u) ![16, 1024] (by sl_kernel_rfl) y

theorem Holds.canon {f : Fin 1024 → ℕ → EReal} {o : ℕ} {h : FVec Ideal S16x1024 .f32} {u : FVec Ideal S512x1024 .f32} (H : Holds f o h u)
    (n : Fin 528) (l : Fin 1024) : (View.canon (rows h u) (ix2 n l) : EReal) = late (f l) (o + n.val) := by
  canon_tiles x e using cover_rows h u _
  · obtain ⟨r, k, rfl⟩ : ∃ r k, x = ix2 r k := ⟨x 0, x 1, by funext a; match a with | ⟨0, _⟩ => rfl | ⟨1, _⟩ => rfl⟩
    change n.val = 16 + r.val at e0
    obtain rfl : l = k := Fin.ext e1
    refine (H.tile r l).trans ?_
    unfold late
    rw [if_pos (by omega)]
    exact congrArg (f l) (by omega)
  · obtain ⟨r, k, rfl⟩ : ∃ r k, x = ix2 r k := ⟨x 0, x 1, by funext a; match a with | ⟨0, _⟩ => rfl | ⟨1, _⟩ => rfl⟩
    change n.val = r.val at e0
    obtain rfl : l = k := Fin.ext e1
    rw [e0]
    exact H.before r l

theorem canon_tile (h : FVec Ideal S16x1024 .f32) (u : FVec Ideal S512x1024 .f32) (r : Fin 512) (l : Fin 1024) :
    (View.canon (rows h u) (ix2 ⟨16 + r.val, by omega⟩ l) : EReal) = u (ix2 r l) := by
  refine Eq.trans (congrArg (View.canon (rows h u)) (funext fun a => Fin.ext ?_)) (View.canon_cons_emb (Val := Elt Ideal) (e := .f32)
    (Rect.unit (s := S528x1024) ![16, 0] ![512, 1024] inb_S528x1024_S512x1024_16_0) u
    [⟨Rect.unit ![0, 0] ![16, 1024] inb_S528x1024_S16x1024_0_0, h⟩] (ix2 r l))
  match a with
  | ⟨0, _⟩ => exact congrArg (16 + ·) (Nat.one_mul _).symm
  | ⟨1, _⟩ => exact ((Nat.zero_add _).trans (Nat.one_mul _)).symm

theorem Holds.load {f : Fin 1024 → ℕ → EReal} {o : ℕ} {h : FVec Ideal S16x1024 .f32} {u : FVec Ideal S512x1024 .f32} (H : Holds f o h u)
    (p q : ℕ) (inb : ∀ a, (![p, q] : Fin 2 → ℕ) a + (![512, 256] : Fin 2 → ℕ) a ≤ S528x1024.size a) (hq : q + 256 ≤ 1024) (r : Fin 512) (j : Fin 256) :
    ((View.whole cc0_scratch1).readCov (Val := Elt Ideal) (rows h u) (Rect.unit (s := S528x1024) ![p, q] ![512, 256] inb).toLoadRect (ix2 r j) : EReal)
      = late (f ⟨q + j.val, by omega⟩) (o + (p + r.val)) := by
  rw [View.readCov_eq_canon']
  refine Eq.trans ?_ (H.canon ⟨p + r.val, ?_⟩ ⟨q + j.val, by omega⟩)
  · refine congrArg (View.canon (rows h u)) (funext fun a => Fin.ext ?_)
    match a with
    | ⟨0, _⟩ => exact congrArg (p + ·) (Nat.one_mul _)
    | ⟨1, _⟩ => exact congrArg (q + ·) (Nat.one_mul _)
  · have := inb 0
    change p + 512 ≤ 528 at this
    omega

/-- What a column holds `k` rows before a row, zero where there is none. -/
def back (f : ℕ → EReal) (k s : ℕ) : EReal := if k ≤ s then f (s - k) else 0

theorem back_zero (f : ℕ → EReal) (s : ℕ) : back f 0 s = f s := if_pos (Nat.zero_le s)

theorem late_back (f : ℕ → EReal) (k p o r : ℕ) (h : p + k = 16) : late f (o + (p + r)) = back f k (o + r) := by
  unfold late back
  by_cases hk : k ≤ o + r
  · rw [if_pos hk, if_pos (by omega)]
    exact congrArg f (by omega)
  · rw [if_neg hk, if_neg (by omega)]

theorem Holds.load_back {f : Fin 1024 → ℕ → EReal} {o : ℕ} {h : FVec Ideal S16x1024 .f32} {u : FVec Ideal S512x1024 .f32} (H : Holds f o h u)
    (g : Fin 4) (k p q : ℕ) (hk : p + k = 16) (hq : q = 256 * g.val) (inb : ∀ a, (![p, q] : Fin 2 → ℕ) a + (![512, 256] : Fin 2 → ℕ) a ≤ S528x1024.size a)
    (r : Fin 512) (j : Fin 256) :
    ((View.whole cc0_scratch1).readCov (Val := Elt Ideal) (rows h u) (Rect.unit (s := S528x1024) ![p, q] ![512, 256] inb).toLoadRect (ix2 r j) : EReal)
      = back (f (chan g j)) k (o + r.val) := by
  subst hq
  exact (H.load p _ inb (by omega) r j).trans (late_back _ k p o r.val hk)

/-- A group's result at a row: the mean of its window less the token, times the weights, scaled. -/
def groupOut (f : Fin 256 → ℕ → EReal) (w s : ℕ) (W : Fin 256 → EReal) (c : EReal) : EReal :=
  (∑ x : Fin 256, (Ideal.div (tail (f x) w s) (count w s) - f x s) * W x) * c

theorem row_word (n r : ℕ) : IntOp.addi (IntOp.addi (Scalar.muli (BitVec.ofNat 32 n) 512#32) (BitVec.ofNat 32 r)) 1#32
    = BitVec.ofNat 32 (n * 512 + r) + 1#32 := by
  show BitVec.ofNat 32 n * 512#32 + BitVec.ofNat 32 r + 1#32 = _
  rw [BitVec.ofNat_add, BitVec.ofNat_mul]

theorem tail_2 (f : ℕ → EReal) (s : ℕ) : tail f 2 s = back f 0 s + back f 1 s := by
  rw [tail_eq]
  simp only [Finset.sum_range_succ, Finset.sum_range_zero, zero_add]
  rfl

theorem tail_4 (f : ℕ → EReal) (s : ℕ) : tail f 4 s = back f 0 s + back f 1 s + back f 2 s + back f 3 s := by
  rw [tail_eq]
  simp only [Finset.sum_range_succ, Finset.sum_range_zero, zero_add]
  rfl

theorem tail_8 (f : ℕ → EReal) (s : ℕ) : tail f 8 s = back f 0 s + back f 1 s + back f 2 s + back f 3 s + back f 4 s + back f 5 s + back f 6 s + back f 7 s := by
  rw [tail_eq]
  simp only [Finset.sum_range_succ, Finset.sum_range_zero, zero_add]
  rfl

theorem tail_16 (f : ℕ → EReal) (s : ℕ) : tail f 16 s = back f 0 s + back f 1 s + back f 2 s + back f 3 s + back f 4 s + back f 5 s + back f 6 s + back f 7 s + back f 8 s + back f 9 s + back f 10 s + back f 11 s + back f 12 s + back f 13 s + back f 14 s + back f 15 s := by
  rw [tail_eq]
  simp only [Finset.sum_range_succ, Finset.sum_range_zero, zero_add]
  rfl

theorem window_2 (i : grid0.Coords) (v0 v1 : FVec Ideal S512x256 .f32) (W : FVec Ideal S1x1x256x256 .bf16) (c : FVec Ideal S1x1x256 .f32)
    (r : Fin 512) (o : Fin 256) (f : Fin 256 → ℕ → EReal)
    (h0 : ∀ x, (v0 (ix2 r x) : EReal) = back (f x) 0 ((i 1).val * 512 + r.val)) (h1 : ∀ x, (v1 (ix2 r x) : EReal) = back (f x) 1 ((i 1).val * 512 + r.val)) :
    k0_pay9 (F := Ideal) (k0_pay8 (F := Ideal) i v0 v1 W) c (ix3 0 r o)
      = groupOut f 2 ((i 1).val * 512 + r.val) (fun x => W (ix4 0 0 x o)) (c (ix3 0 0 o)) := by
  pointwise [k0_pay9, k0_pay8, k0_pay7]
  rw [row_word]
  unfold groupOut
  simp only [h0, h1, tail_2, back_zero]
  rfl

theorem window_4 (i : grid0.Coords) (v0 v1 v2 v3 : FVec Ideal S512x256 .f32) (W : FVec Ideal S1x1x256x256 .bf16) (c : FVec Ideal S1x1x256 .f32)
    (r : Fin 512) (o : Fin 256) (f : Fin 256 → ℕ → EReal)
    (h0 : ∀ x, (v0 (ix2 r x) : EReal) = back (f x) 0 ((i 1).val * 512 + r.val)) (h1 : ∀ x, (v1 (ix2 r x) : EReal) = back (f x) 1 ((i 1).val * 512 + r.val)) (h2 : ∀ x, (v2 (ix2 r x) : EReal) = back (f x) 2 ((i 1).val * 512 + r.val)) (h3 : ∀ x, (v3 (ix2 r x) : EReal) = back (f x) 3 ((i 1).val * 512 + r.val)) :
    k0_pay10 (F := Ideal) (k0_pay7 i) v0 v1 v2 v3 W c (ix3 0 r o)
      = groupOut f 4 ((i 1).val * 512 + r.val) (fun x => W (ix4 0 0 x o)) (c (ix3 0 0 o)) := by
  pointwise [k0_pay10, k0_pay7]
  rw [row_word]
  unfold groupOut
  simp only [h0, h1, h2, h3, tail_4, back_zero]
  rfl

theorem window_8 (i : grid0.Coords) (v0 v1 v2 v3 v4 v5 v6 v7 : FVec Ideal S512x256 .f32) (W : FVec Ideal S1x1x256x256 .bf16) (c : FVec Ideal S1x1x256 .f32)
    (r : Fin 512) (o : Fin 256) (f : Fin 256 → ℕ → EReal)
    (h0 : ∀ x, (v0 (ix2 r x) : EReal) = back (f x) 0 ((i 1).val * 512 + r.val)) (h1 : ∀ x, (v1 (ix2 r x) : EReal) = back (f x) 1 ((i 1).val * 512 + r.val)) (h2 : ∀ x, (v2 (ix2 r x) : EReal) = back (f x) 2 ((i 1).val * 512 + r.val)) (h3 : ∀ x, (v3 (ix2 r x) : EReal) = back (f x) 3 ((i 1).val * 512 + r.val)) (h4 : ∀ x, (v4 (ix2 r x) : EReal) = back (f x) 4 ((i 1).val * 512 + r.val)) (h5 : ∀ x, (v5 (ix2 r x) : EReal) = back (f x) 5 ((i 1).val * 512 + r.val)) (h6 : ∀ x, (v6 (ix2 r x) : EReal) = back (f x) 6 ((i 1).val * 512 + r.val)) (h7 : ∀ x, (v7 (ix2 r x) : EReal) = back (f x) 7 ((i 1).val * 512 + r.val)) :
    k0_pay12 (F := Ideal) (k0_pay11 (F := Ideal) (k0_pay7 i) v0 v1 v2 v3 v4 v5 v6 v7 W c) (ix3 0 r o)
      = groupOut f 8 ((i 1).val * 512 + r.val) (fun x => W (ix4 0 0 x o)) (c (ix3 0 0 o)) := by
  pointwise [k0_pay12, k0_pay11, k0_pay7]
  rw [row_word]
  unfold groupOut
  simp only [h0, h1, h2, h3, h4, h5, h6, h7, tail_8, back_zero]
  rfl

theorem window_16 (i : grid0.Coords) (v0 v1 v2 v3 v4 v5 v6 v7 v8 v9 v10 v11 v12 v13 v14 v15 : FVec Ideal S512x256 .f32) (W : FVec Ideal S1x1x256x256 .bf16) (c : FVec Ideal S1x1x256 .f32)
    (r : Fin 512) (o : Fin 256) (f : Fin 256 → ℕ → EReal)
    (h0 : ∀ x, (v0 (ix2 r x) : EReal) = back (f x) 0 ((i 1).val * 512 + r.val)) (h1 : ∀ x, (v1 (ix2 r x) : EReal) = back (f x) 1 ((i 1).val * 512 + r.val)) (h2 : ∀ x, (v2 (ix2 r x) : EReal) = back (f x) 2 ((i 1).val * 512 + r.val)) (h3 : ∀ x, (v3 (ix2 r x) : EReal) = back (f x) 3 ((i 1).val * 512 + r.val)) (h4 : ∀ x, (v4 (ix2 r x) : EReal) = back (f x) 4 ((i 1).val * 512 + r.val)) (h5 : ∀ x, (v5 (ix2 r x) : EReal) = back (f x) 5 ((i 1).val * 512 + r.val)) (h6 : ∀ x, (v6 (ix2 r x) : EReal) = back (f x) 6 ((i 1).val * 512 + r.val)) (h7 : ∀ x, (v7 (ix2 r x) : EReal) = back (f x) 7 ((i 1).val * 512 + r.val)) (h8 : ∀ x, (v8 (ix2 r x) : EReal) = back (f x) 8 ((i 1).val * 512 + r.val)) (h9 : ∀ x, (v9 (ix2 r x) : EReal) = back (f x) 9 ((i 1).val * 512 + r.val)) (h10 : ∀ x, (v10 (ix2 r x) : EReal) = back (f x) 10 ((i 1).val * 512 + r.val)) (h11 : ∀ x, (v11 (ix2 r x) : EReal) = back (f x) 11 ((i 1).val * 512 + r.val)) (h12 : ∀ x, (v12 (ix2 r x) : EReal) = back (f x) 12 ((i 1).val * 512 + r.val)) (h13 : ∀ x, (v13 (ix2 r x) : EReal) = back (f x) 13 ((i 1).val * 512 + r.val)) (h14 : ∀ x, (v14 (ix2 r x) : EReal) = back (f x) 14 ((i 1).val * 512 + r.val)) (h15 : ∀ x, (v15 (ix2 r x) : EReal) = back (f x) 15 ((i 1).val * 512 + r.val)) :
    k0_pay14 (F := Ideal) (k0_pay7 i) v0 (k0_pay13 (F := Ideal) v0 v1 v2 v3 v4 v5 v6 v7 v8 v9 v10 v11 v12 v13) v14 v15 W c (ix3 0 r o)
      = groupOut f 16 ((i 1).val * 512 + r.val) (fun x => W (ix4 0 0 x o)) (c (ix3 0 0 o)) := by
  pointwise [k0_pay14, k0_pay13, k0_pay7]
  rw [row_word]
  unfold groupOut
  simp only [h0, h1, h2, h3, h4, h5, h6, h7, h8, h9, h10, h11, h12, h13, h14, h15, tail_16, back_zero]
  rfl

/-- A point's stores into its block of the result. -/
abbrev outs (i : grid0.Coords) (L : List (View.Piece (Elt Ideal) S528x1024 .f32)) (x11 : Vec Ideal S1x4x256x256 .bf16) (x12 : Vec Ideal S1x1x1024 .f32) :
    List (View.Piece (Elt Ideal) S1x512x1024 .bf16) :=
  [⟨Rect.unit ![0, 0, 768] ![1, 512, 256] inb_S1x512x1024_S1x512x256_0_0_768, k0_pay14 (F := Ideal) (k0_pay7 i) ((View.whole cc0_scratch1).readCov (Val := Elt Ideal) L (Rect.unit (s := S528x1024) ![16, 768] ![512, 256] inb_S528x1024_S512x256_16_768).toLoadRect) (k0_pay13 (F := Ideal) ((View.whole cc0_scratch1).readCov (Val := Elt Ideal) L (Rect.unit (s := S528x1024) ![16, 768] ![512, 256] inb_S528x1024_S512x256_16_768).toLoadRect) ((View.whole cc0_scratch1).readCov (Val := Elt Ideal) L (Rect.unit (s := S528x1024) ![15, 768] ![512, 256] inb_S528x1024_S512x256_15_768).toLoadRect) ((View.whole cc0_scratch1).readCov (Val := Elt Ideal) L (Rect.unit (s := S528x1024) ![14, 768] ![512, 256] inb_S528x1024_S512x256_14_768).toLoadRect) ((View.whole cc0_scratch1).readCov (Val := Elt Ideal) L (Rect.unit (s := S528x1024) ![13, 768] ![512, 256] inb_S528x1024_S512x256_13_768).toLoadRect) ((View.whole cc0_scratch1).readCov (Val := Elt Ideal) L (Rect.unit (s := S528x1024) ![12, 768] ![512, 256] inb_S528x1024_S512x256_12_768).toLoadRect) ((View.whole cc0_scratch1).readCov (Val := Elt Ideal) L (Rect.unit (s := S528x1024) ![11, 768] ![512, 256] inb_S528x1024_S512x256_11_768).toLoadRect) ((View.whole cc0_scratch1).readCov (Val := Elt Ideal) L (Rect.unit (s := S528x1024) ![10, 768] ![512, 256] inb_S528x1024_S512x256_10_768).toLoadRect) ((View.whole cc0_scratch1).readCov (Val := Elt Ideal) L (Rect.unit (s := S528x1024) ![9, 768] ![512, 256] inb_S528x1024_S512x256_9_768).toLoadRect) ((View.whole cc0_scratch1).readCov (Val := Elt Ideal) L (Rect.unit (s := S528x1024) ![8, 768] ![512, 256] inb_S528x1024_S512x256_8_768).toLoadRect) ((View.whole cc0_scratch1).readCov (Val := Elt Ideal) L (Rect.unit (s := S528x1024) ![7, 768] ![512, 256] inb_S528x1024_S512x256_7_768).toLoadRect) ((View.whole cc0_scratch1).readCov (Val := Elt Ideal) L (Rect.unit (s := S528x1024) ![6, 768] ![512, 256] inb_S528x1024_S512x256_6_768).toLoadRect) ((View.whole cc0_scratch1).readCov (Val := Elt Ideal) L (Rect.unit (s := S528x1024) ![5, 768] ![512, 256] inb_S528x1024_S512x256_5_768).toLoadRect) ((View.whole cc0_scratch1).readCov (Val := Elt Ideal) L (Rect.unit (s := S528x1024) ![4, 768] ![512, 256] inb_S528x1024_S512x256_4_768).toLoadRect) ((View.whole cc0_scratch1).readCov (Val := Elt Ideal) L (Rect.unit (s := S528x1024) ![3, 768] ![512, 256] inb_S528x1024_S512x256_3_768).toLoadRect)) ((View.whole cc0_scratch1).readCov (Val := Elt Ideal) L (Rect.unit (s := S528x1024) ![2, 768] ![512, 256] inb_S528x1024_S512x256_2_768).toLoadRect) ((View.whole cc0_scratch1).readCov (Val := Elt Ideal) L (Rect.unit (s := S528x1024) ![1, 768] ![512, 256] inb_S528x1024_S512x256_1_768).toLoadRect)
        (View.ld x11 (Rect.unit (s := S1x4x256x256) ![0, 3, 0, 0] ![1, 1, 256, 256] inb_S1x4x256x256_S1x1x256x256_0_3_0_0)) (View.ld x12 (Rect.unit (s := S1x1x1024) ![0, 0, 768] ![1, 1, 256] inb_S1x1x1024_S1x1x256_0_0_768))⟩,
    ⟨Rect.unit ![0, 0, 512] ![1, 512, 256] inb_S1x512x1024_S1x512x256_0_0_512, k0_pay12 (F := Ideal) (k0_pay11 (F := Ideal) (k0_pay7 i) ((View.whole cc0_scratch1).readCov (Val := Elt Ideal) L (Rect.unit (s := S528x1024) ![16, 512] ![512, 256] inb_S528x1024_S512x256_16_512).toLoadRect) ((View.whole cc0_scratch1).readCov (Val := Elt Ideal) L (Rect.unit (s := S528x1024) ![15, 512] ![512, 256] inb_S528x1024_S512x256_15_512).toLoadRect) ((View.whole cc0_scratch1).readCov (Val := Elt Ideal) L (Rect.unit (s := S528x1024) ![14, 512] ![512, 256] inb_S528x1024_S512x256_14_512).toLoadRect) ((View.whole cc0_scratch1).readCov (Val := Elt Ideal) L (Rect.unit (s := S528x1024) ![13, 512] ![512, 256] inb_S528x1024_S512x256_13_512).toLoadRect) ((View.whole cc0_scratch1).readCov (Val := Elt Ideal) L (Rect.unit (s := S528x1024) ![12, 512] ![512, 256] inb_S528x1024_S512x256_12_512).toLoadRect) ((View.whole cc0_scratch1).readCov (Val := Elt Ideal) L (Rect.unit (s := S528x1024) ![11, 512] ![512, 256] inb_S528x1024_S512x256_11_512).toLoadRect) ((View.whole cc0_scratch1).readCov (Val := Elt Ideal) L (Rect.unit (s := S528x1024) ![10, 512] ![512, 256] inb_S528x1024_S512x256_10_512).toLoadRect) ((View.whole cc0_scratch1).readCov (Val := Elt Ideal) L (Rect.unit (s := S528x1024) ![9, 512] ![512, 256] inb_S528x1024_S512x256_9_512).toLoadRect)
        (View.ld x11 (Rect.unit (s := S1x4x256x256) ![0, 2, 0, 0] ![1, 1, 256, 256] inb_S1x4x256x256_S1x1x256x256_0_2_0_0)) (View.ld x12 (Rect.unit (s := S1x1x1024) ![0, 0, 512] ![1, 1, 256] inb_S1x1x1024_S1x1x256_0_0_512)))⟩,
    ⟨Rect.unit ![0, 0, 256] ![1, 512, 256] inb_S1x512x1024_S1x512x256_0_0_256, k0_pay10 (F := Ideal) (k0_pay7 i) ((View.whole cc0_scratch1).readCov (Val := Elt Ideal) L (Rect.unit (s := S528x1024) ![16, 256] ![512, 256] inb_S528x1024_S512x256_16_256).toLoadRect) ((View.whole cc0_scratch1).readCov (Val := Elt Ideal) L (Rect.unit (s := S528x1024) ![15, 256] ![512, 256] inb_S528x1024_S512x256_15_256).toLoadRect) ((View.whole cc0_scratch1).readCov (Val := Elt Ideal) L (Rect.unit (s := S528x1024) ![14, 256] ![512, 256] inb_S528x1024_S512x256_14_256).toLoadRect) ((View.whole cc0_scratch1).readCov (Val := Elt Ideal) L (Rect.unit (s := S528x1024) ![13, 256] ![512, 256] inb_S528x1024_S512x256_13_256).toLoadRect)
        (View.ld x11 (Rect.unit (s := S1x4x256x256) ![0, 1, 0, 0] ![1, 1, 256, 256] inb_S1x4x256x256_S1x1x256x256_0_1_0_0)) (View.ld x12 (Rect.unit (s := S1x1x1024) ![0, 0, 256] ![1, 1, 256] inb_S1x1x1024_S1x1x256_0_0_256))⟩,
    ⟨Rect.unit ![0, 0, 0] ![1, 512, 256] inb_S1x512x1024_S1x512x256_0_0_0, k0_pay9 (F := Ideal) (k0_pay8 (F := Ideal) i ((View.whole cc0_scratch1).readCov (Val := Elt Ideal) L (Rect.unit (s := S528x1024) ![16, 0] ![512, 256] inb_S528x1024_S512x256_16_0).toLoadRect) ((View.whole cc0_scratch1).readCov (Val := Elt Ideal) L (Rect.unit (s := S528x1024) ![15, 0] ![512, 256] inb_S528x1024_S512x256_15_0).toLoadRect)
        (View.ld x11 (Rect.unit (s := S1x4x256x256) ![0, 0, 0, 0] ![1, 1, 256, 256] inb_S1x4x256x256_S1x1x256x256_0_0_0_0))) (View.ld x12 (Rect.unit (s := S1x1x1024) ![0, 0, 0] ![1, 1, 256] inb_S1x1x1024_S1x1x256_0_0_0))⟩]

theorem ld_weight (x11 : Vec Ideal S1x4x256x256 .bf16) (g : Fin 4)
    (inb : ∀ a, (![0, g.val, 0, 0] : Fin 4 → ℕ) a + (![1, 1, 256, 256] : Fin 4 → ℕ) a ≤ S1x4x256x256.size a) (x j : Fin 256) :
    View.ld x11 (Rect.unit (s := S1x4x256x256) ![0, g.val, 0, 0] ![1, 1, 256, 256] inb) (ix4 0 0 x j) = x11 (ix4 0 g x j) := by
  refine congrArg x11 (funext fun a => Fin.ext ?_)
  match a with
  | ⟨0, _⟩ => rfl
  | ⟨1, _⟩ => rfl
  | ⟨2, _⟩ => exact (Nat.zero_add _).trans (Nat.one_mul _)
  | ⟨3, _⟩ => exact (Nat.zero_add _).trans (Nat.one_mul _)

theorem ld_scale (x12 : Vec Ideal S1x1x1024 .f32) (g : Fin 4) (q : ℕ) (hq : q = 256 * g.val)
    (inb : ∀ a, (![0, 0, q] : Fin 3 → ℕ) a + (![1, 1, 256] : Fin 3 → ℕ) a ≤ S1x1x1024.size a) (j : Fin 256) :
    View.ld x12 (Rect.unit (s := S1x1x1024) ![0, 0, q] ![1, 1, 256] inb) (ix3 0 0 j) = x12 (ix3 0 0 (chan g j)) := by
  subst hq
  refine congrArg x12 (funext fun a => Fin.ext ?_)
  match a with
  | ⟨0, _⟩ => rfl
  | ⟨1, _⟩ => rfl
  | ⟨2, _⟩ => exact congrArg (256 * g.val + ·) (Nat.one_mul _)

theorem outs_at {f : Fin 1024 → ℕ → EReal} {i : grid0.Coords} {h : FVec Ideal S16x1024 .f32} {u : FVec Ideal S512x1024 .f32} (H : Holds f ((i 1).val * 512) h u)
    (x11 : Vec Ideal S1x4x256x256 .bf16) (x12 : Vec Ideal S1x1x1024 .f32) (g : Fin 4) (r : Fin 512) (j : Fin 256) :
    (View.canon (outs i (rows h u) x11 x12) (ix3 0 r (chan g j)) : EReal)
      = groupOut (fun x => f (chan g x)) (span g) ((i 1).val * 512 + r.val) (fun x => x11 (ix4 0 g x j)) (x12 (ix3 0 0 (chan g j))) := by
  canon_tiles x e
  · obtain ⟨z, r', j', rfl⟩ : ∃ z r' j', x = ix3 z r' j' := ⟨x 0, x 1, x 2, by funext a; match a with | ⟨0, _⟩ => rfl | ⟨1, _⟩ => rfl | ⟨2, _⟩ => rfl⟩
    change 256 * g.val + j.val = 768 + j'.val at e2
    obtain rfl : z = 0 := Subsingleton.elim (α := Fin 1) _ _
    obtain rfl : r = r' := Fin.ext e1
    obtain rfl : g = 3 := Fin.ext (show g.val = 3 by omega)
    obtain rfl : j = j' := Fin.ext (by change 256 * 3 + j.val = _ at e2; omega)
    refine (window_16 i _ _ _ _ _ _ _ _ _ _ _ _ _ _ _ _ _ _ r j (fun x => f (chan 3 x)) (fun x => H.load_back 3 0 16 768 rfl rfl _ r x) (fun x => H.load_back 3 1 15 768 rfl rfl _ r x) (fun x => H.load_back 3 2 14 768 rfl rfl _ r x) (fun x => H.load_back 3 3 13 768 rfl rfl _ r x) (fun x => H.load_back 3 4 12 768 rfl rfl _ r x) (fun x => H.load_back 3 5 11 768 rfl rfl _ r x) (fun x => H.load_back 3 6 10 768 rfl rfl _ r x) (fun x => H.load_back 3 7 9 768 rfl rfl _ r x) (fun x => H.load_back 3 8 8 768 rfl rfl _ r x) (fun x => H.load_back 3 9 7 768 rfl rfl _ r x) (fun x => H.load_back 3 10 6 768 rfl rfl _ r x) (fun x => H.load_back 3 11 5 768 rfl rfl _ r x) (fun x => H.load_back 3 12 4 768 rfl rfl _ r x) (fun x => H.load_back 3 13 3 768 rfl rfl _ r x) (fun x => H.load_back 3 14 2 768 rfl rfl _ r x) (fun x => H.load_back 3 15 1 768 rfl rfl _ r x)).trans ?_
    congr 1
    · exact funext fun x => ld_weight x11 3 _ x j
    · exact ld_scale x12 3 768 rfl _ j
  · obtain ⟨z, r', j', rfl⟩ : ∃ z r' j', x = ix3 z r' j' := ⟨x 0, x 1, x 2, by funext a; match a with | ⟨0, _⟩ => rfl | ⟨1, _⟩ => rfl | ⟨2, _⟩ => rfl⟩
    change 256 * g.val + j.val = 512 + j'.val at e2
    obtain rfl : z = 0 := Subsingleton.elim (α := Fin 1) _ _
    obtain rfl : r = r' := Fin.ext e1
    obtain rfl : g = 2 := Fin.ext (show g.val = 2 by omega)
    obtain rfl : j = j' := Fin.ext (by change 256 * 2 + j.val = _ at e2; omega)
    refine (window_8 i _ _ _ _ _ _ _ _ _ _ r j (fun x => f (chan 2 x)) (fun x => H.load_back 2 0 16 512 rfl rfl _ r x) (fun x => H.load_back 2 1 15 512 rfl rfl _ r x) (fun x => H.load_back 2 2 14 512 rfl rfl _ r x) (fun x => H.load_back 2 3 13 512 rfl rfl _ r x) (fun x => H.load_back 2 4 12 512 rfl rfl _ r x) (fun x => H.load_back 2 5 11 512 rfl rfl _ r x) (fun x => H.load_back 2 6 10 512 rfl rfl _ r x) (fun x => H.load_back 2 7 9 512 rfl rfl _ r x)).trans ?_
    congr 1
    · exact funext fun x => ld_weight x11 2 _ x j
    · exact ld_scale x12 2 512 rfl _ j
  · obtain ⟨z, r', j', rfl⟩ : ∃ z r' j', x = ix3 z r' j' := ⟨x 0, x 1, x 2, by funext a; match a with | ⟨0, _⟩ => rfl | ⟨1, _⟩ => rfl | ⟨2, _⟩ => rfl⟩
    change 256 * g.val + j.val = 256 + j'.val at e2
    obtain rfl : z = 0 := Subsingleton.elim (α := Fin 1) _ _
    obtain rfl : r = r' := Fin.ext e1
    obtain rfl : g = 1 := Fin.ext (show g.val = 1 by omega)
    obtain rfl : j = j' := Fin.ext (by change 256 * 1 + j.val = _ at e2; omega)
    refine (window_4 i _ _ _ _ _ _ r j (fun x => f (chan 1 x)) (fun x => H.load_back 1 0 16 256 rfl rfl _ r x) (fun x => H.load_back 1 1 15 256 rfl rfl _ r x) (fun x => H.load_back 1 2 14 256 rfl rfl _ r x) (fun x => H.load_back 1 3 13 256 rfl rfl _ r x)).trans ?_
    congr 1
    · exact funext fun x => ld_weight x11 1 _ x j
    · exact ld_scale x12 1 256 rfl _ j
  · obtain ⟨z, r', j', rfl⟩ : ∃ z r' j', x = ix3 z r' j' := ⟨x 0, x 1, x 2, by funext a; match a with | ⟨0, _⟩ => rfl | ⟨1, _⟩ => rfl | ⟨2, _⟩ => rfl⟩
    change 256 * g.val + j.val = j'.val at e2
    obtain rfl : z = 0 := Subsingleton.elim (α := Fin 1) _ _
    obtain rfl : r = r' := Fin.ext e1
    obtain rfl : g = 0 := Fin.ext (show g.val = 0 by omega)
    obtain rfl : j = j' := Fin.ext (by change 256 * 0 + j.val = _ at e2; omega)
    refine (window_2 i _ _ _ _ r j (fun x => f (chan 0 x)) (fun x => H.load_back 0 0 16 0 rfl rfl _ r x) (fun x => H.load_back 0 1 15 0 rfl rfl _ r x)).trans ?_
    congr 1
    · exact funext fun x => ld_weight x11 0 _ x j
    · exact ld_scale x12 0 0 rfl _ j

variable (m : (ℓ : Loc nD τ sig) → Buf (Elt Ideal) ℓ)

theorem idx : ∀ t : Fin cfg0.N, win0_0.index t = ![t.val / 4, t.val % 4, 0] ∧ win0_11.index t = ![1, 0, 0, 0] ∧ win0_12.index t = ![1, 0, 0]
    ∧ win0_14.index t = ![t.val / 4, t.val % 4, 0] ∧ (grid0.coords t 1).val = t.val % 4 := (by decide +kernel : ∀ t : Fin grid0.N, _)

theorem token_block (c : Dev nD) (t : Fin cfg0.N) (r : Fin 512) (l : Fin 1024) :
    k0_pay6 (iblk m c 0 t) (ix2 r l) = m ((c : Thread nD τ).loc main_arg0) (ix3 ⟨t.val / 4, by have := lt_of_lt_of_eq t.isLt (by decide : cfg0.N = 16); omega⟩ ⟨t.val % 4 * 512 + r.val, by omega⟩ ⟨l.val, by omega⟩) := by
  pointwise [k0_pay6]
  blk_point [iblk, V, idx t]

theorem weight_read (c : Dev nD) (g : Fin 4) (j o : Fin 256) : V m c main_v69 (ix4 1 g j o) = m ((c : Thread nD τ).loc main_arg2) (ix4 1 g j o) := by
  unfold V
  after_reads_at

theorem scale_read (c : Dev nD) (l : Fin 1024) : V m c main_v70 (ix3 1 0 l) = m ((c : Thread nD τ).loc main_arg3) (ix2 1 l) := by
  unfold V
  after_reads_at

theorem weight_block (c : Dev nD) (t : Fin cfg0.N) (g : Fin 4) (j o : Fin 256) :
    iblk m c 11 t (ix4 0 g j o) = m ((c : Thread nD τ).loc main_arg2) (ix4 1 g j o) := by
  refine Eq.trans ?_ (weight_read m c g j o)
  blk_ext [iblk, idx t]

theorem scale_block (c : Dev nD) (t : Fin cfg0.N) (l : Fin 1024) :
    iblk m c 12 t (ix3 0 0 l) = m ((c : Thread nD τ).loc main_arg3) (ix2 1 l) := by
  refine Eq.trans ?_ (scale_read m c l)
  blk_ext [iblk, idx t]

theorem ext_A (c : Dev nD) (t : Fin cfg0.N) (h0 : t.val % 4 = 0) (h1 : ¬1 ≤ t.val % 4) :
    (outsAt0 m c t.val t.isLt).2.2.2 = View.canon (rows k0_pay4 (k0_pay6 (iblk m c 0 t))) := by
  rw [outsAt0_A m c t h0 h1]
  dsimp only
  unfold sout0_A_1
  frame_out

theorem ext_B (c : Dev nD) (t : Fin cfg0.N) (h0 : ¬t.val % 4 = 0) (h1 : 1 ≤ t.val % 4) :
    ∃ e, (outsAt0 m c t.val t.isLt).2.2.2 = View.canon (rows e (k0_pay6 (iblk m c 0 t))) := by
  rw [outsAt0_B m c t h0 h1]
  dsimp only
  unfold sout0_B_1
  frame_out
  exact ⟨_, rfl⟩

theorem out_A (c : Dev nD) (t : Fin cfg0.N) (h0 : t.val % 4 = 0) (h1 : ¬1 ≤ t.val % 4) :
    (outsAt0 m c t.val t.isLt).2.1 = View.canon (outs (grid0.coords t) (rows k0_pay4 (k0_pay6 (iblk m c 0 t))) (iblk m c 11 t) (iblk m c 12 t)) := by
  rw [outsAt0_A m c t h0 h1]
  dsimp only
  unfold out0_A_14
  frame_out

theorem out_B (c : Dev nD) (t : Fin cfg0.N) (h0 : ¬t.val % 4 = 0) (h1 : 1 ≤ t.val % 4) (hlt : t.val - 1 < cfg0.N) :
    ∃ e, (∀ (r : Fin 16) (l : Fin 1024), e (ix2 r l) = (outsAt0 m c (t.val - 1) hlt).2.2.2 (ix2 ⟨512 + r.val, by omega⟩ l))
      ∧ (outsAt0 m c t.val t.isLt).2.1 = View.canon (outs (grid0.coords t) (rows e (k0_pay6 (iblk m c 0 t))) (iblk m c 11 t) (iblk m c 12 t)) := by
  rw [outsAt0_B m c t h0 h1]
  dsimp only
  unfold out0_B_14
  frame_out
  refine ⟨_, fun r l => ?_, rfl⟩
  pointwise [k0_pay5]
  exact congrFun ((Memref.isWhole_whole cc0_scratch1).read_unread _) _

/-! ## All the points -/

abbrev colOf (c : Dev nD) (t : Fin cfg0.N) : Fin 1024 → ℕ → EReal := fun l =>
  col (m ((c : Thread nD τ).loc main_arg0)) ⟨t.val / 4, by have := lt_of_lt_of_eq t.isLt (by decide : cfg0.N = 16); omega⟩ l

theorem tile_col (c : Dev nD) (t : Fin cfg0.N) (r : Fin 512) (l : Fin 1024) :
    (k0_pay6 (iblk m c 0 t) (ix2 r l) : EReal) = colOf m c t l (t.val % 4 * 512 + r.val) :=
  (token_block m c t r l).trans (by
    unfold colOf col
    rw [dif_pos (by omega)])

/-- The rows that a point leaves below the first sixteen are its tile's. -/
theorem left_rows (c : Dev nD) (t : Fin cfg0.N) (r : Fin 512) (l : Fin 1024) :
    ((outsAt0 m c t.val t.isLt).2.2.2 (ix2 ⟨16 + r.val, by omega⟩ l) : EReal) = k0_pay6 (iblk m c 0 t) (ix2 r l) := by
  have e : ∃ e, (outsAt0 m c t.val t.isLt).2.2.2 = View.canon (rows e (k0_pay6 (iblk m c 0 t))) := by
    by_cases h : t.val % 4 = 0
    · exact ⟨_, ext_A m c t h (by omega)⟩
    · exact ext_B m c t h (by omega)
  obtain ⟨e, he⟩ := e
  exact (congrFun he _).trans (canon_tile _ _ r l)

/-- What a point leaves in its block of the result. -/
theorem point_at (c : Dev nD) (t : Fin cfg0.N) (g : Fin 4) (r : Fin 512) (j : Fin 256) :
    ((outsAt0 m c t.val t.isLt).2.1 (ix3 0 r (chan g j)) : EReal)
      = groupOut (fun x => colOf m c t (chan g x)) (span g) (t.val % 4 * 512 + r.val)
          (fun x => m ((c : Thread nD τ).loc main_arg2) (ix4 1 g x j)) (m ((c : Thread nD τ).loc main_arg3) (ix2 1 (chan g j))) := by
  have hN : t.val < 16 := lt_of_lt_of_eq t.isLt (by decide)
  have hc : (grid0.coords t 1).val = t.val % 4 := (idx t).2.2.2.2
  obtain ⟨h, H, e⟩ : ∃ h, Holds (colOf m c t) ((grid0.coords t 1).val * 512) h (k0_pay6 (iblk m c 0 t))
      ∧ (outsAt0 m c t.val t.isLt).2.1 = View.canon (outs (grid0.coords t) (rows h (k0_pay6 (iblk m c 0 t))) (iblk m c 11 t) (iblk m c 12 t)) := by
    rw [hc]
    by_cases h0 : t.val % 4 = 0
    · refine ⟨_, ⟨tile_col m c t, fun r l => ?_⟩, out_A m c t h0 (by omega)⟩
      unfold late
      rw [if_neg (by omega)]
      pointwise [k0_pay4]
    · have hlt : t.val - 1 < cfg0.N := by have := t.isLt; omega
      obtain ⟨e, he, ho⟩ := out_B m c t h0 (by omega) hlt
      refine ⟨e, ⟨tile_col m c t, fun r l => ?_⟩, ho⟩
      rw [he]
      refine (congrArg _ (congrArg (fun n => ix2 n l) (Fin.ext (show 512 + r.val = 16 + (496 + r.val) by omega)))).trans
        ((left_rows m c ⟨t.val - 1, hlt⟩ ⟨496 + r.val, by omega⟩ l).trans ((tile_col m c ⟨t.val - 1, hlt⟩ ⟨496 + r.val, by omega⟩ l).trans ?_))
      unfold late
      rw [if_pos (by omega)]
      have e₁ : (t.val - 1) / 4 = t.val / 4 := by omega
      have e₂ : (t.val - 1) % 4 * 512 + (496 + r.val) = t.val % 4 * 512 + r.val - 16 := by omega
      show col _ ⟨(t.val - 1) / 4, _⟩ l ((t.val - 1) % 4 * 512 + (496 + r.val)) = _
      rw [e₂]
      exact congrArg (fun b => col _ b l _) (Fin.ext e₁)
  rw [e, outs_at H, hc]
  congr 1
  · exact funext fun x => weight_block m c t g x j
  · exact scale_block m c t _

theorem final_pools (c : Dev nD) : (dats m 0 c).arrAt 14 (cfgs 0).N
    = pools (m ((c : Thread nD τ).loc main_arg0)) (m ((c : Thread nD τ).loc main_arg2)) (m ((c : Thread nD τ).loc main_arg3)) := by
  refine (dats m 0 c).arrAt_eq_of_covers 14 _ (by decide +kernel) fun t hf y => ?_
  blk_simp
  rw [after0_14]
  have y0 : (y 0).val < 1 := (y 0).isLt
  have y1 : (y 1).val < 512 := (y 1).isLt
  have y2 : (y 2).val < 1024 := (y 2).isLt
  refine Eq.trans ?_ ((point_at m c t ⟨(y 2).val / 256, by omega⟩ ⟨(y 1).val, y1⟩ ⟨(y 2).val % 256, by omega⟩).trans ?_)
  · refine congrArg (outsAt0 m c t.val t.isLt).2.1 (funext fun a => Fin.ext ?_)
    match a with
    | ⟨0, _⟩ => exact Nat.lt_one_iff.1 y0
    | ⟨1, _⟩ => rfl
    | ⟨2, _⟩ => exact (Nat.div_add_mod _ _).symm
  · refine (pools_at _ _ _ _ _ _ _ _ ?_ ?_ ?_).symm
    · blk_simp [idx t] <;> try omega
    · blk_simp [idx t] <;> try omega
    · blk_simp [idx t] <;> exact (Nat.div_add_mod _ _).symm

end Cert.Kernel7Ideal.Pool

end
-- ==== Proof.PoolReference.lean ====
module

public import proofs.«01_k».proof.Proof.PoolMath
public import proofs.«01_k».proof.Proof.Gen.Reference7Ideal
public import proofs.«01_k».proof.Defs
public import Idealize.ShloMosaic.Lib.Claim
public import Idealize.ShloMosaic.Lib.StableHlo.ReadAt
import Idealize.ShloMosaic.Lib.Pointwise

@[expose] public section

set_option maxRecDepth 65536

noncomputable section

namespace Cert.Reference7Ideal.Pool

open Idealize.ShloMosaic Idealize.ShloMosaic.TcCoe Idealize.ShloMosaic.Tactic Idealize.SL.Sem
open Cert.Reference7Ideal Cert.Reference7Ideal.Gen
open Cert.Pool
open Cert.Forget (tail windowAdd_at)

theorem zero_word : (FloatOps.sitofp (F := Ideal) .f32 (0#32 : BitVec 32) : EReal) = 0 := by
  show ((((0#32 : BitVec 32).toInt : ℤ) : ℝ) : EReal) = 0
  simp

/-- A difference of two running sums of a real column is the sum over the window between them. -/
theorem windows {X : FVec Ideal Tokens .f32} (hX : Finite X) (x : FVec Ideal S4x2048x1024 .f32) (init : S_.Idx → Ideal .f32) (w : ℕ)
    (h : S4x2048x1024.ReduceWindows ![1, 2048, 1] ![1, 1, 1] ![0, 2047, 0] ![0, 0, 0] S4x2048x1024) (hu : 0 < S_.numel)
    (hinit : ∀ i, (init i : EReal) = 0) (b : Fin 4) (s : Fin 2048) (l : Fin 1024) (hx : ∀ r, (x (ix3 b r l) : EReal) = col X b l r.val) :
    ((Host.reduceWindowAdd ![1, 2048, 1] ![1, 1, 1] ![0, 2047, 0] ![0, 0, 0] x init h hu (ix3 b s l) : EReal)
      - (if hw : w ≤ s.val ∧ s.val - w < 2048 then
          Host.reduceWindowAdd ![1, 2048, 1] ![1, 1, 1] ![0, 2047, 0] ![0, 0, 0] x init h hu (ix3 b ⟨s.val - w, hw.2⟩ l)
        else FloatOps.sitofp (F := Ideal) .f32 (0#32 : BitVec 32) : EReal)) = tail (col X b l) w s.val := by
  obtain ⟨g, hg⟩ := hX.col b l
  rw [← window_diff (col X b l) g hg w s.val]
  refine congrArg₂ (fun p q : EReal => p - q) (windowAdd_at (N := 2048) (M := 2047) rfl x init (col X b l) h hu hinit b s l hx) ?_
  by_cases hw : w ≤ s.val
  · rw [dif_pos ⟨hw, by omega⟩, if_pos hw]
    exact windowAdd_at (N := 2048) (M := 2047) rfl x init (col X b l) h hu hinit b _ l hx
  · rw [dif_neg (fun e => hw e.1), if_neg hw, zero_word]

theorem first_columns (X : FVec Ideal Tokens .f32) (h : S4x2048x4096.Slices ![0, 0, 0] S4x2048x1024) (b : Fin 4) (l : Fin 1024) (r : Fin 2048) :
    (extractStridedSlice S4x2048x1024 ![0, 0, 0] X h (ix3 b r l) : EReal) = col X b l r.val := by
  pointwise [col]

theorem init_zero (h : S_.BroadcastsInDim S_ ![]) (i : S_.Idx) :
    (broadcastInDim S_ ![] h (constant (F := Ideal) S_ .f32 0x00000000#32) i : EReal) = 0 := by
  pointwise

theorem token_at (X : FVec Ideal Tokens .f32) (b : Fin 4) (s : Fin 2048) (g : Fin 4) (x : Fin 256) (k : Fin 4096) (hk : k.val = 256 * g.val + x.val) :
    (X (ix3 b s k) : EReal) = col X b (chan g x) s.val := by
  unfold col
  rw [dif_pos s.isLt]
  exact congrArg (fun k => X (ix3 b s k)) (Fin.ext hk)

theorem div_at (X : FVec Ideal Tokens .f32) (g : Fin 4) (w : ℕ) (b : Fin 4) (s : ℕ) (x : Fin 256) (l : Fin 1024) (hw : 2 ^ (g.val + 1) = w) (A D : EReal)
    (hA : A = tail (col X b l) w s) (hD : D = count w s) (hl : l.val = 256 * g.val + x.val) :
    Ideal.div A D = Ideal.div (tail (col X b (chan g x)) (span g) s) (count (span g) s) := by
  obtain rfl : l = chan g x := Fin.ext hl
  rw [hA, hD, ← hw]
  rfl

set_option maxHeartbeats 2000000 in
/-- The reference's run: its result. -/
theorem reference_outcome (m : (ℓ : Loc nD τ sig) → Buf (Elt Ideal) ℓ) (ρ : Dev nD → PrngReg)
    (hfin : ∀ c : Dev nD, Finite (m ((c.tc : Thread nD τ).loc main_arg0))) :
    θ_run defs (onTc (τ := τ) (main (F := Ideal))) ⟨m, fun _ => 0, ρ⟩ (fun r => ∀ c : Dev nD,
      r.2.mem ((c.tc : Thread nD τ).loc main_v72) = pools (m ((c.tc : Thread nD τ).loc main_arg0)) (m ((c.tc : Thread nD τ).loc main_arg2)) (m ((c.tc : Thread nD τ).loc main_arg3))) := by
  refine θ_run_mono (StableHlo.run_hlo _ _ (by hlo_seq) (by decide) (by decide) (by simp)
      (by intro _ h; (repeat (cases h with | head => rfl | tail _ h => ?_)); exact nomatch h) _ _) fun r hr c => ?_
  rw [hr c main_v72]
  clear hr
  show _ = pools (StableHlo.launchContents m c (Proc.tc.devRef main_arg0)) (StableHlo.launchContents m c (Proc.tc.devRef main_arg2)) (StableHlo.launchContents m c (Proc.tc.devRef main_arg3))
  have hX : Finite (StableHlo.launchContents m c (Proc.tc.devRef main_arg0)) := hfin c
  clear hfin
  generalize StableHlo.launchContents m c = L at hX ⊢
  funext i
  obtain ⟨b, s, l, rfl⟩ : ∃ b s l, i = ix3 b s l := ⟨i 0, i 1, i 2, by funext a; match a with | ⟨0, _⟩ => rfl | ⟨1, _⟩ => rfl | ⟨2, _⟩ => rfl⟩
  obtain ⟨g, hg⟩ : ∃ g : Fin 4, l.val / 256 = g.val := ⟨⟨l.val / 256, by omega⟩, rfl⟩
  obtain ⟨j, hj⟩ : ∃ j : Fin 256, l.val % 256 = j.val := ⟨⟨l.val % 256, by omega⟩, rfl⟩
  have hl : l.val = 256 * g.val + j.val := by omega
  refine Eq.trans ?_ (pools_at _ _ _ (ix3 b s l) b s.val g j rfl rfl hl).symm
  after_reads_at
  after_reads_at
  refine mixed_of _ _ _ _ g b s.val j _ _ (fun x => ?_) ?_
  rotate_left
  · exact congrArg (fun l => L (Proc.tc.devRef main_arg3) (ix2 1 l)) (Fin.ext hl)
  refine congrArg₂ (fun p q : EReal => p * q) ?_ (congrArg₂ (fun p q : EReal => p - q) ?_ ?_)
  · exact congrArg₂ (fun g j => L (Proc.tc.devRef main_arg2) (ix4 1 g x j)) (Fin.ext hg) (Fin.ext hj)
  · refine Or.elim (by omega : g.val = 0 ∨ g.val = 1 ∨ g.val = 2 ∨ g.val = 3) (fun hc => ?_) (fun hr => Or.elim hr (fun hc => ?_) (fun hr => Or.elim hr (fun hc => ?_) (fun hc => ?_)))
    · refine Eq.trans (dif_pos (by show l.val / 256 < 1; omega)) ?_
      refine div_at _ g 2 b s.val x _ (by rw [hc]; rfl) _ _ (windows hX _ _ 2 _ _ (init_zero _) b s _ (first_columns _ _ b _)) rfl ?_
      show x.val = 256 * g.val + x.val
      omega
    · refine Eq.trans (dif_neg (by show ¬l.val / 256 < 1; omega)) ?_
      refine Eq.trans (dif_pos (by show l.val / 256 - 1 < 1; omega)) ?_
      refine div_at _ g 4 b s.val x _ (by rw [hc]; rfl) _ _ (windows hX _ _ 4 _ _ (init_zero _) b s _ (first_columns _ _ b _)) rfl ?_
      show 256 + x.val = 256 * g.val + x.val
      omega
    · refine Eq.trans (dif_neg (by show ¬l.val / 256 < 1; omega)) ?_
      refine Eq.trans (dif_neg (by show ¬l.val / 256 - 1 < 1; omega)) ?_
      refine Eq.trans (dif_pos (by show l.val / 256 - 1 - 1 < 1; omega)) ?_
      refine div_at _ g 8 b s.val x _ (by rw [hc]; rfl) _ _ (windows hX _ _ 8 _ _ (init_zero _) b s _ (first_columns _ _ b _)) rfl ?_
      show 512 + x.val = 256 * g.val + x.val
      omega
    · refine Eq.trans (dif_neg (by show ¬l.val / 256 < 1; omega)) ?_
      refine Eq.trans (dif_neg (by show ¬l.val / 256 - 1 < 1; omega)) ?_
      refine Eq.trans (dif_neg (by show ¬l.val / 256 - 1 - 1 < 1; omega)) ?_
      refine div_at _ g 16 b s.val x _ (by rw [hc]; rfl) _ _ (windows hX _ _ 16 _ _ (init_zero _) b s _ (first_columns _ _ b _)) rfl ?_
      show 768 + x.val = 256 * g.val + x.val
      omega
  · exact token_at _ b s g x _ (by show l.val / 256 * 256 + x.val = _; omega)

theorem frame_reference : Cert.quiescent_Reference7Ideal := by
  intro m g hpre
  refine (θ_run Cert.Reference7Ideal.defs _ _).mono (fun r h => ⟨h, sem_eq_zero_of_no_sems (by decide) r.2⟩) ?_
  refine θ_run_mono (StableHlo.run_hlo _ _ (by hlo_seq) (by decide) (by decide) (by simp)
      (by intro _ h; (repeat (cases h with | head => rfl | tail _ h => ?_)); exact nomatch h) _ _) fun r hr c => ?_
  refine ⟨?_, ?_, ?_, ?_⟩
  · exact (hr c main_arg0).trans (by after_reads_simp)
  · exact (hr c main_arg1).trans (by after_reads_simp)
  · exact (hr c main_arg2).trans (by after_reads_simp)
  · exact (hr c main_arg3).trans (by after_reads_simp)

end Cert.Reference7Ideal.Pool

end
-- ==== Proof.PoolClaim.lean ====
module

public import proofs.«01_k».proof.Proof.Pool
public import proofs.«01_k».proof.Proof.PoolReference
public import proofs.«01_k».proof.Defs
public import Idealize.ShloMosaic.Lib.Claim
import Idealize.ShloMosaic.Lib.Pointwise

@[expose] public section

set_option maxRecDepth 16384

noncomputable section

namespace Cert.Kernel7Ideal.Pool

open Idealize.ShloMosaic Idealize.ShloMosaic.TcCoe Idealize.ShloMosaic.Tactic Idealize.SL.Sem
open Cert.Kernel7Ideal Cert.Kernel7Ideal.Gen
open Cert.Pool

/-- The kernel's run over the extended reals: the pooled result. -/
theorem kernel_outcome (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v71_1) = pools (m ((c.tc : Thread nD τ).loc main_arg0)) (m ((c.tc : Thread nD τ).loc main_arg2)) (m ((c.tc : Thread nD τ).loc main_arg3))) :=
  (θ_run defs _ _).mono (fun _ h c => ((h c).1 14).trans (final_pools m c)) (run_main m ρ)

/-- The precondition, read: every token the pooling takes is a real number. -/
theorem finite_of_pre [Cert.Pre_finite_tokens.Facts] (x : FVec Ideal Tokens .f32) (h1 h2 h3)
    (h : Cert.Pre_finite_tokens.fn (F := Ideal) x h1 h2 h3 = fun _ => 1#1) : Finite x := by
  intro b s l
  have hi := congrFun h (ix3 b s l)
  simp only [Cert.Pre_finite_tokens.fn] at hi
  have e : extractStridedSlice Cert.Pre_finite_tokens.S4x2048x1024 ![0, 0, 0] x Cert.Pre_finite_tokens.Facts.slices_S4x2048x4096_S4x2048x1024_0_0_0 (ix3 b s l)
      = x (ix3 b s ⟨l.val, by omega⟩) := by pointwise
  have hi' : Ideal.cmp .olt (max (x (ix3 b s ⟨l.val, by omega⟩) : EReal) (-(x (ix3 b s ⟨l.val, by omega⟩) : EReal))) (Ideal.ofBits .f32 0x7F800000#32) = 1#1 := by
    rw [← e]
    exact hi
  have hlt : max (x (ix3 b s ⟨l.val, by omega⟩) : EReal) (-(x (ix3 b s ⟨l.val, by omega⟩) : EReal)) < Ideal.ofBits .f32 0x7F800000#32 := by
    by_contra hn
    have h0 : BitVec.ofBool (decide (max (x (ix3 b s ⟨l.val, by omega⟩) : EReal) (-(x (ix3 b s ⟨l.val, by omega⟩) : EReal)) < Ideal.ofBits .f32 0x7F800000#32)) = 1#1 := hi'
    rw [decide_eq_false hn] at h0
    exact absurd h0 (by decide)
  have htop : (Ideal.ofBits .f32 0x7F800000#32 : EReal) = ⊤ := by
    simp [Ideal.ofBits, Ideal.ieee]
  rw [htop, max_lt_iff] at hlt
  refine ⟨EReal.toReal (x (ix3 b s ⟨l.val, by omega⟩)), (EReal.coe_toReal hlt.1.ne ?_).symm⟩
  intro hb
  rw [hb] at hlt
  exact absurd hlt.2 (by simp)

theorem algebraic [Cert.Pre_finite_tokens.Facts] : Cert.algebraic_Kernel7Ideal_Reference7Ideal_pre_finite_tokens := by
  pair_intro
  · run_from kernel_outcome m g & Gen.frame m g
  · run_from Cert.Reference7Ideal.Pool.reference_outcome m' g' (fun c => by rw [(hagree c).1]; exact finite_of_pre _ _ _ _ (hpre c)) & Cert.Reference7Ideal.Pool.frame_reference m' g' trivial

end Cert.Kernel7Ideal.Pool

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import Idealize.ShloMosaic.Adequacy
public import Idealize.ShloMosaic.Init
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Pre_finite_tokens
public import proofs.«01_k».proof.Proof.InProj
public import proofs.«01_k».proof.Proof.FfnClaim
public import proofs.«01_k».proof.Proof.LastFfnClaim
public import proofs.«01_k».proof.Proof.MergeClaim
public import proofs.«01_k».proof.Proof.LastMergeClaim
public import proofs.«01_k».proof.Proof.ForgetClaim
public import proofs.«01_k».proof.Proof.PoolClaim

@[expose] public section

noncomputable section

namespace Cert.Proof

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_finite_tokens.Gen.facts,
  Cert.Kernel.InProj.frame_kernel, Cert.Kernel.InProj.frame_ideal, Cert.Kernel.InProj.frame_reference,
  fun m ρ _ => Cert.Kernel2.Gen.frame m ρ, fun m ρ _ => Cert.Kernel2Ideal.Gen.frame m ρ, Cert.Reference2Ideal.Ffn.frame_reference,
  fun m ρ _ => Cert.Kernel3.Gen.frame m ρ, fun m ρ _ => Cert.Kernel3Ideal.Gen.frame m ρ, Cert.Reference3Ideal.Ffn.frame_reference,
  fun m ρ _ => Cert.Kernel4.Gen.frame m ρ, fun m ρ _ => Cert.Kernel4Ideal.Gen.frame m ρ, Cert.Reference4Ideal.Merge.frame_reference,
  fun m ρ _ => Cert.Kernel5.Gen.frame m ρ, fun m ρ _ => Cert.Kernel5Ideal.Gen.frame m ρ, Cert.Reference5Ideal.Merge.frame_reference,
  fun m ρ _ => Cert.Kernel6.Gen.frame m ρ, fun m ρ _ => Cert.Kernel6Ideal.Gen.frame m ρ, Cert.Reference6Ideal.Forget.frame_reference,
  fun m ρ _ => Cert.Kernel7.Gen.frame m ρ, fun m ρ _ => Cert.Kernel7Ideal.Gen.frame m ρ, fun m ρ _ => Cert.Kernel7Ideal.Gen.frame m ρ,
  Cert.Reference7Ideal.Pool.frame_reference, fun m g _ => Cert.Reference7Ideal.Pool.frame_reference m g trivial,
  trivial, Cert.Kernel.InProj.algebraic, trivial, Cert.Kernel2Ideal.Ffn.algebraic, trivial, Cert.Kernel3Ideal.Ffn.algebraic,
  trivial, Cert.Kernel4Ideal.Merge.algebraic, trivial, Cert.Kernel5Ideal.Merge.algebraic, trivial, Cert.Kernel6Ideal.Forget.algebraic, trivial, Cert.Kernel7Ideal.Pool.algebraic⟩

end Cert.Proof

end
